-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)) (v3 : (c : Dev Cert.Kernel6Ideal.nD) → Buf (Elt Ideal) ((c.tc : Thread Cert.Kernel6Ideal.nD Cert.Kernel6Ideal.τ).loc Cert.Kernel6Ideal.main_v7_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_v7_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v21) = v2 c
          ∧ r.2.mem ((c.tc : Thread Cert.Reference6Ideal.nD Cert.Reference6Ideal.τ).loc Cert.Reference6Ideal.main_v22) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v32_1)) (v1 : (c : Dev Cert.Kernel7Ideal.nD) → Buf (Elt Ideal) ((c.tc : Thread Cert.Kernel7Ideal.nD Cert.Kernel7Ideal.τ).loc Cert.Kernel7Ideal.main_v32_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v32_1) = v0 c
          ∧ r.2.mem ((c.tc : Thread Cert.Kernel7Ideal.nD Cert.Kernel7Ideal.τ).loc Cert.Kernel7Ideal.main_v32_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S1152x512 : Shape := ⟨2, ![1152, 512]⟩
abbrev S1152x128 : Shape := ⟨2, ![1152, 128]⟩
abbrev S1x128x128x2x64 : Shape := ⟨5, ![1, 128, 128, 2, 64]⟩
abbrev S1x8 : Shape := ⟨2, ![1, 8]⟩
abbrev S_ : Shape := ⟨0, ![]⟩

class Facts : Prop where
  bcast_S_S1152x512 : S_.BroadcastsInDim S1152x512 (![] : Fin 0 → Fin S1152x512.rank)
  reducesTo_S1152x512_S_d0_1 : S1152x512.ReducesTo [0, 1] S_
  h_S_ : 0 < S_.numel
  bcast_S_S1152x128 : S_.BroadcastsInDim S1152x128 (![] : Fin 0 → Fin S1152x128.rank)
  reducesTo_S1152x128_S_d0_1 : S1152x128.ReducesTo [0, 1] S_
  bcast_S_S1x128x128x2x64 : S_.BroadcastsInDim S1x128x128x2x64 (![] : Fin 0 → Fin S1x128x128x2x64.rank)
  reducesTo_S1x128x128x2x64_S_d0_1_2_3_4 : S1x128x128x2x64.ReducesTo [0, 1, 2, 3, 4] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  main_v18

def fn {F : FTy → Type} [FloatOps F] (main_arg0 : FVec F S1152x512 .f32) (main_arg1 : FVec F S1152x128 .f32) (main_arg2 : FVec F S1152x128 .f32) (main_arg3 : FVec F S1x128x128x2x64 .f32) (main_arg4 : FVec F S1x128x128x2x64 .f32) (main_arg5 : FVec F S1x8 .f32) : IVec S_ 1 :=
  let main_v0 : FVec F S1152x512 .f32 := Host.absf main_arg0
  let main_cst : FVec F S_ .f32 := constant S_ .f32 0x7F800000#32
  let main_v1 : FVec F S1152x512 .f32 := broadcastInDim S1152x512 ![] bcast_S_S1152x512 main_cst
  let main_v2 : IVec S1152x512 1 := cmpf .olt main_v0 main_v1
  let main_c : IVec S_ 1 := constantI S_ 1 1#1
  let main_v3 : IVec S_ 1 := (fun x v => Host.reduce IntOp.andi x v reducesTo_S1152x512_S_d0_1 h_S_) main_v2 main_c
  let main_v4 : FVec F S1152x128 .f32 := Host.absf main_arg1
  let main_cst_0 : FVec F S_ .f32 := constant S_ .f32 0x7F800000#32
  let main_v5 : FVec F S1152x128 .f32 := broadcastInDim S1152x128 ![] bcast_S_S1152x128 main_cst_0
  let main_v6 : IVec S1152x128 1 := cmpf .olt main_v4 main_v5
  let main_c_1 : IVec S_ 1 := constantI S_ 1 1#1
  let main_v7 : IVec S_ 1 := (fun x v => Host.reduce IntOp.andi x v reducesTo_S1152x128_S_d0_1 h_S_) main_v6 main_c_1
  let main_v8 : IVec S_ 1 := andi main_v3 main_v7
  let main_v9 : FVec F S1x128x128x2x64 .f32 := Host.absf main_arg3
  let main_cst_2 : FVec F S_ .f32 := constant S_ .f32 0x7F800000#32
  let main_v10 : FVec F S1x128x128x2x64 .f32 := broadcastInDim S1x128x128x2x64 ![] bcast_S_S1x128x128x2x64 main_cst_2
  let main_v11 : IVec S1x128x128x2x64 1 := cmpf .olt main_v9 main_v10
  let main_c_3 : IVec S_ 1 := constantI S_ 1 1#1
  let main_v12 : IVec S_ 1 := (fun x v => Host.reduce IntOp.andi x v reducesTo_S1x128x128x2x64_S_d0_1_2_3_4 h_S_) main_v11 main_c_3
  let main_v13 : IVec S_ 1 := andi main_v8 main_v12
  let main_v14 : FVec F S1x8 .f32 := Host.absf main_arg5
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_v13 main_v16
-- ==== Pre_finite2.lean ====
abbrev S2x8192x8x64 : Shape := ⟨4, ![2, 8192, 8, 64]⟩
abbrev S2x8192x512 : Shape := ⟨3, ![2, 8192, 512]⟩
abbrev S2x8192x1024 : Shape := ⟨3, ![2, 8192, 1024]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel

variable [Facts]

def fn {F : FTy → Type} [FloatOps F] (main_arg0 : FVec F S2x8192x8x64 .f32) (main_arg1 : FVec F S2x8192x512 .f32) (main_arg2 : FVec F S2x8192x512 .f32) (main_arg3 : FVec F S2x8192x512 .bf16) (main_arg4 : FVec F S2x8192x1024 .f32) (main_arg5 : FVec F S1x512 .f32) (main_arg6 : FVec F S1x512 .f32) (main_arg7 : FVec F S1x1024x1024 .f32) (main_arg8 : FVec F S1x1024 .f32) (main_arg9 : FVec F S1x1024x2816 .f32) (main_arg10 : FVec F S1x1024x2816 .f32) (main_arg11 : FVec F S1x2816x1024 .f32) (main_arg12 : FVec F S1024 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  main_v3
-- ==== Pre_finite5.lean ====
abbrev S128x8x8x64 : Shape := ⟨4, ![128, 8, 8, 64]⟩
abbrev S128x8x512 : Shape := ⟨3, ![128, 8, 512]⟩
abbrev S128x8x1024 : Shape := ⟨3, ![128, 8, 1024]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S128x8x8x64 : S_.BroadcastsInDim S128x8x8x64 (![] : Fin 0 → Fin S128x8x8x64.rank)
  reducesTo_S128x8x8x64_S_d0_1_2_3 : S128x8x8x64.ReducesTo [0, 1, 2, 3] S_
  h_S_ : 0 < S_.numel

variable [Facts]

def fn {F : FTy → Type} [FloatOps F] (main_arg0 : FVec F S128x8x8x64 .f32) (main_arg1 : FVec F S128x8x512 .f32) (main_arg2 : FVec F S128x8x512 .f32) (main_arg3 : FVec F S128x8x512 .f32) (main_arg4 : FVec F S128x8x1024 .f32) (main_arg5 : FVec F S1x512 .f32) (main_arg6 : FVec F S1x512 .f32) (main_arg7 : FVec F S1x1024x1024 .f32) (main_arg8 : FVec F S1x1024 .f32) (main_arg9 : FVec F S1x1024x2816 .f32) (main_arg10 : FVec F S1x1024x2816 .f32) (main_arg11 : FVec F S1x2816x1024 .f32) (main_arg12 : FVec F S1024 .f32) : IVec S_ 1 :=
  let main_v0 : FVec F S128x8x8x64 .f32 := Host.absf main_arg0
  let main_cst : FVec F S_ .f32 := constant S_ .f32 0x7F800000#32
  let main_v1 : FVec F S128x8x8x64 .f32 := broadcastInDim S128x8x8x64 ![] bcast_S_S128x8x8x64 main_cst
  let main_v2 : IVec S128x8x8x64 1 := cmpf .olt main_v0 main_v1
  let main_c : IVec S_ 1 := constantI S_ 1 1#1
  let main_v3 : IVec S_ 1 := (fun x v => Host.reduce IntOp.andi x v reducesTo_S128x8x8x64_S_d0_1_2_3 h_S_) main_v2 main_c
  main_v3
-- ==== Kernel.lean ====
abbrev S1152x512 : Shape := ⟨2, ![1152, 512]⟩
abbrev S1152x128 : Shape := ⟨2, ![1152, 128]⟩
abbrev S1x128x128x2x64 : Shape := ⟨5, ![1, 128, 128, 2, 64]⟩
abbrev S1x8 : Shape := ⟨2, ![1, 8]⟩
abbrev S128x128x2x64 : Shape := ⟨4, ![128, 128, 2, 64]⟩
abbrev S128x2x64x128 : Shape := ⟨4, ![128, 2, 64, 128]⟩
abbrev S8 : Shape := ⟨1, ![8]⟩
abbrev S1024x512 : Shape := ⟨2, ![1024, 512]⟩
abbrev S128x512 : Shape := ⟨2, ![128, 512]⟩
abbrev S128x128 : Shape := ⟨2, ![128, 128]⟩
abbrev S16x2x64x128 : Shape := ⟨4, ![16, 2, 64, 128]⟩
abbrev S1x128 : Shape := ⟨2, ![1, 128]⟩
abbrev S16x1 : Shape := ⟨2, ![16, 1]⟩
abbrev S16x128 : Shape := ⟨2, ![16, 128]⟩
abbrev S120x128 : Shape := ⟨2, ![120, 128]⟩
abbrev S64x128 : Shape := ⟨2, ![64, 128]⟩
abbrev S1x2x64x128 : Shape := ⟨4, ![1, 2, 64, 128]⟩
abbrev S2x64x128 : Shape := ⟨3, ![2, 64, 128]⟩
abbrev S8x128 : Shape := ⟨2, ![8, 128]⟩
abbrev S1 : Shape := ⟨1, ![1]⟩
abbrev S16 : Shape := ⟨1, ![16]⟩

abbrev nBuf : Space → Nat
  | .hbm => 14
  | .vmem => 16
  | .smem => 1
  | _ => 0

abbrev bufTy : (tb : Table) → Fin (tcTables nBuf tb) → BufTy
  | .hbm, ⟨0, _⟩ => ⟨S1152x512, .f32⟩
  | .hbm, ⟨1, _⟩ => ⟨S1152x128, .f32⟩
  | .hbm, ⟨2, _⟩ => ⟨S1152x128, .f32⟩
  | .hbm, ⟨3, _⟩ => ⟨S1x128x128x2x64, .f32⟩
  | .hbm, ⟨4, _⟩ => ⟨S1x128x128x2x64, .f32⟩
  | .hbm, ⟨5, _⟩ => ⟨S1x8, .f32⟩
  | .hbm, ⟨6, _⟩ => ⟨S128x128x2x64, .f32⟩
  | .hbm, ⟨7, _⟩ => ⟨S128x2x64x128, .f32⟩
  | .hbm, ⟨8, _⟩ => ⟨S128x128x2x64, .f32⟩
  | .hbm, ⟨9, _⟩ => ⟨S128x2x64x128, .f32⟩
  | .hbm, ⟨10, _⟩ => ⟨S8, .f32⟩
  | .hbm, ⟨11, _⟩ => ⟨S1024x512, .f32⟩
  | .hbm, ⟨12, _⟩ => ⟨S128x2x64x128, .f32⟩
  | .hbm, ⟨13, _⟩ => ⟨S128x2x64x128, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S16x2x64x128, .f32⟩
  | .local _ .vmem, ⟨7, _⟩ => ⟨S16x2x64x128, .f32⟩
  | .local _ .vmem, ⟨8, _⟩ => ⟨S16x2x64x128, .f32⟩
  | .local _ .vmem, ⟨9, _⟩ => ⟨S16x2x64x128, .f32⟩
  | .local _ .vmem, ⟨10, _⟩ => ⟨S128x512, .f32⟩
  | .local _ .vmem, ⟨11, _⟩ => ⟨S128x512, .f32⟩
  | .local _ .vmem, ⟨12, _⟩ => ⟨S16x2x64x128, .f32⟩
  | .local _ .vmem, ⟨13, _⟩ => ⟨S16x2x64x128, .f32⟩
  | .local _ .vmem, ⟨14, _⟩ => ⟨S16x2x64x128, .f32⟩
  | .local _ .vmem, ⟨15, _⟩ => ⟨S16x2x64x128, .f32⟩
  | .local _ .smem, ⟨0, _⟩ => ⟨S8, .f32⟩
  | _, _ => ⟨S1152x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== Reference.lean ====
abbrev S1152x512 : Shape := ⟨2, ![1152, 512]⟩
abbrev S1152x128 : Shape := ⟨2, ![1152, 128]⟩
abbrev S1x128x128x2x64 : Shape := ⟨5, ![1, 128, 128, 2, 64]⟩
abbrev S1x8 : Shape := ⟨2, ![1, 8]⟩
abbrev S1024x512 : Shape := ⟨2, ![1024, 512]⟩
abbrev S128x8x2x4x64 : Shape := ⟨5, ![128, 8, 2, 4, 64]⟩
abbrev S1024x128 : Shape := ⟨2, ![1024, 128]⟩
abbrev S128x8x2x64 : Shape := ⟨4, ![128, 8, 2, 64]⟩
abbrev S128x128x2x64 : Shape := ⟨4, ![128, 128, 2, 64]⟩
abbrev S128x136x2x64 : Shape := ⟨4, ![128, 136, 2, 64]⟩
abbrev S8 : Shape := ⟨1, ![8]⟩
abbrev S8x1 : Shape := ⟨2, ![8, 1]⟩
abbrev S_ : Shape := ⟨0, ![]⟩
abbrev S136 : Shape := ⟨1, ![136]⟩
abbrev S1x136 : Shape := ⟨2, ![1, 136]⟩
abbrev S8x136 : Shape := ⟨2, ![8, 136]⟩
abbrev S128x2x136x8x4 : Shape := ⟨5, ![128, 2, 136, 8, 4]⟩
abbrev S128x2x4x8x136 : Shape := ⟨5, ![128, 2, 4, 8, 136]⟩
abbrev S2x4x1x1 : Shape := ⟨4, ![2, 4, 1, 1]⟩
abbrev S128x2x4x8x1 : Shape := ⟨5, ![128, 2, 4, 8, 1]⟩
abbrev S128x2x4x8x137 : Shape := ⟨5, ![128, 2, 4, 8, 137]⟩
abbrev S128x2x4x8 : Shape := ⟨4, ![128, 2, 4, 8]⟩
abbrev S128x2x64x4x8 : Shape := ⟨5, ![128, 2, 64, 4, 8]⟩
abbrev S128x2x64x128 : Shape := ⟨4, ![128, 2, 64, 128]⟩

abbrev nBuf : Space → Nat
  | .hbm => 69
  | .vmem => 0
  | .smem => 0
  | _ => 0

abbrev bufTy : (tb : Table) → Fin (tcTables nBuf tb) → BufTy
  | .hbm, ⟨0, _⟩ => ⟨S1152x512, .f32⟩
  | .hbm, ⟨1, _⟩ => ⟨S1152x128, .f32⟩
  | .hbm, ⟨2, _⟩ => ⟨S1152x128, .f32⟩
  | .hbm, ⟨3, _⟩ => ⟨S1x128x128x2x64, .f32⟩
  | .hbm, ⟨4, _⟩ => ⟨S1x128x128x2x64, .f32⟩
  | .hbm, ⟨5, _⟩ => ⟨S1x8, .f32⟩
  | .hbm, ⟨6, _⟩ => ⟨S1024x512, .f32⟩
  | .hbm, ⟨7, _⟩ => ⟨S128x8x2x4x64, .f32⟩
  | .hbm, ⟨8, _⟩ => ⟨S1024x128, .f32⟩
  | .hbm, ⟨9, _⟩ => ⟨S128x8x2x64, .f32⟩
  | .hbm, ⟨10, _⟩ => ⟨S1024x128, .f32⟩
  | .hbm, ⟨11, _⟩ => ⟨S128x8x2x64, .f32⟩
  | .hbm, ⟨12, _⟩ => ⟨S128x128x2x64, .f32⟩
  | .hbm, ⟨13, _⟩ => ⟨S128x128x2x64, .f32⟩
  | .hbm, ⟨14, _⟩ => ⟨S128x136x2x64, .f32⟩
  | .hbm, ⟨15, _⟩ => ⟨S128x136x2x64, .f32⟩
  | .hbm, ⟨16, _⟩ => ⟨S8, .i32⟩
  | .hbm, ⟨17, _⟩ => ⟨S8x1, .i32⟩
  | .hbm, ⟨18, _⟩ => ⟨S_, .i32⟩
  | .hbm, ⟨19, _⟩ => ⟨S8x1, .i32⟩
  | .hbm, ⟨20, _⟩ => ⟨S8x1, .i32⟩
  | .hbm, ⟨21, _⟩ => ⟨S136, .i32⟩
  | .hbm, ⟨22, _⟩ => ⟨S1x136, .i32⟩
  | .hbm, ⟨23, _⟩ => ⟨S8x136, .i32⟩
  | .hbm, ⟨24, _⟩ => ⟨S8x136, .i32⟩
  | .hbm, ⟨25, _⟩ => ⟨S8x136, .i1⟩
  | .hbm, ⟨26, _⟩ => ⟨S8x136, .i32⟩
  | .hbm, ⟨27, _⟩ => ⟨S8x136, .i32⟩
  | .hbm, ⟨28, _⟩ => ⟨S8x136, .i32⟩
  | .hbm, ⟨29, _⟩ => ⟨S_, .i32⟩
  | .hbm, ⟨30, _⟩ => ⟨S8x136, .i32⟩
  | .hbm, ⟨31, _⟩ => ⟨S8x136, .i1⟩
  | .hbm, ⟨32, _⟩ => ⟨S8x136, .i1⟩
  | .hbm, ⟨33, _⟩ => ⟨S8, .f32⟩
  | .hbm, ⟨34, _⟩ => ⟨S128x2x136x8x4, .f32⟩
  | .hbm, ⟨35, _⟩ => ⟨S128x2x4x8x136, .f32⟩
  | .hbm, ⟨36, _⟩ => ⟨S_, .f32⟩
  | .hbm, ⟨37, _⟩ => ⟨S128x2x4x8x136, .f32⟩
  | .hbm, ⟨38, _⟩ => ⟨S128x2x4x8x136, .f32⟩
  | .hbm, ⟨39, _⟩ => ⟨S_, .f32⟩
  | .hbm, ⟨40, _⟩ => ⟨S_, .f32⟩
  | .hbm, ⟨41, _⟩ => ⟨S128x2x4x8x136, .i1⟩
  | .hbm, ⟨42, _⟩ => ⟨S128x2x4x8x136, .f32⟩
  | .hbm, ⟨43, _⟩ => ⟨S128x2x4x8x136, .f32⟩
  | .hbm, ⟨44, _⟩ => ⟨S2x4x1x1, .f32⟩
  | .hbm, ⟨45, _⟩ => ⟨S128x2x4x8x1, .f32⟩
  | .hbm, ⟨46, _⟩ => ⟨S128x2x4x8x137, .f32⟩
  | .hbm, ⟨47, _⟩ => ⟨S_, .f32⟩
  | .hbm, ⟨48, _⟩ => ⟨S128x2x4x8, .f32⟩
  | .hbm, ⟨49, _⟩ => ⟨S_, .f32⟩
  | .hbm, ⟨50, _⟩ => ⟨S128x2x4x8, .f32⟩
  | .hbm, ⟨51, _⟩ => ⟨S128x2x4x8, .f32⟩
  | .hbm, ⟨52, _⟩ => ⟨S128x2x4x8x1, .f32⟩
  | .hbm, ⟨53, _⟩ => ⟨S128x2x4x8x137, .f32⟩
  | .hbm, ⟨54, _⟩ => ⟨S128x2x4x8x137, .f32⟩
  | .hbm, ⟨55, _⟩ => ⟨S128x2x4x8x137, .f32⟩
  | .hbm, ⟨56, _⟩ => ⟨S_, .f32⟩
  | .hbm, ⟨57, _⟩ => ⟨S128x2x4x8, .f32⟩
  | .hbm, ⟨58, _⟩ => ⟨S128x2x4x8x1, .f32⟩
  | .hbm, ⟨59, _⟩ => ⟨S128x2x4x8x137, .f32⟩
  | .hbm, ⟨60, _⟩ => ⟨S128x2x4x8x137, .f32⟩
  | .hbm, ⟨61, _⟩ => ⟨S128x2x4x8x136, .f32⟩
  | .hbm, ⟨62, _⟩ => ⟨S128x2x64x4x8, .f32⟩
  | .hbm, ⟨63, _⟩ => ⟨S128x8x2x4x64, .f32⟩
  | .hbm, ⟨64, _⟩ => ⟨S1024x512, .f32⟩
  | .hbm, ⟨65, _⟩ => ⟨S128x128x2x64, .f32⟩
  | .hbm, ⟨66, _⟩ => ⟨S128x2x64x128, .f32⟩
  | .hbm, ⟨67, _⟩ => ⟨S128x128x2x64, .f32⟩
  | .hbm, ⟨68, _⟩ => ⟨S128x2x64x128, .f32⟩
  | _, _ => ⟨S1152x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel2.lean ====
abbrev S2x8192x8x64 : Shape := ⟨4, ![2, 8192, 8, 64]⟩
abbrev S2x8192x512 : Shape := ⟨3, ![2, 8192, 512]⟩
abbrev S2x8192x1024 : Shape := ⟨3, ![2, 8192, 1024]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S128 : Shape := ⟨1, ![128]⟩
abbrev S_ : Shape := ⟨0, ![]⟩
abbrev S512 : Shape := ⟨1, ![512]⟩
abbrev S1024x1024 : Shape := ⟨2, ![1024, 1024]⟩
abbrev S1024x2816 : Shape := ⟨2, ![1024, 2816]⟩
abbrev S2816x1024 : Shape := ⟨2, ![2816, 1024]⟩
abbrev S128x1 : Shape := ⟨2, ![128, 1]⟩
abbrev S1x128 : Shape := ⟨2, ![1, 128]⟩
abbrev S128x128 : Shape := ⟨2, ![128, 128]⟩
abbrev S16384x1024 : Shape := ⟨2, ![16384, 1024]⟩
abbrev S16384x512 : Shape := ⟨2, ![16384, 512]⟩
abbrev S512x512 : Shape := ⟨2, ![512, 512]⟩
abbrev S512x1024 : Shape := ⟨2, ![512, 1024]⟩
abbrev S256x512 : Shape := ⟨2, ![256, 512]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 59
  | .vmem => 19
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x512, .f32⟩
  | .hbm, ⟨2, _⟩ => ⟨S2x8192x512, .f32⟩
  | .hbm, ⟨3, _⟩ => ⟨S2x8192x512, .bf16⟩
  | .hbm, ⟨4, _⟩ => ⟨S2x8192x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S128, .i32⟩
  | .hbm, ⟨14, _⟩ => ⟨S_, .i32⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S1024x1024, .f32⟩
  | .hbm, ⟨37, _⟩ => ⟨S1024x1024, .bf16⟩
  | .hbm, ⟨38, _⟩ => ⟨S1024, .f32⟩
  | .hbm, ⟨39, _⟩ => ⟨S1x1024, .f32⟩
  | .hbm, ⟨40, _⟩ => ⟨S1024x2816, .f32⟩
  | .hbm, ⟨41, _⟩ => ⟨S1024x2816, .bf16⟩
  | .hbm, ⟨42, _⟩ => ⟨S1024x2816, .f32⟩
  | .hbm, ⟨43, _⟩ => ⟨S1024x2816, .bf16⟩
  | .hbm, ⟨44, _⟩ => ⟨S2816x1024, .f32⟩
  | .hbm, ⟨45, _⟩ => ⟨S2816x1024, .bf16⟩
  | .hbm, ⟨46, _⟩ => ⟨S1x1024, .f32⟩
  | .hbm, ⟨47, _⟩ => ⟨S128x1, .i32⟩
  | .hbm, ⟨48, _⟩ => ⟨S1x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S128x128, .bf16⟩
  | .hbm, ⟨53, _⟩ => ⟨S2x8192x1024, .f32⟩
  | .hbm, ⟨54, _⟩ => ⟨S16384x1024, .f32⟩
  | .hbm, ⟨55, _⟩ => ⟨S16384x512, .f32⟩
  | .hbm, ⟨56, _⟩ => ⟨S16384x512, .bf16⟩
  | .hbm, ⟨57, _⟩ => ⟨S16384x1024, .f32⟩
  | .hbm, ⟨58, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1x512, .f32⟩
  | .local _ .vmem, ⟨9, _⟩ => ⟨S1x512, .f32⟩
  | .local _ .vmem, ⟨10, _⟩ => ⟨S128x128, .bf16⟩
  | .local _ .vmem, ⟨11, _⟩ => ⟨S1024x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel2Ideal.lean ====
abbrev S2x8192x8x64 : Shape := ⟨4, ![2, 8192, 8, 64]⟩
abbrev S2x8192x512 : Shape := ⟨3, ![2, 8192, 512]⟩
abbrev S2x8192x1024 : Shape := ⟨3, ![2, 8192, 1024]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S128 : Shape := ⟨1, ![128]⟩
abbrev S_ : Shape := ⟨0, ![]⟩
abbrev S512 : Shape := ⟨1, ![512]⟩
abbrev S1024x1024 : Shape := ⟨2, ![1024, 1024]⟩
abbrev S1024x2816 : Shape := ⟨2, ![1024, 2816]⟩
abbrev S2816x1024 : Shape := ⟨2, ![2816, 1024]⟩
abbrev S128x1 : Shape := ⟨2, ![128, 1]⟩
abbrev S1x128 : Shape := ⟨2, ![1, 128]⟩
abbrev S128x128 : Shape := ⟨2, ![128, 128]⟩
abbrev S16384x1024 : Shape := ⟨2, ![16384, 1024]⟩
abbrev S16384x512 : Shape := ⟨2, ![16384, 512]⟩
abbrev S512x512 : Shape := ⟨2, ![512, 512]⟩
abbrev S512x1024 : Shape := ⟨2, ![512, 1024]⟩
abbrev S256x512 : Shape := ⟨2, ![256, 512]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 59
  | .vmem => 19
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x512, .f32⟩
  | .hbm, ⟨2, _⟩ => ⟨S2x8192x512, .f32⟩
  | .hbm, ⟨3, _⟩ => ⟨S2x8192x512, .bf16⟩
  | .hbm, ⟨4, _⟩ => ⟨S2x8192x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S128, .i32⟩
  | .hbm, ⟨14, _⟩ => ⟨S_, .i32⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S1024x1024, .f32⟩
  | .hbm, ⟨37, _⟩ => ⟨S1024x1024, .bf16⟩
  | .hbm, ⟨38, _⟩ => ⟨S1024, .f32⟩
  | .hbm, ⟨39, _⟩ => ⟨S1x1024, .f32⟩
  | .hbm, ⟨40, _⟩ => ⟨S1024x2816, .f32⟩
  | .hbm, ⟨41, _⟩ => ⟨S1024x2816, .bf16⟩
  | .hbm, ⟨42, _⟩ => ⟨S1024x2816, .f32⟩
  | .hbm, ⟨43, _⟩ => ⟨S1024x2816, .bf16⟩
  | .hbm, ⟨44, _⟩ => ⟨S2816x1024, .f32⟩
  | .hbm, ⟨45, _⟩ => ⟨S2816x1024, .bf16⟩
  | .hbm, ⟨46, _⟩ => ⟨S1x1024, .f32⟩
  | .hbm, ⟨47, _⟩ => ⟨S128x1, .i32⟩
  | .hbm, ⟨48, _⟩ => ⟨S1x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S128x128, .bf16⟩
  | .hbm, ⟨53, _⟩ => ⟨S2x8192x1024, .f32⟩
  | .hbm, ⟨54, _⟩ => ⟨S16384x1024, .f32⟩
  | .hbm, ⟨55, _⟩ => ⟨S16384x512, .f32⟩
  | .hbm, ⟨56, _⟩ => ⟨S16384x512, .bf16⟩
  | .hbm, ⟨57, _⟩ => ⟨S16384x1024, .f32⟩
  | .hbm, ⟨58, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1x512, .f32⟩
  | .local _ .vmem, ⟨9, _⟩ => ⟨S1x512, .f32⟩
  | .local _ .vmem, ⟨10, _⟩ => ⟨S128x128, .bf16⟩
  | .local _ .vmem, ⟨11, _⟩ => ⟨S1024x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2x8192x8x64 : Shape := ⟨4, ![2, 8192, 8, 64]⟩
abbrev S2x8192x512 : Shape := ⟨3, ![2, 8192, 512]⟩
abbrev S2x8192x1024 : Shape := ⟨3, ![2, 8192, 1024]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x8192x8 : Shape := ⟨3, ![2, 8192, 8]⟩
abbrev S2x8192x8x1 : Shape := ⟨4, ![2, 8192, 8, 1]⟩
abbrev S512 : Shape := ⟨1, ![512]⟩
abbrev S1x1x512 : Shape := ⟨3, ![1, 1, 512]⟩
abbrev S1024x1024 : Shape := ⟨2, ![1024, 1024]⟩
abbrev S2x8192 : Shape := ⟨2, ![2, 8192]⟩
abbrev S2x8192x1 : Shape := ⟨3, ![2, 8192, 1]⟩
abbrev S1x1x1024 : Shape := ⟨3, ![1, 1, 1024]⟩
abbrev S1024x2816 : Shape := ⟨2, ![1024, 2816]⟩
abbrev S2x8192x2816 : Shape := ⟨3, ![2, 8192, 2816]⟩
abbrev S2816x1024 : Shape := ⟨2, ![2816, 1024]⟩
abbrev S16384x1024 : Shape := ⟨2, ![16384, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x512, .f32⟩
  | .hbm, ⟨2, _⟩ => ⟨S2x8192x512, .f32⟩
  | .hbm, ⟨3, _⟩ => ⟨S2x8192x512, .bf16⟩
  | .hbm, ⟨4, _⟩ => ⟨S2x8192x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S_, .f32⟩
  | .hbm, ⟨14, _⟩ => ⟨S2x8192x8, .f32⟩
  | .hbm, ⟨15, _⟩ => ⟨S2x8192x8x1, .f32⟩
  | .hbm, ⟨16, _⟩ => ⟨S_, .f32⟩
  | .hbm, ⟨17, _⟩ => ⟨S2x8192x8x1, .f32⟩
  | .hbm, ⟨18, _⟩ => ⟨S2x8192x8x1, .f32⟩
  | .hbm, ⟨19, _⟩ => ⟨S2x8192x8x64, .f32⟩
  | .hbm, ⟨20, _⟩ => ⟨S2x8192x8x64, .f32⟩
  | .hbm, ⟨21, _⟩ => ⟨S2x8192x8x64, .f32⟩
  | .hbm, ⟨22, _⟩ => ⟨S_, .f32⟩
  | .hbm, ⟨23, _⟩ => ⟨S2x8192x8, .f32⟩
  | .hbm, ⟨24, _⟩ => ⟨S2x8192x8x1, .f32⟩
  | .hbm, ⟨25, _⟩ => ⟨S_, .f32⟩
  | .hbm, ⟨26, _⟩ => ⟨S2x8192x8x1, .f32⟩
  | .hbm, ⟨27, _⟩ => ⟨S2x8192x8x1, .f32⟩
  | .hbm, ⟨28, _⟩ => ⟨S2x8192x8x64, .f32⟩
  | .hbm, ⟨29, _⟩ => ⟨S2x8192x8x64, .f32⟩
  | .hbm, ⟨30, _⟩ => ⟨S_, .f32⟩
  | .hbm, ⟨31, _⟩ => ⟨S2x8192x8x1, .f32⟩
  | .hbm, ⟨32, _⟩ => ⟨S2x8192x8x1, .f32⟩
  | .hbm, ⟨33, _⟩ => ⟨S2x8192x8x1, .f32⟩
  | .hbm, ⟨34, _⟩ => ⟨S2x8192x8x64, .f32⟩
  | .hbm, ⟨35, _⟩ => ⟨S2x8192x8x64, .f32⟩
  | .hbm, ⟨36, _⟩ => ⟨S2x8192x512, .f32⟩
  | .hbm, ⟨37, _⟩ => ⟨S512, .f32⟩
  | .hbm, ⟨38, _⟩ => ⟨S1x1x512, .f32⟩
  | .hbm, ⟨39, _⟩ => ⟨S2x8192x512, .f32⟩
  | .hbm, ⟨40, _⟩ => ⟨S2x8192x512, .f32⟩
  | .hbm, ⟨41, _⟩ => ⟨S512, .f32⟩
  | .hbm, ⟨42, _⟩ => ⟨S1x1x512, .f32⟩
  | .hbm, ⟨43, _⟩ => ⟨S2x8192x512, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S2x8192x1024, .f32⟩
  | .hbm, ⟨49, _⟩ => ⟨S1024x1024, .f32⟩
  | .hbm, ⟨50, _⟩ => ⟨S2x8192x1024, .f32⟩
  | .hbm, ⟨51, _⟩ => ⟨S2x8192x1024, .f32⟩
  | .hbm, ⟨52, _⟩ => ⟨S1024, .f32⟩
  | .hbm, ⟨53, _⟩ => ⟨S2x8192x1024, .f32⟩
  | .hbm, ⟨54, _⟩ => ⟨S_, .f32⟩
  | .hbm, ⟨55, _⟩ => ⟨S2x8192, .f32⟩
  | .hbm, ⟨56, _⟩ => ⟨S2x8192x1, .f32⟩
  | .hbm, ⟨57, _⟩ => ⟨S_, .f32⟩
  | .hbm, ⟨58, _⟩ => ⟨S2x8192x1, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S2x8192x1, .f32⟩
  | .hbm, ⟨64, _⟩ => ⟨S2x8192x1024, .f32⟩
  | .hbm, ⟨65, _⟩ => ⟨S2x8192x1024, .f32⟩
  | .hbm, ⟨66, _⟩ => ⟨S1x1x1024, .f32⟩
  | .hbm, ⟨67, _⟩ => ⟨S2x8192x1024, .f32⟩
  | .hbm, ⟨68, _⟩ => ⟨S2x8192x1024, .f32⟩
  | .hbm, ⟨69, _⟩ => ⟨S1024x2816, .f32⟩
  | .hbm, ⟨70, _⟩ => ⟨S2x8192x2816, .f32⟩
  | .hbm, ⟨71, _⟩ => ⟨S2x8192x2816, .f32⟩
  | .hbm, ⟨72, _⟩ => ⟨S2x8192x2816, .f32⟩
  | .hbm, ⟨73, _⟩ => ⟨S_, .f32⟩
  | .hbm, ⟨74, _⟩ => ⟨S2x8192x2816, .f32⟩
  | .hbm, ⟨75, _⟩ => ⟨S2x8192x2816, .f32⟩
  | .hbm, ⟨76, _⟩ => ⟨S_, .f32⟩
  | .hbm, ⟨77, _⟩ => ⟨S2x8192x2816, .f32⟩
  | .hbm, ⟨78, _⟩ => ⟨S2x8192x2816, .f32⟩
  | .hbm, ⟨79, _⟩ => ⟨S2x8192x2816, .f32⟩
  | .hbm, ⟨80, _⟩ => ⟨S1024x2816, .f32⟩
  | .hbm, ⟨81, _⟩ => ⟨S2x8192x2816, .f32⟩
  | .hbm, ⟨82, _⟩ => ⟨S2x8192x2816, .f32⟩
  | .hbm, ⟨83, _⟩ => ⟨S2816x1024, .f32⟩
  | .hbm, ⟨84, _⟩ => ⟨S2x8192x1024, .f32⟩
  | .hbm, ⟨85, _⟩ => ⟨S2x8192x1024, .f32⟩
  | .hbm, ⟨86, _⟩ => ⟨S2x8192x1024, .f32⟩
  | .hbm, ⟨87, _⟩ => ⟨S_, .f32⟩
  | .hbm, ⟨88, _⟩ => ⟨S2x8192, .f32⟩
  | .hbm, ⟨89, _⟩ => ⟨S2x8192x1, .f32⟩
  | .hbm, ⟨90, _⟩ => ⟨S_, .f32⟩
  | .hbm, ⟨91, _⟩ => ⟨S2x8192x1, .f32⟩
  | .hbm, ⟨92, _⟩ => ⟨S2x8192x1, .f32⟩
  | .hbm, ⟨93, _⟩ => ⟨S_, .f32⟩
  | .hbm, ⟨94, _⟩ => ⟨S2x8192x1, .f32⟩
  | .hbm, ⟨95, _⟩ => ⟨S2x8192x1, .f32⟩
  | .hbm, ⟨96, _⟩ => ⟨S2x8192x1, .f32⟩
  | .hbm, ⟨97, _⟩ => ⟨S2x8192x1024, .f32⟩
  | .hbm, ⟨98, _⟩ => ⟨S2x8192x1024, .f32⟩
  | .hbm, ⟨99, _⟩ => ⟨S1x1x1024, .f32⟩
  | .hbm, ⟨100, _⟩ => ⟨S2x8192x1024, .f32⟩
  | .hbm, ⟨101, _⟩ => ⟨S2x8192x1024, .f32⟩
  | .hbm, ⟨102, _⟩ => ⟨S16384x1024, .f32⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S2x1x1024 : Shape := ⟨3, ![2, 1, 1024]⟩
abbrev S2x1024 : Shape := ⟨2, ![2, 1024]⟩
abbrev S1024 : Shape := ⟨1, ![1024]⟩
abbrev S2 : Shape := ⟨1, ![2]⟩
abbrev S2x1 : Shape := ⟨2, ![2, 1]⟩

abbrev nBuf : Space → Nat
  | .hbm => 7
  | .vmem => 3
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S2x1x1024, .f32⟩
  | .hbm, ⟨3, _⟩ => ⟨S2x1024, .f32⟩
  | .hbm, ⟨4, _⟩ => ⟨S1024, .f32⟩
  | .hbm, ⟨5, _⟩ => ⟨S1x1024, .f32⟩
  | .hbm, ⟨6, _⟩ => ⟨S2x1024, .f32⟩
  | .local _ .vmem, ⟨0, _⟩ => ⟨S2x1024, .f32⟩
  | .local _ .vmem, ⟨1, _⟩ => ⟨S1x1024, .f32⟩
  | .local _ .vmem, ⟨2, _⟩ => ⟨S2x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference3Ideal.lean ====
abbrev S2x8192x1024 : Shape := ⟨3, ![2, 8192, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x1024 : Shape := ⟨2, ![2, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x1x1024, .f32⟩
  | .hbm, ⟨20, _⟩ => ⟨S2x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel4.lean ====
abbrev S128x8x1024 : Shape := ⟨3, ![128, 8, 1024]⟩
abbrev S1x1024 : Shape := ⟨2, ![1, 1024]⟩
abbrev S128x1x1024 : Shape := ⟨3, ![128, 1, 1024]⟩
abbrev S128x1024 : Shape := ⟨2, ![128, 1024]⟩
abbrev S1024 : Shape := ⟨1, ![1024]⟩
abbrev S128 : Shape := ⟨1, ![128]⟩
abbrev S128x1 : Shape := ⟨2, ![128, 1]⟩

abbrev nBuf : Space → Nat
  | .hbm => 7
  | .vmem => 3
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S128x1x1024, .f32⟩
  | .hbm, ⟨3, _⟩ => ⟨S128x1024, .f32⟩
  | .hbm, ⟨4, _⟩ => ⟨S1024, .f32⟩
  | .hbm, ⟨5, _⟩ => ⟨S1x1024, .f32⟩
  | .hbm, ⟨6, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S128x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference4Ideal.lean ====
abbrev S128x8x1024 : Shape := ⟨3, ![128, 8, 1024]⟩
abbrev S1x1024 : Shape := ⟨2, ![1, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S128x1024 : Shape := ⟨2, ![128, 1024]⟩

abbrev nBuf : Space → Nat
  | .hbm => 21
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1024, .f32⟩
  | .hbm, ⟨3, _⟩ => ⟨S128x8x1024, .f32⟩
  | .hbm, ⟨4, _⟩ => ⟨S_, .f32⟩
  | .hbm, ⟨5, _⟩ => ⟨S128x8, .f32⟩
  | .hbm, ⟨6, _⟩ => ⟨S128x8x1, .f32⟩
  | .hbm, ⟨7, _⟩ => ⟨S_, .f32⟩
  | .hbm, ⟨8, _⟩ => ⟨S128x8x1, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S128x8x1, .f32⟩
  | .hbm, ⟨14, _⟩ => ⟨S128x8x1024, .f32⟩
  | .hbm, ⟨15, _⟩ => ⟨S128x8x1024, .f32⟩
  | .hbm, ⟨16, _⟩ => ⟨S1x1x1024, .f32⟩
  | .hbm, ⟨17, _⟩ => ⟨S128x8x1024, .f32⟩
  | .hbm, ⟨18, _⟩ => ⟨S128x8x1024, .f32⟩
  | .hbm, ⟨19, _⟩ => ⟨S128x1x1024, .f32⟩
  | .hbm, ⟨20, _⟩ => ⟨S128x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel5.lean ====
abbrev S128x8x8x64 : Shape := ⟨4, ![128, 8, 8, 64]⟩
abbrev S128x8x512 : Shape := ⟨3, ![128, 8, 512]⟩
abbrev S128x8x1024 : Shape := ⟨3, ![128, 8, 1024]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S128 : Shape := ⟨1, ![128]⟩
abbrev S_ : Shape := ⟨0, ![]⟩
abbrev S512 : Shape := ⟨1, ![512]⟩
abbrev S1024x1024 : Shape := ⟨2, ![1024, 1024]⟩
abbrev S1024x2816 : Shape := ⟨2, ![1024, 2816]⟩
abbrev S2816x1024 : Shape := ⟨2, ![2816, 1024]⟩
abbrev S128x1 : Shape := ⟨2, ![128, 1]⟩
abbrev S1x128 : Shape := ⟨2, ![1, 128]⟩
abbrev S128x128 : Shape := ⟨2, ![128, 128]⟩
abbrev S1024x512 : Shape := ⟨2, ![1024, 512]⟩
abbrev S512x512 : Shape := ⟨2, ![512, 512]⟩
abbrev S512x1024 : Shape := ⟨2, ![512, 1024]⟩
abbrev S256x512 : Shape := ⟨2, ![256, 512]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 59
  | .vmem => 19
  | .smem => 0
  | _ => 0

abbrev bufTy : (tb : Table) → Fin (tcTables nBuf tb) → BufTy
  | .hbm, ⟨0, _⟩ => ⟨S128x8x8x64, .f32⟩
  | .hbm, ⟨1, _⟩ => ⟨S128x8x512, .f32⟩
  | .hbm, ⟨2, _⟩ => ⟨S128x8x512, .f32⟩
  | .hbm, ⟨3, _⟩ => ⟨S128x8x512, .f32⟩
  | .hbm, ⟨4, _⟩ => ⟨S128x8x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S128, .i32⟩
  | .hbm, ⟨14, _⟩ => ⟨S_, .i32⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S1024x1024, .f32⟩
  | .hbm, ⟨37, _⟩ => ⟨S1024x1024, .bf16⟩
  | .hbm, ⟨38, _⟩ => ⟨S1024, .f32⟩
  | .hbm, ⟨39, _⟩ => ⟨S1x1024, .f32⟩
  | .hbm, ⟨40, _⟩ => ⟨S1024x2816, .f32⟩
  | .hbm, ⟨41, _⟩ => ⟨S1024x2816, .bf16⟩
  | .hbm, ⟨42, _⟩ => ⟨S1024x2816, .f32⟩
  | .hbm, ⟨43, _⟩ => ⟨S1024x2816, .bf16⟩
  | .hbm, ⟨44, _⟩ => ⟨S2816x1024, .f32⟩
  | .hbm, ⟨45, _⟩ => ⟨S2816x1024, .bf16⟩
  | .hbm, ⟨46, _⟩ => ⟨S1x1024, .f32⟩
  | .hbm, ⟨47, _⟩ => ⟨S128x1, .i32⟩
  | .hbm, ⟨48, _⟩ => ⟨S1x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S128x128, .bf16⟩
  | .hbm, ⟨53, _⟩ => ⟨S128x8x1024, .f32⟩
  | .hbm, ⟨54, _⟩ => ⟨S1024x1024, .f32⟩
  | .hbm, ⟨55, _⟩ => ⟨S1024x512, .f32⟩
  | .hbm, ⟨56, _⟩ => ⟨S1024x512, .f32⟩
  | .hbm, ⟨57, _⟩ => ⟨S1024x1024, .f32⟩
  | .hbm, ⟨58, _⟩ => ⟨S1024x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x512, .f32⟩
  | .local _ .vmem, ⟨9, _⟩ => ⟨S1x512, .f32⟩
  | .local _ .vmem, ⟨10, _⟩ => ⟨S128x128, .bf16⟩
  | .local _ .vmem, ⟨11, _⟩ => ⟨S1024x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S128x8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S128x8x8x64 : Shape := ⟨4, ![128, 8, 8, 64]⟩
abbrev S128x8x512 : Shape := ⟨3, ![128, 8, 512]⟩
abbrev S128x8x1024 : Shape := ⟨3, ![128, 8, 1024]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S128x8x8 : Shape := ⟨3, ![128, 8, 8]⟩
abbrev S128x8x8x1 : Shape := ⟨4, ![128, 8, 8, 1]⟩
abbrev S512 : Shape := ⟨1, ![512]⟩
abbrev S1x1x512 : Shape := ⟨3, ![1, 1, 512]⟩
abbrev S1024x1024 : Shape := ⟨2, ![1024, 1024]⟩
abbrev S128x8 : Shape := ⟨2, ![128, 8]⟩
abbrev S128x8x1 : Shape := ⟨3, ![128, 8, 1]⟩
abbrev S1x1x1024 : Shape := ⟨3, ![1, 1, 1024]⟩
abbrev S1024x2816 : Shape := ⟨2, ![1024, 2816]⟩
abbrev S128x8x2816 : Shape := ⟨3, ![128, 8, 2816]⟩
abbrev S2816x1024 : Shape := ⟨2, ![2816, 1024]⟩

abbrev nBuf : Space → Nat
  | .hbm => 102
  | .vmem => 0
  | .smem => 0
  | _ => 0

abbrev bufTy : (tb : Table) → Fin (tcTables nBuf tb) → BufTy
  | .hbm, ⟨0, _⟩ => ⟨S128x8x8x64, .f32⟩
  | .hbm, ⟨1, _⟩ => ⟨S128x8x512, .f32⟩
  | .hbm, ⟨2, _⟩ => ⟨S128x8x512, .f32⟩
  | .hbm, ⟨3, _⟩ => ⟨S128x8x512, .f32⟩
  | .hbm, ⟨4, _⟩ => ⟨S128x8x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S_, .f32⟩
  | .hbm, ⟨14, _⟩ => ⟨S128x8x8, .f32⟩
  | .hbm, ⟨15, _⟩ => ⟨S128x8x8x1, .f32⟩
  | .hbm, ⟨16, _⟩ => ⟨S_, .f32⟩
  | .hbm, ⟨17, _⟩ => ⟨S128x8x8x1, .f32⟩
  | .hbm, ⟨18, _⟩ => ⟨S128x8x8x1, .f32⟩
  | .hbm, ⟨19, _⟩ => ⟨S128x8x8x64, .f32⟩
  | .hbm, ⟨20, _⟩ => ⟨S128x8x8x64, .f32⟩
  | .hbm, ⟨21, _⟩ => ⟨S128x8x8x64, .f32⟩
  | .hbm, ⟨22, _⟩ => ⟨S_, .f32⟩
  | .hbm, ⟨23, _⟩ => ⟨S128x8x8, .f32⟩
  | .hbm, ⟨24, _⟩ => ⟨S128x8x8x1, .f32⟩
  | .hbm, ⟨25, _⟩ => ⟨S_, .f32⟩
  | .hbm, ⟨26, _⟩ => ⟨S128x8x8x1, .f32⟩
  | .hbm, ⟨27, _⟩ => ⟨S128x8x8x1, .f32⟩
  | .hbm, ⟨28, _⟩ => ⟨S128x8x8x64, .f32⟩
  | .hbm, ⟨29, _⟩ => ⟨S128x8x8x64, .f32⟩
  | .hbm, ⟨30, _⟩ => ⟨S_, .f32⟩
  | .hbm, ⟨31, _⟩ => ⟨S128x8x8x1, .f32⟩
  | .hbm, ⟨32, _⟩ => ⟨S128x8x8x1, .f32⟩
  | .hbm, ⟨33, _⟩ => ⟨S128x8x8x1, .f32⟩
  | .hbm, ⟨34, _⟩ => ⟨S128x8x8x64, .f32⟩
  | .hbm, ⟨35, _⟩ => ⟨S128x8x8x64, .f32⟩
  | .hbm, ⟨36, _⟩ => ⟨S128x8x512, .f32⟩
  | .hbm, ⟨37, _⟩ => ⟨S512, .f32⟩
  | .hbm, ⟨38, _⟩ => ⟨S1x1x512, .f32⟩
  | .hbm, ⟨39, _⟩ => ⟨S128x8x512, .f32⟩
  | .hbm, ⟨40, _⟩ => ⟨S128x8x512, .f32⟩
  | .hbm, ⟨41, _⟩ => ⟨S512, .f32⟩
  | .hbm, ⟨42, _⟩ => ⟨S1x1x512, .f32⟩
  | .hbm, ⟨43, _⟩ => ⟨S128x8x512, .f32⟩
  | .hbm, ⟨44, _⟩ => ⟨S128x8x512, .f32⟩
  | .hbm, ⟨45, _⟩ => ⟨S128x8x512, .f32⟩
  | .hbm, ⟨46, _⟩ => ⟨S128x8x512, .f32⟩
  | .hbm, ⟨47, _⟩ => ⟨S128x8x1024, .f32⟩
  | .hbm, ⟨48, _⟩ => ⟨S1024x1024, .f32⟩
  | .hbm, ⟨49, _⟩ => ⟨S128x8x1024, .f32⟩
  | .hbm, ⟨50, _⟩ => ⟨S128x8x1024, .f32⟩
  | .hbm, ⟨51, _⟩ => ⟨S1024, .f32⟩
  | .hbm, ⟨52, _⟩ => ⟨S128x8x1024, .f32⟩
  | .hbm, ⟨53, _⟩ => ⟨S_, .f32⟩
  | .hbm, ⟨54, _⟩ => ⟨S128x8, .f32⟩
  | .hbm, ⟨55, _⟩ => ⟨S128x8x1, .f32⟩
  | .hbm, ⟨56, _⟩ => ⟨S_, .f32⟩
  | .hbm, ⟨57, _⟩ => ⟨S128x8x1, .f32⟩
  | .hbm, ⟨58, _⟩ => ⟨S128x8x1, .f32⟩
  | .hbm, ⟨59, _⟩ => ⟨S_, .f32⟩
  | .hbm, ⟨60, _⟩ => ⟨S128x8x1, .f32⟩
  | .hbm, ⟨61, _⟩ => ⟨S128x8x1, .f32⟩
  | .hbm, ⟨62, _⟩ => ⟨S128x8x1, .f32⟩
  | .hbm, ⟨63, _⟩ => ⟨S128x8x1024, .f32⟩
  | .hbm, ⟨64, _⟩ => ⟨S128x8x1024, .f32⟩
  | .hbm, ⟨65, _⟩ => ⟨S1x1x1024, .f32⟩
  | .hbm, ⟨66, _⟩ => ⟨S128x8x1024, .f32⟩
  | .hbm, ⟨67, _⟩ => ⟨S128x8x1024, .f32⟩
  | .hbm, ⟨68, _⟩ => ⟨S1024x2816, .f32⟩
  | .hbm, ⟨69, _⟩ => ⟨S128x8x2816, .f32⟩
  | .hbm, ⟨70, _⟩ => ⟨S128x8x2816, .f32⟩
  | .hbm, ⟨71, _⟩ => ⟨S128x8x2816, .f32⟩
  | .hbm, ⟨72, _⟩ => ⟨S_, .f32⟩
  | .hbm, ⟨73, _⟩ => ⟨S128x8x2816, .f32⟩
  | .hbm, ⟨74, _⟩ => ⟨S128x8x2816, .f32⟩
  | .hbm, ⟨75, _⟩ => ⟨S_, .f32⟩
  | .hbm, ⟨76, _⟩ => ⟨S128x8x2816, .f32⟩
  | .hbm, ⟨77, _⟩ => ⟨S128x8x2816, .f32⟩
  | .hbm, ⟨78, _⟩ => ⟨S128x8x2816, .f32⟩
  | .hbm, ⟨79, _⟩ => ⟨S1024x2816, .f32⟩
  | .hbm, ⟨80, _⟩ => ⟨S128x8x2816, .f32⟩
  | .hbm, ⟨81, _⟩ => ⟨S128x8x2816, .f32⟩
  | .hbm, ⟨82, _⟩ => ⟨S2816x1024, .f32⟩
  | .hbm, ⟨83, _⟩ => ⟨S128x8x1024, .f32⟩
  | .hbm, ⟨84, _⟩ => ⟨S128x8x1024, .f32⟩
  | .hbm, ⟨85, _⟩ => ⟨S128x8x1024, .f32⟩
  | .hbm, ⟨86, _⟩ => ⟨S_, .f32⟩
  | .hbm, ⟨87, _⟩ => ⟨S128x8, .f32⟩
  | .hbm, ⟨88, _⟩ => ⟨S128x8x1, .f32⟩
  | .hbm, ⟨89, _⟩ => ⟨S_, .f32⟩
  | .hbm, ⟨90, _⟩ => ⟨S128x8x1, .f32⟩
  | .hbm, ⟨91, _⟩ => ⟨S128x8x1, .f32⟩
  | .hbm, ⟨92, _⟩ => ⟨S_, .f32⟩
  | .hbm, ⟨93, _⟩ => ⟨S128x8x1, .f32⟩
  | .hbm, ⟨94, _⟩ => ⟨S128x8x1, .f32⟩
  | .hbm, ⟨95, _⟩ => ⟨S128x8x1, .f32⟩
  | .hbm, ⟨96, _⟩ => ⟨S128x8x1024, .f32⟩
  | .hbm, ⟨97, _⟩ => ⟨S128x8x1024, .f32⟩
  | .hbm, ⟨98, _⟩ => ⟨S1x1x1024, .f32⟩
  | .hbm, ⟨99, _⟩ => ⟨S128x8x1024, .f32⟩
  | .hbm, ⟨100, _⟩ => ⟨S128x8x1024, .f32⟩
  | .hbm, ⟨101, _⟩ => ⟨S1024x1024, .f32⟩
  | _, _ => ⟨S128x8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== Kernel6.lean ====
abbrev S128x8x1024 : Shape := ⟨3, ![128, 8, 1024]⟩
abbrev S1x128x1024 : Shape := ⟨3, ![1, 128, 1024]⟩
abbrev S1x1024 : Shape := ⟨2, ![1, 1024]⟩
abbrev S1x1024x2560 : Shape := ⟨3, ![1, 1024, 2560]⟩
abbrev S1024x1024 : Shape := ⟨2, ![1024, 1024]⟩
abbrev S128x1024 : Shape := ⟨2, ![128, 1024]⟩
abbrev S1152x1024 : Shape := ⟨2, ![1152, 1024]⟩
abbrev S1024 : Shape := ⟨1, ![1024]⟩
abbrev S1024x2560 : Shape := ⟨2, ![1024, 2560]⟩
abbrev S1152x512 : Shape := ⟨2, ![1152, 512]⟩
abbrev S1152x128 : Shape := ⟨2, ![1152, 128]⟩
abbrev S1152x1792 : Shape := ⟨2, ![1152, 1792]⟩
abbrev S384x1024 : Shape := ⟨2, ![384, 1024]⟩
abbrev S384x512 : Shape := ⟨2, ![384, 512]⟩
abbrev S384x128 : Shape := ⟨2, ![384, 128]⟩
abbrev S384x1792 : Shape := ⟨2, ![384, 1792]⟩
abbrev S384x1 : Shape := ⟨2, ![384, 1]⟩
abbrev S384 : Shape := ⟨1, ![384]⟩
abbrev S384x2560 : Shape := ⟨2, ![384, 2560]⟩

abbrev nBuf : Space → Nat
  | .hbm => 15
  | .vmem => 12
  | .smem => 0
  | _ => 0

abbrev bufTy : (tb : Table) → Fin (tcTables nBuf tb) → BufTy
  | .hbm, ⟨0, _⟩ => ⟨S128x8x1024, .f32⟩
  | .hbm, ⟨1, _⟩ => ⟨S1x128x1024, .f32⟩
  | .hbm, ⟨2, _⟩ => ⟨S1x1024, .f32⟩
  | .hbm, ⟨3, _⟩ => ⟨S1x1024x2560, .f32⟩
  | .hbm, ⟨4, _⟩ => ⟨S1024x1024, .f32⟩
  | .hbm, ⟨5, _⟩ => ⟨S128x1024, .f32⟩
  | .hbm, ⟨6, _⟩ => ⟨S1152x1024, .f32⟩
  | .hbm, ⟨7, _⟩ => ⟨S1024, .f32⟩
  | .hbm, ⟨8, _⟩ => ⟨S1024x2560, .f32⟩
  | .hbm, ⟨9, _⟩ => ⟨S1024x2560, .bf16⟩
  | .hbm, ⟨10, _⟩ => ⟨S1x1024, .f32⟩
  | .hbm, ⟨11, _⟩ => ⟨S1152x512, .f32⟩
  | .hbm, ⟨12, _⟩ => ⟨S1152x128, .f32⟩
  | .hbm, ⟨13, _⟩ => ⟨S1152x128, .f32⟩
  | .hbm, ⟨14, _⟩ => ⟨S1152x1792, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x2560, .bf16⟩
  | .local _ .vmem, ⟨4, _⟩ => ⟨S384x512, .f32⟩
  | .local _ .vmem, ⟨5, _⟩ => ⟨S384x512, .f32⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x1792, .f32⟩
  | .local _ .vmem, ⟨11, _⟩ => ⟨S384x1792, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S128x8x1024 : Shape := ⟨3, ![128, 8, 1024]⟩
abbrev S1x128x1024 : Shape := ⟨3, ![1, 128, 1024]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x1024 : Shape := ⟨2, ![1024, 1024]⟩
abbrev S128x1024 : Shape := ⟨2, ![128, 1024]⟩
abbrev S1152x1024 : Shape := ⟨2, ![1152, 1024]⟩
abbrev S1024x2560 : Shape := ⟨2, ![1024, 2560]⟩
abbrev S1152x2560 : Shape := ⟨2, ![1152, 2560]⟩
abbrev S1152x512 : Shape := ⟨2, ![1152, 512]⟩
abbrev S1152x128 : Shape := ⟨2, ![1152, 128]⟩
abbrev S1152x1792 : Shape := ⟨2, ![1152, 1792]⟩

abbrev nBuf : Space → Nat
  | .hbm => 30
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x128x1024, .f32⟩
  | .hbm, ⟨2, _⟩ => ⟨S1x1024, .f32⟩
  | .hbm, ⟨3, _⟩ => ⟨S1x1024x2560, .f32⟩
  | .hbm, ⟨4, _⟩ => ⟨S1024, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S1024x1024, .f32⟩
  | .hbm, ⟨22, _⟩ => ⟨S128x1024, .f32⟩
  | .hbm, ⟨23, _⟩ => ⟨S1152x1024, .f32⟩
  | .hbm, ⟨24, _⟩ => ⟨S1024x2560, .f32⟩
  | .hbm, ⟨25, _⟩ => ⟨S1152x2560, .f32⟩
  | .hbm, ⟨26, _⟩ => ⟨S1152x512, .f32⟩
  | .hbm, ⟨27, _⟩ => ⟨S1152x128, .f32⟩
  | .hbm, ⟨28, _⟩ => ⟨S1152x128, .f32⟩
  | .hbm, ⟨29, _⟩ => ⟨S1152x1792, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel7.lean ====
abbrev S2x8192x1024 : Shape := ⟨3, ![2, 8192, 1024]⟩
abbrev S1x1024 : Shape := ⟨2, ![1, 1024]⟩
abbrev S1x1024x2560 : Shape := ⟨3, ![1, 1024, 2560]⟩
abbrev S1x8 : Shape := ⟨2, ![1, 8]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S128 : Shape := ⟨1, ![128]⟩
abbrev S_ : Shape := ⟨0, ![]⟩
abbrev S1024 : Shape := ⟨1, ![1024]⟩
abbrev S1024x2560 : Shape := ⟨2, ![1024, 2560]⟩
abbrev S8 : Shape := ⟨1, ![8]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S128x1 : Shape := ⟨2, ![128, 1]⟩
abbrev S1x128 : Shape := ⟨2, ![1, 128]⟩
abbrev S128x128 : Shape := ⟨2, ![128, 128]⟩
abbrev S16384x1024 : Shape := ⟨2, ![16384, 1024]⟩
abbrev S16384x512 : Shape := ⟨2, ![16384, 512]⟩
abbrev S16384x128 : Shape := ⟨2, ![16384, 128]⟩
abbrev S16384x3072 : Shape := ⟨2, ![16384, 3072]⟩
abbrev S512x1024 : Shape := ⟨2, ![512, 1024]⟩
abbrev S512x512 : Shape := ⟨2, ![512, 512]⟩
abbrev S512x128 : Shape := ⟨2, ![512, 128]⟩
abbrev S512x3072 : Shape := ⟨2, ![512, 3072]⟩
abbrev S8x1792 : Shape := ⟨2, ![8, 1792]⟩
abbrev S256x1024 : Shape := ⟨2, ![256, 1024]⟩
abbrev S256 : Shape := ⟨1, ![256]⟩
abbrev S256x1 : Shape := ⟨2, ![256, 1]⟩
abbrev S256x2560 : Shape := ⟨2, ![256, 2560]⟩
abbrev S256x128 : Shape := ⟨2, ![256, 128]⟩
abbrev S256x1792 : Shape := ⟨2, ![256, 1792]⟩
abbrev S256x512 : Shape := ⟨2, ![256, 512]⟩
abbrev S256x64 : Shape := ⟨2, ![256, 64]⟩
abbrev S128x256 : Shape := ⟨2, ![128, 256]⟩
abbrev S256x256 : Shape := ⟨2, ![256, 256]⟩
abbrev S1 : Shape := ⟨1, ![1]⟩

abbrev nBuf : Space → Nat
  | .hbm => 67
  | .vmem => 27
  | .smem => 1
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2560, .f32⟩
  | .hbm, ⟨3, _⟩ => ⟨S1x8, .f32⟩
  | .hbm, ⟨4, _⟩ => ⟨S1x1792, .f32⟩
  | .hbm, ⟨5, _⟩ => ⟨S1x512, .f32⟩
  | .hbm, ⟨6, _⟩ => ⟨S1x64x512, .f32⟩
  | .hbm, ⟨7, _⟩ => ⟨S1x512, .f32⟩
  | .hbm, ⟨8, _⟩ => ⟨S1x64x512, .f32⟩
  | .hbm, ⟨9, _⟩ => ⟨S1x128x512, .f32⟩
  | .hbm, ⟨10, _⟩ => ⟨S1x512, .f32⟩
  | .hbm, ⟨11, _⟩ => ⟨S1x512, .f32⟩
  | .hbm, ⟨12, _⟩ => ⟨S1x8x64, .f32⟩
  | .hbm, ⟨13, _⟩ => ⟨S128, .i32⟩
  | .hbm, ⟨14, _⟩ => ⟨S_, .i32⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S1024, .f32⟩
  | .hbm, ⟨33, _⟩ => ⟨S1024x2560, .f32⟩
  | .hbm, ⟨34, _⟩ => ⟨S1024x2560, .bf16⟩
  | .hbm, ⟨35, _⟩ => ⟨S8, .f32⟩
  | .hbm, ⟨36, _⟩ => ⟨S1792, .f32⟩
  | .hbm, ⟨37, _⟩ => ⟨S1x1792, .f32⟩
  | .hbm, ⟨38, _⟩ => ⟨S512, .f32⟩
  | .hbm, ⟨39, _⟩ => ⟨S1x512, .f32⟩
  | .hbm, ⟨40, _⟩ => ⟨S64x512, .f32⟩
  | .hbm, ⟨41, _⟩ => ⟨S64x512, .bf16⟩
  | .hbm, ⟨42, _⟩ => ⟨S512, .f32⟩
  | .hbm, ⟨43, _⟩ => ⟨S1x512, .f32⟩
  | .hbm, ⟨44, _⟩ => ⟨S64x512, .f32⟩
  | .hbm, ⟨45, _⟩ => ⟨S64x512, .bf16⟩
  | .hbm, ⟨46, _⟩ => ⟨S128x512, .f32⟩
  | .hbm, ⟨47, _⟩ => ⟨S128x512, .bf16⟩
  | .hbm, ⟨48, _⟩ => ⟨S512, .f32⟩
  | .hbm, ⟨49, _⟩ => ⟨S1x512, .f32⟩
  | .hbm, ⟨50, _⟩ => ⟨S512, .f32⟩
  | .hbm, ⟨51, _⟩ => ⟨S1x512, .f32⟩
  | .hbm, ⟨52, _⟩ => ⟨S8x64, .f32⟩
  | .hbm, ⟨53, _⟩ => ⟨S1x512, .f32⟩
  | .hbm, ⟨54, _⟩ => ⟨S128x1, .i32⟩
  | .hbm, ⟨55, _⟩ => ⟨S1x128, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S128x128, .bf16⟩
  | .hbm, ⟨60, _⟩ => ⟨S16384x1024, .f32⟩
  | .hbm, ⟨61, _⟩ => ⟨S1x1024, .f32⟩
  | .hbm, ⟨62, _⟩ => ⟨S16384x512, .bf16⟩
  | .hbm, ⟨63, _⟩ => ⟨S16384x128, .f32⟩
  | .hbm, ⟨64, _⟩ => ⟨S16384x128, .f32⟩
  | .hbm, ⟨65, _⟩ => ⟨S16384x3072, .f32⟩
  | .hbm, ⟨66, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x1792, .f32⟩
  | .local _ .vmem, ⟨5, _⟩ => ⟨S1x512, .f32⟩
  | .local _ .vmem, ⟨6, _⟩ => ⟨S64x512, .bf16⟩
  | .local _ .vmem, ⟨7, _⟩ => ⟨S1x512, .f32⟩
  | .local _ .vmem, ⟨8, _⟩ => ⟨S64x512, .bf16⟩
  | .local _ .vmem, ⟨9, _⟩ => ⟨S128x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S128x128, .bf16⟩
  | .local _ .vmem, ⟨14, _⟩ => ⟨S512x512, .bf16⟩
  | .local _ .vmem, ⟨15, _⟩ => ⟨S512x512, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x3072, .f32⟩
  | .local _ .vmem, ⟨21, _⟩ => ⟨S512x3072, .f32⟩
  | .local _ .vmem, ⟨22, _⟩ => ⟨S512x1024, .f32⟩
  | .local _ .vmem, ⟨23, _⟩ => ⟨S512x1024, .f32⟩
  | .local _ .vmem, ⟨24, _⟩ => ⟨S8x1792, .f32⟩
  | .local _ .vmem, ⟨25, _⟩ => ⟨S128x128, .f32⟩
  | .local _ .vmem, ⟨26, _⟩ => ⟨S128x128, .f32⟩
  | .local _ .smem, ⟨0, _⟩ => ⟨S8, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32_0 : Ref sig .tc := ⟨.hbm, 62, rfl⟩
abbrev main_v32_1 : Ref sig .tc := ⟨.hbm, 63, rfl⟩
abbrev main_v32_2 : Ref sig .tc := ⟨.hbm, 64, rfl⟩
abbrev main_v32_3 : Ref sig .tc := ⟨.hbm, 65, rfl⟩
abbrev main_v32_4 : Ref sig .tc := ⟨.hbm, 66, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x3072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference7Ideal.lean ====
abbrev S2x8192x1024 : Shape := ⟨3, ![2, 8192, 1024]⟩
abbrev S1x1024 : Shape := ⟨2, ![1, 1024]⟩
abbrev S1x1024x2560 : Shape := ⟨3, ![1, 1024, 2560]⟩
abbrev S1x8 : Shape := ⟨2, ![1, 8]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩
abbrev S1024x2560 : Shape := ⟨2, ![1024, 2560]⟩
abbrev S16384x2560 : Shape := ⟨2, ![16384, 2560]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2560, .f32⟩
  | .hbm, ⟨3, _⟩ => ⟨S1x8, .f32⟩
  | .hbm, ⟨4, _⟩ => ⟨S1x1792, .f32⟩
  | .hbm, ⟨5, _⟩ => ⟨S1x512, .f32⟩
  | .hbm, ⟨6, _⟩ => ⟨S1x64x512, .f32⟩
  | .hbm, ⟨7, _⟩ => ⟨S1x512, .f32⟩
  | .hbm, ⟨8, _⟩ => ⟨S1x64x512, .f32⟩
  | .hbm, ⟨9, _⟩ => ⟨S1x128x512, .f32⟩
  | .hbm, ⟨10, _⟩ => ⟨S1x512, .f32⟩
  | .hbm, ⟨11, _⟩ => ⟨S1x512, .f32⟩
  | .hbm, ⟨12, _⟩ => ⟨S1x8x64, .f32⟩
  | .hbm, ⟨13, _⟩ => ⟨S1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S16384x1024, .f32⟩
  | .hbm, ⟨31, _⟩ => ⟨S1024x2560, .f32⟩
  | .hbm, ⟨32, _⟩ => ⟨S16384x2560, .f32⟩
  | .hbm, ⟨33, _⟩ => ⟨S16384x128, .f32⟩
  | .hbm, ⟨34, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Proof.Frames.lean ====
/-
  The references' frames: each is read off the generated run of the reference, which says what every argument buffer ends
  holding; a program that declares no semaphore ends with every counter at zero.
-/
module

public import proofs.«01_k».proof.Defs
public import proofs.«01_k».proof.Proof.Gen.Reference.Run
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import Idealize.ShloMosaic.Lib.Claim

@[expose] public section

noncomputable section

namespace Cert.Proof

open Idealize.ShloMosaic Idealize.SL.Sem

/-- The attention reference runs, returns, and leaves its arguments and the counters as they were. -/
theorem frameR : Cert.quiescent_Reference := by
  intro m g _
  exact (θ_run Cert.Reference.defs _ _).mono
    (fun r h => ⟨fun c => (h c).2.2.2, sem_eq_zero_of_no_sems (by decide) r.2⟩) (Cert.Reference.Value.run m g)

/-- The same over the extended reals. -/
theorem frameRI : Cert.quiescent_ReferenceIdeal := by
  intro m g _
  exact (θ_run Cert.ReferenceIdeal.defs _ _).mono
    (fun r h => ⟨fun c => (h c).2.2.2, sem_eq_zero_of_no_sems (by decide) r.2⟩) (Cert.ReferenceIdeal.Value.run m g)

/-- The same of the reference of the output projection and the feed-forward block. -/
theorem frameRI2 : Cert.quiescent_Reference2Ideal := by
  intro m g _
  exact (θ_run Cert.Reference2Ideal.defs _ _).mono
    (fun r h => ⟨fun c => (h c).2, sem_eq_zero_of_no_sems (by decide) r.2⟩) (Cert.Reference2Ideal.Value.run m g)

/-- The same of the reference of the first normalised rows. -/
theorem frameRI3 : Cert.quiescent_Reference3Ideal := by
  intro m g _
  exact (θ_run Cert.Reference3Ideal.defs _ _).mono
    (fun r h => ⟨fun c => (h c).2, sem_eq_zero_of_no_sems (by decide) r.2⟩) (Cert.Reference3Ideal.Value.run m g)

/-- The same of the reference of the second normalised rows. -/
theorem frameRI4 : Cert.quiescent_Reference4Ideal := by
  intro m g _
  exact (θ_run Cert.Reference4Ideal.defs _ _).mono
    (fun r h => ⟨fun c => (h c).2, sem_eq_zero_of_no_sems (by decide) r.2⟩) (Cert.Reference4Ideal.Value.run m g)

/-- The same of the reference of the samples' output projection and feed-forward block. -/
theorem frameRI5 : Cert.quiescent_Reference5Ideal := by
  intro m g _
  exact (θ_run Cert.Reference5Ideal.defs _ _).mono
    (fun r h => ⟨fun c => (h c).2, sem_eq_zero_of_no_sems (by decide) r.2⟩) (Cert.Reference5Ideal.Value.run m g)

/-- The same of the reference of the input projection, which has four results. -/
theorem frameRI6 : Cert.quiescent_Reference6Ideal := by
  intro m g _
  exact (θ_run Cert.Reference6Ideal.defs _ _).mono
    (fun r h => ⟨fun c => (h c).2.2.2.2, sem_eq_zero_of_no_sems (by decide) r.2⟩) (Cert.Reference6Ideal.Value.run m g)

/-- The same of the reference of the prompt's keys and values, which has two results. -/
theorem frameRI7 : Cert.quiescent_Reference7Ideal := by
  intro m g _
  exact (θ_run Cert.Reference7Ideal.defs _ _).mono
    (fun r h => ⟨fun c => (h c).2.2, sem_eq_zero_of_no_sems (by decide) r.2⟩) (Cert.Reference7Ideal.Value.run m g)

end Cert.Proof

end
-- ==== Proof.AttnItem.lean ====
/-
  The samples' attention, for one sequence and one pair of query heads that share a key-value head: what the kernel
  computes of the sequence's 8 queries (two heads side by side, 128 columns), its 8 new keys and values, its window of 128
  cached keys and values, and the two heads' sinks. The 16 rows are the 8 queries of the one head and then those of the
  other; a head's 64 columns are kept by zeroing the other's. The window's part and the new keys' part are scored apart
  and share one maximum and one normalizer.
-/
module

public import proofs.«01_k».proof.Proof.Gen.KernelIdeal.Skeleton
public import Idealize.ShloMosaic.Lib.Pointwise

@[expose] public section

set_option maxRecDepth 16384

noncomputable section

namespace Cert.Attn

open Idealize.ShloMosaic Cert.KernelIdeal Cert.KernelIdeal.Gen

/-- A sequence's window as a matrix: a row for each of the two key-value heads' 64 columns, a column for each key. -/
def cacheMat (x : FVec Ideal S1x2x64x128 .f32) : FVec Ideal S128x128 .f32 :=
  shapeCast S128x128 (shapeCast S2x64x128 x shapeCasts_S1x2x64x128_S2x64x128) shapeCasts_S2x64x128_S128x128

/-- The new keys as such a matrix, filled up with zeros. -/
def newMat (x : FVec Ideal S8x128 .f32) : FVec Ideal S128x128 .f32 :=
  transpose S128x128 [1, 0] (concatenate S128x128 0 [⟨S8x128, x⟩, ⟨S120x128, k0_pay9⟩] concatenates_S8x128_S120x128_S128x128_d0)
    transposes_S128x128_p1_0_S128x128

/-- The scaled queries, first the one head's and then the other's, the other head's columns zero. -/
def queries (q : FVec Ideal S8x128 .f32) : FVec Ideal S16x128 .bf16 :=
  truncf .bf16 (concatenate S16x128 0
    [⟨S8x128, select (broadcastTo S8x128 (shapeCast S1x128 k0_pay4 shapeCasts_S1x128_S1x128) broadcasts_S1x128_S8x128)
        (mulf q (broadcast S8x128 (Scalar.ofBits (F := Ideal) .f32 0x3E000000#32))) (broadcast S8x128 (Scalar.ofBits (F := Ideal) .f32 0x00000000#32))⟩,
      ⟨S8x128, select (broadcastTo S8x128 (shapeCast S1x128 k0_pay4 shapeCasts_S1x128_S1x128) broadcasts_S1x128_S8x128)
        (broadcast S8x128 (Scalar.ofBits (F := Ideal) .f32 0x00000000#32)) (mulf q (broadcast S8x128 (Scalar.ofBits (F := Ideal) .f32 0x3E000000#32)))⟩]
    concatenates_S8x128_S8x128_S16x128_d0) bitsLt_bf16_f32

/-- One key-value head's rows. -/
def headRows (o : Fin 2 → ℕ) (ho : S128x128.Slices o S64x128) (x : FVec Ideal S128x128 .f32) : FVec Ideal S64x128 .bf16 :=
  extractStridedSlice S64x128 o (truncf .bf16 x bitsLt_bf16_f32) ho

/-- A head's rows twice. -/
def twice (x : FVec Ideal S64x128 .bf16) : FVec Ideal S128x128 .bf16 :=
  concatenate S128x128 0 [⟨S64x128, x⟩, ⟨S64x128, x⟩] concatenates_S64x128_S64x128_S128x128_d0

/-- A head's rows over zeros. -/
def onTop (x : FVec Ideal S64x128 .bf16) : FVec Ideal S128x128 .bf16 :=
  concatenate S128x128 0 [⟨S64x128, x⟩, ⟨S64x128, k0_pay10⟩] concatenates_S64x128_S64x128_S128x128_d0

/-- A head's rows under zeros. -/
def below (x : FVec Ideal S64x128 .bf16) : FVec Ideal S128x128 .bf16 :=
  concatenate S128x128 0 [⟨S64x128, k0_pay10⟩, ⟨S64x128, x⟩] concatenates_S64x128_S64x128_S128x128_d0

/-- The scores, −∞ where the mask is off. -/
def scores (mask : IVec S16x128 1) (q : FVec Ideal S16x128 .bf16) (k : FVec Ideal S64x128 .bf16) : FVec Ideal S16x128 .f32 :=
  select mask (matmul dot_S16x128_S128x128_S16x128_1_0_0_1_n_n none q (twice k) (constant S16x128 .f32 0x00000000#32))
    (broadcast S16x128 (Named.named (F := Ideal) κ "mask" 0xF149F2CA#32))

/-- The rows' sinks. -/
def sinkCol (s0 s1 : Elt Ideal .f32) : FVec Ideal S16x1 .f32 :=
  select k0_pay5 (broadcast S16x1 s0) (broadcast S16x1 s1)

/-- The rows' maxima. -/
def peak (sc sn : FVec Ideal S16x128 .f32) (sink : FVec Ideal S16x1 .f32) : FVec Ideal S16x1 .f32 :=
  maximumf (maximumf (shapeCast S16x1 (multiReduction .maximumf [1] S16 sc 0xFF800000#32 reduces_S16x128_S16 (.inl rfl) rfl) shapeCasts_S16_S16x1)
    (shapeCast S16x1 (multiReduction .maximumf [1] S16 sn 0xFF800000#32 reduces_S16x128_S16 (.inl rfl) rfl) shapeCasts_S16_S16x1)) sink

/-- The weights before they are normalized. -/
def weights (s : FVec Ideal S16x128 .f32) (m : FVec Ideal S16x1 .f32) : FVec Ideal S16x128 .f32 :=
  exp (subf s (broadcastTo S16x128 m broadcasts_S16x1_S16x128))

/-- One over the rows' normalizers. -/
def recip (ec en : FVec Ideal S16x128 .f32) (sink m : FVec Ideal S16x1 .f32) : FVec Ideal S16x1 .f32 :=
  divf (broadcast S16x1 (Scalar.ofBits (F := Ideal) .f32 0x3F800000#32))
    (addf (addf (shapeCast S16x1 (multiReduction .add [1] S16 ec 0x00000000#32 reduces_S16x128_S16 (.inl rfl) rfl) shapeCasts_S16_S16x1)
      (shapeCast S16x1 (multiReduction .add [1] S16 en 0x00000000#32 reduces_S16x128_S16 (.inl rfl) rfl) shapeCasts_S16_S16x1)) (exp (subf sink m)))

/-- The weights of one head's rows, the other's zero. -/
def rowsOf (b : BitVec 1) (e : FVec Ideal S16x128 .f32) : FVec Ideal S16x128 .bf16 :=
  truncf .bf16 (select (broadcastTo S16x128 (shapeCast S16x1 (xori (xori k0_pay5 (broadcastTo S16x1 (broadcast S16x1 b) broadcasts_S16x1_S16x1))
    (constantI S16x1 1 1#1)) shapeCasts_S16x1_S16x1) broadcasts_S16x1_S16x128) e (broadcast S16x128 (Scalar.ofBits (F := Ideal) .f32 0x00000000#32))) bitsLt_bf16_f32

/-- The weighted values. -/
def weighted (e : FVec Ideal S16x128 .bf16) (v : FVec Ideal S128x128 .bf16) : FVec Ideal S16x128 .f32 :=
  matmul dot_S16x128_S128x128_S16x128_1_1_0_0_n_n none e v (constant S16x128 .f32 0x00000000#32)

/-- The 16 rows' results: each head's in its own columns. -/
def results (ec en : FVec Ideal S16x128 .f32) (vc vn : FVec Ideal S64x128 .bf16) (r : FVec Ideal S16x1 .f32) : FVec Ideal S16x128 .f32 :=
  mulf (addf (addf (addf (weighted (rowsOf 1#1 ec) (onTop vc)) (weighted (rowsOf 0#1 ec) (below vc))) (weighted (rowsOf 1#1 en) (onTop vn)))
    (weighted (rowsOf 0#1 en) (below vn))) (broadcastTo S16x128 r broadcasts_S16x1_S16x128)

/-- The two heads' rows put side by side. -/
def sideBySide (x : FVec Ideal S16x128 .f32) : FVec Ideal S8x128 .f32 :=
  addf (extractStridedSlice S8x128 ![0, 0] x slices_S16x128_o0_0_S8x128) (extractStridedSlice S8x128 ![8, 0] x slices_S16x128_o8_0_S8x128)

/-- What is stored for one sequence and one pair of heads, from the scores. -/
def fromScores (sc sn : FVec Ideal S16x128 .f32) (sink : FVec Ideal S16x1 .f32) (vc vn : FVec Ideal S64x128 .bf16) : FVec Ideal S8x128 .f32 :=
  sideBySide (results (weights sc (peak sc sn sink)) (weights sn (peak sc sn sink)) vc vn
    (recip (weights sc (peak sc sn sink)) (weights sn (peak sc sn sink)) sink (peak sc sn sink)))

/-- What is stored for one sequence and one pair of heads. -/
def item (o : Fin 2 → ℕ) (ho : S128x128.Slices o S64x128) (q kn vn : FVec Ideal S8x128 .f32) (ck cv : FVec Ideal S1x2x64x128 .f32)
    (s0 s1 : Elt Ideal .f32) : FVec Ideal S8x128 .f32 :=
  fromScores (scores k0_pay7 (queries q) (headRows o ho (cacheMat ck))) (scores k0_pay8 (queries q) (headRows o ho (newMat kn)))
    (sinkCol s0 s1) (headRows o ho (cacheMat cv)) (headRows o ho (newMat vn))

/-- What is stored of a window: the cached keys (or values) moved on by the 8 new ones. -/
def moved (n : FVec Ideal S8x128 .f32) (x : FVec Ideal S1x2x64x128 .f32) : FVec Ideal S1x2x64x128 .f32 :=
  shapeCast S1x2x64x128 (shapeCast S2x64x128 (dynamicRotate 1 120#32 none
    (select (broadcastTo S128x128 (shapeCast S1x128 (cmpi .slt (iota .tc S1x128 32 [1] iota_S1x128_d1_w32) (broadcast S1x128 8#32)) shapeCasts_S1x128_S1x128)
      broadcasts_S1x128_S128x128) (newMat n) (cacheMat x)) rotates_S128x128_d1) shapeCasts_S128x128_S2x64x128) shapeCasts_S2x64x128_S1x2x64x128

end Cert.Attn
end
-- ==== Proof.AttnRun.lean ====
/-
  What one step of the samples' attention stores, piece by piece: for each of the 16 sequences and 4 pairs of heads
  `Cert.Attn.item` of the loads, and for each sequence the two windows moved on.
-/
module

public import proofs.«01_k».proof.Proof.AttnItem
public import proofs.«01_k».proof.Proof.Gen.KernelIdeal.Frame
public import Idealize.ShloMosaic.Lib.Pipeline.ValueKit

@[expose] public section

set_option maxRecDepth 16384

noncomputable section

namespace Cert.Attn

open Idealize.ShloMosaic Idealize.ShloMosaic.TcCoe Idealize.SL.Sem Cert.KernelIdeal Cert.KernelIdeal.Gen

/-- A sequence's 8 rows, a pair of heads' 128 columns. -/
def rectQ (k : Fin 64) : Rect S128x512 :=
  Rect.unit ![8 * (k.val / 4), 128 * (k.val % 4)] ![8, 128] (fun a => by
    fin_cases a
    · change 8 * (k.val / 4) + 8 ≤ 128; omega
    · change 128 * (k.val % 4) + 128 ≤ 512; omega)

/-- A sequence's 8 rows of the new keys. -/
def rectK (s : Fin 16) : Rect S128x128 :=
  Rect.unit ![8 * s.val, 0] ![8, 128] (fun a => by
    fin_cases a
    · change 8 * s.val + 8 ≤ 128; omega
    · change 0 + 128 ≤ 128; omega)

/-- A sequence's window. -/
def rectC (s : Fin 16) : Rect S16x2x64x128 :=
  Rect.unit ![s.val, 0, 0, 0] ![1, 2, 64, 128] (fun a => by
    fin_cases a
    · change s.val + 1 ≤ 16; omega
    · change 0 + 2 ≤ 2; omega
    · change 0 + 64 ≤ 64; omega
    · change 0 + 128 ≤ 128; omega)

/-- A head's sink. -/
def rectS (h : Fin 8) : Rect S8 :=
  Rect.unit ![h.val] ![1] (fun a => by
    fin_cases a
    change h.val + 1 ≤ 8; omega)

/-- A pair's key-value head is one of the two. -/
theorem slices_head (k : Fin 64) : S128x128.Slices ![64 * (k.val % 4 / 2), 0] S64x128 := by
  have h : k.val % 4 / 2 = 0 ∨ k.val % 4 / 2 = 1 := by omega
  rcases h with h | h <;> rw [h]
  · exact slices_S128x128_o0_0_S64x128
  · exact slices_S128x128_o64_0_S64x128

/-- What is stored of a sequence and a pair of heads, of the step's blocks. -/
def itemAt (x0 : Vec Ideal S8 .f32) (x1 : Vec Ideal S128x512 .f32) (x2 x3 : Vec Ideal S128x128 .f32) (x4 x5 : Vec Ideal S16x2x64x128 .f32)
    (k : Fin 64) : FVec Ideal S8x128 .f32 :=
  item ![64 * (k.val % 4 / 2), 0] (slices_head k) (View.ld x1 (rectQ k)) (View.ld x2 (rectK ⟨k.val / 4, by omega⟩))
    (View.ld x3 (rectK ⟨k.val / 4, by omega⟩)) (View.ld x4 (rectC ⟨k.val / 4, by omega⟩)) (View.ld x5 (rectC ⟨k.val / 4, by omega⟩))
    (View.ld x0 (rectS ⟨2 * (k.val % 4), by omega⟩) (Shape.Idx.first (s := S1) (by decide))) (View.ld x0 (rectS ⟨2 * (k.val % 4) + 1, by omega⟩) (Shape.Idx.first (s := S1) (by decide)))

/-- The attention's pieces, the last first. -/
def pieces6 (x0 : Vec Ideal S8 .f32) (x1 : Vec Ideal S128x512 .f32) (x2 x3 : Vec Ideal S128x128 .f32) (x4 x5 : Vec Ideal S16x2x64x128 .f32) :
    List (View.Piece (Elt Ideal) S128x512 .f32) :=
  (List.finRange 64).reverse.map fun k => ⟨rectQ k, itemAt x0 x1 x2 x3 x4 x5 k⟩

/-- The windows' pieces, the last first. -/
def piecesW (x2 : Vec Ideal S128x128 .f32) (x4 : Vec Ideal S16x2x64x128 .f32) : List (View.Piece (Elt Ideal) S16x2x64x128 .f32) :=
  (List.finRange 16).reverse.map fun s => ⟨rectC s, moved (View.ld x2 (rectK s)) (View.ld x4 (rectC s))⟩

/-- The loads read the whole arrays' contents. -/
theorem ld_unread {κ : Kind} {sp : Space} {S : Shape} (a : Memref sig κ sp S .f32) (h : a.IsWhole) (x : Vec Ideal S .f32) (r : Rect S) :
    a.view.readAt (Elt Ideal) r.toLoadRect (h.unread x) = View.ld x r :=
  (View.readAt_eq_ld _ _ _).trans (by rw [Memref.IsWhole.read_unread])

/-- The attention's pieces, read off the run. -/
theorem run6 (c : Dev nD) (i : grid0.Coords) (arg1 : Memref sig .tc .smem S8 .f32) (harg1 : arg1.IsWhole) (arg2 : Memref sig .tc .vmem S128x512 .f32) (harg2 : arg2.IsWhole)
  (arg3 : Memref sig .tc .vmem S128x128 .f32) (harg3 : arg3.IsWhole) (arg4 : Memref sig .tc .vmem S128x128 .f32) (harg4 : arg4.IsWhole)
  (arg5 : Memref sig .tc .vmem S16x2x64x128 .f32) (harg5 : arg5.IsWhole) (arg6 : Memref sig .tc .vmem S16x2x64x128 .f32) (harg6 : arg6.IsWhole)
  (arg7 : Memref sig .tc .vmem S128x512 .f32) (harg7 : arg7.IsWhole) (arg8 : Memref sig .tc .vmem S16x2x64x128 .f32) (harg8 : arg8.IsWhole)
  (arg9 : Memref sig .tc .vmem S16x2x64x128 .f32) (harg9 : arg9.IsWhole)
  (x0 : Vec Ideal S8 .f32) (x1 : Vec Ideal S128x512 .f32) (x2 : Vec Ideal S128x128 .f32) (x3 : Vec Ideal S128x128 .f32)
  (x4 : Vec Ideal S16x2x64x128 .f32) (x5 : Vec Ideal S16x2x64x128 .f32) : (kernelRun0_A c i arg1 harg1 arg2 harg2 arg3 harg3 arg4 harg4 arg5 harg5 arg6 harg6 arg7 harg7 arg8 harg8 arg9 harg9 x0 x1 x2 x3 x4 x5).1 = pieces6 (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg6.view.read (Elt Ideal) (harg6.unread x5)) := by
  sl_kernel_rfl

/-- The keys' pieces, read off the run. -/
theorem run7 (c : Dev nD) (i : grid0.Coords) (arg1 : Memref sig .tc .smem S8 .f32) (harg1 : arg1.IsWhole) (arg2 : Memref sig .tc .vmem S128x512 .f32) (harg2 : arg2.IsWhole)
  (arg3 : Memref sig .tc .vmem S128x128 .f32) (harg3 : arg3.IsWhole) (arg4 : Memref sig .tc .vmem S128x128 .f32) (harg4 : arg4.IsWhole)
  (arg5 : Memref sig .tc .vmem S16x2x64x128 .f32) (harg5 : arg5.IsWhole) (arg6 : Memref sig .tc .vmem S16x2x64x128 .f32) (harg6 : arg6.IsWhole)
  (arg7 : Memref sig .tc .vmem S128x512 .f32) (harg7 : arg7.IsWhole) (arg8 : Memref sig .tc .vmem S16x2x64x128 .f32) (harg8 : arg8.IsWhole)
  (arg9 : Memref sig .tc .vmem S16x2x64x128 .f32) (harg9 : arg9.IsWhole)
  (x0 : Vec Ideal S8 .f32) (x1 : Vec Ideal S128x512 .f32) (x2 : Vec Ideal S128x128 .f32) (x3 : Vec Ideal S128x128 .f32)
  (x4 : Vec Ideal S16x2x64x128 .f32) (x5 : Vec Ideal S16x2x64x128 .f32) : (kernelRun0_A c i arg1 harg1 arg2 harg2 arg3 harg3 arg4 harg4 arg5 harg5 arg6 harg6 arg7 harg7 arg8 harg8 arg9 harg9 x0 x1 x2 x3 x4 x5).2.1 = piecesW (arg3.view.read (Elt Ideal) (harg3.unread x2)) (arg5.view.read (Elt Ideal) (harg5.unread x4)) := by
  sl_kernel_rfl

/-- The values' pieces, read off the run. -/
theorem run8 (c : Dev nD) (i : grid0.Coords) (arg1 : Memref sig .tc .smem S8 .f32) (harg1 : arg1.IsWhole) (arg2 : Memref sig .tc .vmem S128x512 .f32) (harg2 : arg2.IsWhole)
  (arg3 : Memref sig .tc .vmem S128x128 .f32) (harg3 : arg3.IsWhole) (arg4 : Memref sig .tc .vmem S128x128 .f32) (harg4 : arg4.IsWhole)
  (arg5 : Memref sig .tc .vmem S16x2x64x128 .f32) (harg5 : arg5.IsWhole) (arg6 : Memref sig .tc .vmem S16x2x64x128 .f32) (harg6 : arg6.IsWhole)
  (arg7 : Memref sig .tc .vmem S128x512 .f32) (harg7 : arg7.IsWhole) (arg8 : Memref sig .tc .vmem S16x2x64x128 .f32) (harg8 : arg8.IsWhole)
  (arg9 : Memref sig .tc .vmem S16x2x64x128 .f32) (harg9 : arg9.IsWhole)
  (x0 : Vec Ideal S8 .f32) (x1 : Vec Ideal S128x512 .f32) (x2 : Vec Ideal S128x128 .f32) (x3 : Vec Ideal S128x128 .f32)
  (x4 : Vec Ideal S16x2x64x128 .f32) (x5 : Vec Ideal S16x2x64x128 .f32) : (kernelRun0_A c i arg1 harg1 arg2 harg2 arg3 harg3 arg4 harg4 arg5 harg5 arg6 harg6 arg7 harg7 arg8 harg8 arg9 harg9 x0 x1 x2 x3 x4 x5).2.2.1 = piecesW (arg4.view.read (Elt Ideal) (harg4.unread x3)) (arg6.view.read (Elt Ideal) (harg6.unread x5)) := by
  sl_kernel_rfl

end Cert.Attn

end
-- ==== Proof.AttnMath.lean ====
/-
  One query's softmax over a window, some new keys and a sink, over the extended reals, with no program in sight. The
  kernel scores the window and the new keys apart, takes one maximum of both, sums the unnormalized weights' products with
  the values and multiplies at the end by one over the normalizer (`kernelForm`); the mathematics divides each weight
  (`plainForm`). For scores that are numbers or −∞ the two are one (`kernelForm_eq`).
-/
module

public import Idealize.ShloMosaic.Lib.Pointwise

@[expose] public section

noncomputable section

namespace Cert.Attn

open Idealize.ShloMosaic

/-- A number, or −∞. -/
def Low (x : EReal) : Prop := x = ⊥ ∨ ∃ r : ℝ, x = (r : EReal)

/-- A weight is a number, and not negative. -/
theorem exp_low {x : EReal} (h : Low x) (m : ℝ) : ∃ r : ℝ, 0 ≤ r ∧ Ideal.exp (x - (m : EReal)) = (r : EReal) := by
  rcases h with rfl | ⟨y, rfl⟩
  · exact ⟨0, le_rfl, by rw [EReal.bot_sub]; rfl⟩
  · exact ⟨Real.exp (y - m), (Real.exp_pos _).le, by rw [← EReal.coe_sub, Ideal.exp_coe]⟩

/-- A product with a number that is not negative goes into a sum. -/
theorem sum_mul_coe {ι : Type} (s : Finset ι) (f : ι → EReal) (r : ℝ) (h : 0 ≤ r) :
    (∑ i ∈ s, f i) * (r : EReal) = ∑ i ∈ s, f i * (r : EReal) := by
  classical
  refine Finset.induction_on s (by simp) fun i s hi ih => ?_
  rw [Finset.sum_insert hi, Finset.sum_insert hi,
    EReal.right_distrib_of_nonneg_of_ne_top (EReal.coe_nonneg.mpr h) (EReal.coe_ne_top r), ih]

/-- A sum of numbers is a number. -/
theorem coe_sum {ι : Type} (s : Finset ι) (f : ι → ℝ) : (∑ i ∈ s, (f i : EReal)) = ((∑ i ∈ s, f i : ℝ) : EReal) := by
  classical
  refine Finset.induction_on s (by simp) fun i s hi ih => ?_
  rw [Finset.sum_insert hi, Finset.sum_insert hi, EReal.coe_add, ih]

/-- A sum of products of numbers is a number. -/
theorem real_dot {n : ℕ} (f g : Fin n → EReal) (hf : ∀ i, ∃ r : ℝ, f i = (r : EReal)) (hg : ∀ i, ∃ r : ℝ, g i = (r : EReal)) :
    ∃ r : ℝ, ∑ i, f i * g i = (r : EReal) := by
  choose a ha using hf
  choose b hb using hg
  exact ⟨∑ i, a i * b i, by rw [← coe_sum]; exact Finset.sum_congr rfl fun i _ => by rw [ha, hb, EReal.coe_mul]⟩

/-- The greatest of the scores and the sink, as the kernel takes it. -/
def kernelPeak (s n : Fin 128 → EReal) (z : EReal) : EReal :=
  max (max (Finset.univ.fold max ⊥ s) (Finset.univ.fold max ⊥ n)) z

/-- The kernel's weighted mean of the values `V` of the window and `W` of the new keys. -/
def kernelForm (s n : Fin 128 → EReal) (z : EReal) (V W : Fin 128 → EReal) : EReal :=
  (∑ j, Ideal.exp (s j - kernelPeak s n z) * V j + ∑ j, Ideal.exp (n j - kernelPeak s n z) * W j)
    * Ideal.div 1 (∑ j, Ideal.exp (s j - kernelPeak s n z) + ∑ j, Ideal.exp (n j - kernelPeak s n z) + Ideal.exp (z - kernelPeak s n z))

/-- The scores and, after them, the sink. -/
def withSink (s : Fin 136 → EReal) (z : EReal) (k : Fin 137) : EReal := if h : k.val < 136 then s ⟨k.val, h⟩ else z

/-- The greatest of them. -/
def plainPeak (s : Fin 136 → EReal) (z : EReal) : EReal := max ⊥ (Finset.univ.fold max ⊥ (withSink s z))

/-- The weighted mean of the values, each weight divided by the normalizer. -/
def plainForm (s : Fin 136 → EReal) (z : EReal) (V : Fin 136 → EReal) : EReal :=
  ∑ k, Ideal.div (Ideal.exp (s k - plainPeak s z)) (∑ k', Ideal.exp (withSink s z k' - plainPeak s z)) * V k

/-- The two maxima are one. -/
theorem peak_eq (s : Fin 136 → EReal) (z : EReal) (n : Fin 128 → EReal) (hn : ∀ j (h : j.val < 8), n j = s ⟨128 + j.val, by omega⟩)
    (hn' : ∀ j, 8 ≤ j.val → n j = ⊥) : kernelPeak (fun j => s ⟨j.val, by omega⟩) n z = plainPeak s z := by
  refine eq_of_forall_ge_iff fun b => ?_
  unfold kernelPeak plainPeak
  simp only [max_le_iff, Finset.fold_max_le, bot_le, true_and, Finset.mem_univ, true_implies]
  constructor
  · rintro ⟨⟨h1, h2⟩, h3⟩ k
    unfold withSink
    split_ifs with hk
    · by_cases h : k.val < 128
      · exact h1 ⟨k.val, h⟩
      · have e := h2 ⟨k.val - 128, by omega⟩
        rw [hn _ (by simp only; omega)] at e
        have e' : (⟨128 + (k.val - 128), by omega⟩ : Fin 136) = ⟨k.val, hk⟩ := Fin.ext (by simp only; omega)
        rwa [← e']
    · exact h3
  · intro h
    refine ⟨⟨fun j => ?_, fun j => ?_⟩, ?_⟩
    · have e := h ⟨j.val, by omega⟩
      unfold withSink at e
      rwa [dif_pos (by simp only; omega)] at e
    · by_cases hj : j.val < 8
      · have e := h ⟨128 + j.val, by omega⟩
        unfold withSink at e
        rw [dif_pos (by simp only; omega)] at e
        rwa [hn j hj]
      · rw [hn' j (by omega)]
        exact bot_le
    · have e := h ⟨136, by omega⟩
      unfold withSink at e
      rwa [dif_neg (by simp only; omega)] at e

/-- The maximum is a number. -/
theorem peak_real (s : Fin 136 → EReal) (z : ℝ) (hs : ∀ k, Low (s k)) : ∃ m : ℝ, plainPeak s z = (m : EReal) := by
  have hl : ((z : ℝ) : EReal) ≤ plainPeak s z := by
    refine le_max_of_le_right ?_
    refine Finset.le_fold_max _ |>.mpr (.inr ⟨⟨136, by omega⟩, Finset.mem_univ _, ?_⟩)
    unfold withSink
    rw [dif_neg (by simp only; omega)]
  have hu : plainPeak s z < ⊤ := by
    unfold plainPeak
    rw [max_lt_iff, Finset.fold_max_lt]
    refine ⟨bot_lt_top, bot_lt_top, fun k _ => ?_⟩
    unfold withSink
    split_ifs with hk
    · rcases hs ⟨k.val, hk⟩ with e | ⟨r, e⟩ <;> rw [e]
      · exact bot_lt_top
      · exact EReal.coe_lt_top r
    · exact EReal.coe_lt_top z
  exact ⟨(plainPeak s z).toReal, (EReal.coe_toReal hu.ne (ne_of_gt (lt_of_lt_of_le (EReal.bot_lt_coe z) hl))).symm⟩

/-- A sum over the window and the new keys, in its two parts; past the new keys nothing. -/
theorem sum_parts (f : Fin 136 → EReal) (g : Fin 128 → EReal) (hg : ∀ j (h : j.val < 8), g j = f ⟨128 + j.val, by omega⟩)
    (hg' : ∀ j, 8 ≤ j.val → g j = 0) : (∑ j : Fin 128, f ⟨j.val, by omega⟩) + ∑ j, g j = ∑ k, f k := by
  have e1 : ∑ k, f k = (∑ j : Fin 128, f ⟨j.val, by omega⟩) + ∑ j : Fin 8, f ⟨128 + j.val, by omega⟩ := Fin.sum_univ_add (a := 128) (b := 8) f
  have e2 : ∑ j, g j = (∑ j : Fin 8, g ⟨j.val, by omega⟩) + ∑ j : Fin 120, g ⟨8 + j.val, by omega⟩ := Fin.sum_univ_add (a := 8) (b := 120) g
  rw [e1, e2, Finset.sum_eq_zero (s := (Finset.univ : Finset (Fin 120))) (fun j _ => hg' _ (by simp only; omega)), add_zero]
  congr 1
  exact Finset.sum_congr rfl fun j _ => hg _ j.isLt

/-- The two forms are one. -/
theorem kernelForm_eq (s : Fin 136 → EReal) (z : ℝ) (V : Fin 136 → EReal) (hs : ∀ k, Low (s k)) (n W : Fin 128 → EReal)
    (hn : ∀ j (h : j.val < 8), n j = s ⟨128 + j.val, by omega⟩) (hn' : ∀ j, 8 ≤ j.val → n j = ⊥)
    (hW : ∀ j (h : j.val < 8), W j = V ⟨128 + j.val, by omega⟩) :
    kernelForm (fun j => s ⟨j.val, by omega⟩) n z (fun j => V ⟨j.val, by omega⟩) W = plainForm s z V := by
  unfold kernelForm plainForm
  rw [peak_eq s z n hn hn']
  obtain ⟨m, hm⟩ := peak_real s z hs
  rw [hm]
  choose e he0 he using fun k => exp_low (hs k) m
  have hz : Ideal.exp (((z : ℝ) : EReal) - (m : EReal)) = ((Real.exp (z - m) : ℝ) : EReal) := by rw [← EReal.coe_sub, Ideal.exp_coe]
  have hb : Ideal.exp ((⊥ : EReal) - (m : EReal)) = 0 := by rw [EReal.bot_sub]; rfl
  have hD : (∑ j : Fin 128, Ideal.exp (s ⟨j.val, by omega⟩ - (m : EReal))) + ∑ j, Ideal.exp (n j - (m : EReal))
      = ((∑ k, e k : ℝ) : EReal) := by
    rw [sum_parts (fun k => Ideal.exp (s k - (m : EReal))) _ (fun j h => by rw [hn j h]) (fun j h => by rw [hn' j h, hb]), ← coe_sum]
    exact Finset.sum_congr rfl fun k _ => he k
  have hN : (∑ j : Fin 128, Ideal.exp (s ⟨j.val, by omega⟩ - (m : EReal)) * V ⟨j.val, by omega⟩) + ∑ j, Ideal.exp (n j - (m : EReal)) * W j
      = ∑ k, (e k : EReal) * V k := by
    rw [sum_parts (fun k => Ideal.exp (s k - (m : EReal)) * V k) _ (fun j h => by rw [hn j h, hW j h]) (fun j h => by rw [hn' j h, hb, zero_mul])]
    exact Finset.sum_congr rfl fun k _ => by rw [he k]
  have hD' : (∑ k', Ideal.exp (withSink s z k' - (m : EReal))) = ((∑ k, e k + Real.exp (z - m) : ℝ) : EReal) := by
    rw [Fin.sum_univ_castSucc, EReal.coe_add, ← coe_sum]
    congr 1
    · exact Finset.sum_congr rfl fun k _ => by
        unfold withSink
        rw [dif_pos (by simp)]
        exact he k
  have hpos : (∑ k, e k + Real.exp (z - m) : ℝ) ≠ 0 :=
    ne_of_gt (add_pos_of_nonneg_of_pos (Finset.sum_nonneg fun k _ => he0 k) (Real.exp_pos _))
  have h0 : 0 ≤ 1 / (∑ k, e k + Real.exp (z - m) : ℝ) :=
    one_div_nonneg.mpr (add_nonneg (Finset.sum_nonneg fun k _ => he0 k) (Real.exp_pos _).le)
  rw [hN, hD, hD', hz, ← EReal.coe_add, Ideal.div_coe hpos, one_mul, sum_mul_coe _ _ _ h0]
  refine Finset.sum_congr rfl fun k _ => ?_
  rw [he k, Ideal.div_coe hpos, mul_right_comm]

end Cert.Attn

end
-- ==== Proof.AttnRead.lean ====
/-
  The samples' attention of one sequence and one pair of heads, read at a row and a column: `Cert.Attn.kernelForm` of the
  head's scores, its sink and its values. A head's rows meet only its own columns, for the others' are zero.
-/
module

public import proofs.«01_k».proof.Proof.AttnItem
public import proofs.«01_k».proof.Proof.AttnMath

@[expose] public section

set_option maxRecDepth 16384

noncomputable section

namespace Cert.Attn

open Idealize.ShloMosaic Cert.KernelIdeal Cert.KernelIdeal.Gen

/-- Which lanes are the first head's. -/
theorem lane_lt : ∀ l : Fin 128, IntOp.cmpi .slt (BitVec.ofNat 32 l.val) 64#32 = if l.val < 64 then 1#1 else 0#1 := by decide +kernel

/-- Which lanes hold new keys. -/
theorem lane_new : ∀ l : Fin 128, IntOp.cmpi .slt (BitVec.ofNat 32 l.val) 8#32 = if l.val < 8 then 1#1 else 0#1 := by decide +kernel

/-- Which rows are the first head's. -/
theorem row_lt : ∀ r : Fin 16, IntOp.cmpi .slt (BitVec.ofNat 32 r.val) 8#32 = if r.val < 8 then 1#1 else 0#1 := by decide +kernel

/-- A row's query. -/
theorem row_query (r : Fin 16) : k0_pay6 (ix2 r 0) = BitVec.ofNat 32 (r.val % 8) := by
  pointwise [k0_pay6, k0_pay5]
  revert r
  decide +kernel

/-- Later positions than a query's. -/
theorem later : ∀ (j : Fin 128) (t : Fin 8), IntOp.cmpi .sgt (BitVec.ofNat 32 j.val) (BitVec.ofNat 32 t.val) = if t.val < j.val then 1#1 else 0#1 := by decide +kernel

/-- No later positions than a query's. -/
theorem notLater : ∀ (j : Fin 128) (t : Fin 8), IntOp.cmpi .sle (BitVec.ofNat 32 j.val) (BitVec.ofNat 32 t.val) = if j.val ≤ t.val then 1#1 else 0#1 := by decide +kernel

/-- A choice by a condition's bit is the choice by the condition. -/
theorem select_if {α : Type} (p : Prop) [Decidable p] (a b : α) : Scalar.select (if p then 1#1 else 0#1) a b = if p then a else b := by
  split_ifs <;> rfl

/-- The word of −∞. -/
theorem wbot : Ideal.ofBits .f32 0xFF800000#32 = ⊥ := by
  simp [Ideal.ofBits, Ideal.ieee]

/-- The word of 1/8. -/
theorem w8 : Ideal.ofBits .f32 0x3E000000#32 = ((1 / 8 : ℝ) : EReal) := by
  simp [Ideal.ofBits, Ideal.ieee]
  rw [← EReal.coe_mul]
  norm_num

/-- A sum over two heads' columns of which one head's count is the sum over that head's. -/
theorem sum_head (g : Fin 128 → EReal) (h : ℕ) (hh : h < 2) : (∑ l : Fin 128, if h = l.val / 64 then g l else 0) = ∑ d : Fin 64, g ⟨64 * h + d.val, by omega⟩ := by
  have e : (∑ l : Fin 128, if h = l.val / 64 then g l else 0) = (∑ d : Fin 64, if h = d.val / 64 then g ⟨d.val, by omega⟩ else 0)
      + ∑ d : Fin 64, if h = (64 + d.val) / 64 then g ⟨64 + d.val, by omega⟩ else 0 := Fin.sum_univ_add (a := 64) (b := 64) _
  rw [e]
  have h2 : h = 0 ∨ h = 1 := by omega
  rcases h2 with rfl | rfl
  · have z : (∑ d : Fin 64, if 0 = (64 + d.val) / 64 then g ⟨64 + d.val, by omega⟩ else 0) = 0 := Finset.sum_eq_zero fun d _ => if_neg (by omega)
    rw [z, add_zero]
    refine Finset.sum_congr rfl fun d _ => ?_
    rw [if_pos (by omega)]
    exact congrArg g (Fin.ext (by simp only; omega))
  · rw [Finset.sum_eq_zero (fun d _ => if_neg (by omega)), zero_add]
    refine Finset.sum_congr rfl fun d _ => ?_
    rw [if_pos (by omega)]

/-- The window's matrix at a column and a key. -/
theorem cacheMat_apply (x : FVec Ideal S1x2x64x128 .f32) (a j : Fin 128) :
    cacheMat x (ix2 a j) = x (ix4 0 ⟨a.val / 64, by omega⟩ ⟨a.val % 64, by omega⟩ j) := by
  pointwise [cacheMat]

/-- The new keys' matrix. -/
theorem newMat_apply (x : FVec Ideal S8x128 .f32) (a j : Fin 128) :
    newMat x (ix2 a j) = if h : j.val < 8 then x (ix2 ⟨j.val, h⟩ a) else 0 := by
  pointwise [newMat, k0_pay9]

/-- One head's rows of a matrix. -/
theorem headRows_apply (b : ℕ) (hb : b < 2) (ho : S128x128.Slices ![64 * b, 0] S64x128) (x : FVec Ideal S128x128 .f32) (d : Fin 64) (j : Fin 128) :
    headRows ![64 * b, 0] ho x (ix2 d j) = x (ix2 ⟨64 * b + d.val, by omega⟩ j) := by
  pointwise [headRows]

/-- The rows twice. -/
theorem twice_apply (x : FVec Ideal S64x128 .bf16) (l j : Fin 128) : twice x (ix2 l j) = x (ix2 ⟨l.val % 64, by omega⟩ j) := by
  pointwise [twice]
  by_cases h : l.val < 64
  · exact (dif_pos h).trans (congrArg (fun i => x (ix2 i j)) (Fin.ext (by simp only; omega)))
  · exact (dif_neg h).trans (congrArg (fun i => x (ix2 i j)) (Fin.ext (by simp only; omega)))

/-- The rows over zeros. -/
theorem onTop_apply (x : FVec Ideal S64x128 .bf16) (l j : Fin 128) :
    onTop x (ix2 l j) = if l.val < 64 then x (ix2 ⟨l.val % 64, by omega⟩ j) else 0 := by
  pointwise [onTop, k0_pay10]
  by_cases h : l.val < 64
  · rw [if_pos h]
    exact (dif_pos h).trans (congrArg (fun i => x (ix2 i j)) (Fin.ext (by simp only; omega)))
  · rw [if_neg h]
    exact dif_neg h

/-- The rows under zeros. -/
theorem below_apply (x : FVec Ideal S64x128 .bf16) (l j : Fin 128) :
    below x (ix2 l j) = if l.val < 64 then 0 else x (ix2 ⟨l.val % 64, by omega⟩ j) := by
  pointwise [below, k0_pay10]
  by_cases h : l.val < 64
  · rw [if_pos h]
    exact dif_pos h
  · rw [if_neg h]
    exact (dif_neg h).trans (congrArg (fun i => x (ix2 i j)) (Fin.ext (by simp only; omega)))

/-- The queries' rows: a head's own columns, scaled. -/
theorem queries_apply (q : FVec Ideal S8x128 .f32) (r : Fin 16) (l : Fin 128) :
    queries q (ix2 r l) = if r.val / 8 = l.val / 64 then q (ix2 ⟨r.val % 8, by omega⟩ l) * Ideal.ofBits .f32 0x3E000000#32 else 0 := by
  pointwise [queries, k0_pay4]
  rw [lane_lt]
  by_cases h : r.val < 8
  · refine (dif_pos h).trans ?_
    rw [select_if]
    have e : (⟨r.val, h⟩ : Fin 8) = ⟨r.val % 8, by omega⟩ := Fin.ext (by simp only; omega)
    rw [e]
    exact if_congr (by omega) rfl rfl
  · refine (dif_neg h).trans ?_
    rw [select_if]
    have e : (⟨r.val - 8, by omega⟩ : Fin 8) = ⟨r.val % 8, by omega⟩ := Fin.ext (by simp only; omega)
    rw [e]
    by_cases hl : l.val < 64
    · rw [if_pos hl, if_neg (by omega)]
    · rw [if_neg hl, if_pos (by omega)]

/-- The two heads side by side. -/
theorem sideBySide_apply (x : FVec Ideal S16x128 .f32) (t : Fin 8) (c : Fin 128) :
    sideBySide x (ix2 t c) = x (ix2 ⟨t.val, by omega⟩ c) + x (ix2 ⟨8 + t.val, by omega⟩ c) := by
  pointwise [sideBySide]

/-- A row's sink. -/
theorem sinkCol_apply (s0 s1 : Elt Ideal .f32) (r : Fin 16) : sinkCol s0 s1 (ix2 r 0) = if r.val < 8 then s0 else s1 := by
  pointwise [sinkCol, k0_pay5]
  rw [row_lt, select_if]

/-- A weight. -/
theorem weights_apply (s : FVec Ideal S16x128 .f32) (m : FVec Ideal S16x1 .f32) (r : Fin 16) (j : Fin 128) :
    weights s m (ix2 r j) = Ideal.exp (s (ix2 r j) - m (ix2 r 0)) := by
  pointwise [weights]

/-- The weighted values at a row and a column. -/
theorem weighted_apply (e : FVec Ideal S16x128 .bf16) (v : FVec Ideal S128x128 .bf16) (r : Fin 16) (c : Fin 128) :
    weighted e v (ix2 r c) = ∑ j : Fin 128, e (ix2 r j) * v (ix2 c j) := by
  pointwise [weighted]

/-- The first head's rows of the weights. -/
theorem rowsOf_one (e : FVec Ideal S16x128 .f32) (r : Fin 16) (j : Fin 128) :
    rowsOf 1#1 e (ix2 r j) = if r.val < 8 then e (ix2 r j) else 0 := by
  pointwise [rowsOf, k0_pay5]
  rw [row_lt]
  split_ifs <;> rfl

/-- The second head's. -/
theorem rowsOf_zero (e : FVec Ideal S16x128 .f32) (r : Fin 16) (j : Fin 128) :
    rowsOf 0#1 e (ix2 r j) = if r.val < 8 then 0 else e (ix2 r j) := by
  pointwise [rowsOf, k0_pay5]
  rw [row_lt]
  split_ifs <;> rfl

/-- A row's maximum. -/
theorem peak_apply (sc sn : FVec Ideal S16x128 .f32) (sink : FVec Ideal S16x1 .f32) (r : Fin 16) :
    peak sc sn sink (ix2 r 0) = kernelPeak (fun j => sc (ix2 r j)) (fun j => sn (ix2 r j)) (sink (ix2 r 0)) := by
  unfold kernelPeak
  rw [← wbot]
  pointwise [peak]

/-- One over a row's normalizer. -/
theorem recip_apply (ec en : FVec Ideal S16x128 .f32) (sink m : FVec Ideal S16x1 .f32) (r : Fin 16) :
    recip ec en sink m (ix2 r 0) = Ideal.div 1 (∑ j : Fin 128, ec (ix2 r j) + ∑ j : Fin 128, en (ix2 r j) + Ideal.exp (sink (ix2 r 0) - m (ix2 r 0))) := by
  pointwise [recip]

/-- A score: the product over the head's own columns, or −∞. -/
theorem scores_apply (mask : IVec S16x128 1) (q : FVec Ideal S8x128 .f32) (k : FVec Ideal S64x128 .bf16) (r : Fin 16) (j : Fin 128) :
    scores mask (queries q) k (ix2 r j) = Scalar.select (mask (ix2 r j))
      (∑ d : Fin 64, q (ix2 ⟨r.val % 8, by omega⟩ ⟨64 * (r.val / 8) + d.val, by omega⟩) * Ideal.ofBits .f32 0x3E000000#32 * k (ix2 d j)) ⊥ := by
  have e : scores mask (queries q) k (ix2 r j) = Scalar.select (mask (ix2 r j)) (∑ l : Fin 128, queries q (ix2 r l) * twice k (ix2 l j)) ⊥ := by
    unfold scores
    generalize twice k = z
    generalize queries q = y
    pointwise []
    rfl
  rw [e]
  congr 1
  have f : ∀ l : Fin 128, queries q (ix2 r l) * twice k (ix2 l j) = if r.val / 8 = l.val / 64 then
      q (ix2 ⟨r.val % 8, by omega⟩ l) * Ideal.ofBits .f32 0x3E000000#32 * k (ix2 ⟨l.val % 64, by omega⟩ j) else 0 := fun l => by
    rw [queries_apply, twice_apply]
    split_ifs
    · rfl
    · rw [zero_mul]
  rw [Finset.sum_congr rfl fun l _ => f l, sum_head _ _ (by omega)]
  refine Finset.sum_congr rfl fun d _ => ?_
  congr 3
  exact Fin.ext (by simp only; omega)

/-- The window's mask: a key counts while it lies less than 128 back. -/
theorem maskC (r : Fin 16) (j : Fin 128) : k0_pay7 (ix2 r j) = if r.val % 8 < j.val then 1#1 else 0#1 := by
  pointwise [k0_pay7]
  rw [row_query]
  exact later j ⟨r.val % 8, by omega⟩

/-- The new keys' mask: none after the query. -/
theorem maskN (r : Fin 16) (j : Fin 128) : k0_pay8 (ix2 r j) = if j.val ≤ r.val % 8 then 1#1 else 0#1 := by
  pointwise [k0_pay8]
  rw [row_query]
  exact notLater j ⟨r.val % 8, by omega⟩

/-- The 16 rows' results: nothing in the other head's columns. -/
theorem results_apply (ec en : FVec Ideal S16x128 .f32) (vc vn : FVec Ideal S64x128 .bf16) (rc : FVec Ideal S16x1 .f32) (r : Fin 16) (c : Fin 128) :
    results ec en vc vn rc (ix2 r c) = if r.val / 8 = c.val / 64 then
      (∑ j : Fin 128, ec (ix2 r j) * vc (ix2 ⟨c.val % 64, by omega⟩ j) + ∑ j : Fin 128, en (ix2 r j) * vn (ix2 ⟨c.val % 64, by omega⟩ j)) * rc (ix2 r 0)
      else 0 := by
  have e : results ec en vc vn rc (ix2 r c) = (weighted (rowsOf 1#1 ec) (onTop vc) (ix2 r c) + weighted (rowsOf 0#1 ec) (below vc) (ix2 r c)
      + weighted (rowsOf 1#1 en) (onTop vn) (ix2 r c) + weighted (rowsOf 0#1 en) (below vn) (ix2 r c)) * rc (ix2 r 0) := by
    unfold results
    generalize weighted (rowsOf 1#1 ec) (onTop vc) = a
    generalize weighted (rowsOf 0#1 ec) (below vc) = b
    generalize weighted (rowsOf 1#1 en) (onTop vn) = a'
    generalize weighted (rowsOf 0#1 en) (below vn) = b'
    pointwise []
  rw [e]
  simp only [weighted_apply, rowsOf_one, rowsOf_zero, onTop_apply, below_apply]
  by_cases hr : r.val < 8 <;> by_cases hc : c.val < 64
  · simp only [if_pos hr, if_pos hc, zero_mul, mul_zero, Finset.sum_const_zero, add_zero]
    rw [if_pos (by omega)]
  · simp only [if_pos hr, if_neg hc, zero_mul, mul_zero, Finset.sum_const_zero, add_zero]
    rw [if_neg (by omega)]
  · simp only [if_neg hr, if_pos hc, zero_mul, mul_zero, Finset.sum_const_zero, add_zero]
    rw [if_neg (by omega)]
  · simp only [if_neg hr, if_neg hc, zero_mul, mul_zero, Finset.sum_const_zero, add_zero, zero_add]
    rw [if_pos (by omega)]

/-- A head's row of the results is `kernelForm` of its scores. -/
theorem row_apply (sc sn : FVec Ideal S16x128 .f32) (sink : FVec Ideal S16x1 .f32) (vc vn : FVec Ideal S64x128 .bf16) (r : Fin 16) (c : Fin 128) :
    results (weights sc (peak sc sn sink)) (weights sn (peak sc sn sink)) vc vn
        (recip (weights sc (peak sc sn sink)) (weights sn (peak sc sn sink)) sink (peak sc sn sink)) (ix2 r c)
      = if r.val / 8 = c.val / 64 then kernelForm (fun j => sc (ix2 r j)) (fun j => sn (ix2 r j)) (sink (ix2 r 0))
          (fun j => vc (ix2 ⟨c.val % 64, by omega⟩ j)) (fun j => vn (ix2 ⟨c.val % 64, by omega⟩ j)) else 0 := by
  rw [results_apply]
  unfold kernelForm
  simp only [recip_apply, weights_apply, peak_apply]

/-- What is stored, at a query and a column. -/
theorem item_apply (b : ℕ) (hb : b < 2) (ho : S128x128.Slices ![64 * b, 0] S64x128) (q kn vn : FVec Ideal S8x128 .f32)
    (ck cv : FVec Ideal S1x2x64x128 .f32) (s0 s1 : Elt Ideal .f32) (t : Fin 8) (c : Fin 128) :
    item ![64 * b, 0] ho q kn vn ck cv s0 s1 (ix2 t c) = kernelForm
      (fun j => if t.val < j.val then ∑ d : Fin 64, q (ix2 t ⟨64 * (c.val / 64) + d.val, by omega⟩) * Ideal.ofBits .f32 0x3E000000#32 * ck (ix4 0 ⟨b, hb⟩ d j) else ⊥)
      (fun j => if j.val ≤ t.val then ∑ d : Fin 64, q (ix2 t ⟨64 * (c.val / 64) + d.val, by omega⟩) * Ideal.ofBits .f32 0x3E000000#32
        * (if h : j.val < 8 then kn (ix2 ⟨j.val, h⟩ ⟨64 * b + d.val, by omega⟩) else 0) else ⊥)
      (if c.val < 64 then s0 else s1) (fun j => cv (ix4 0 ⟨b, hb⟩ ⟨c.val % 64, by omega⟩ j))
      (fun j => if h : j.val < 8 then vn (ix2 ⟨j.val, h⟩ ⟨64 * b + c.val % 64, by omega⟩) else 0) := by
  have hc : ∀ (x : FVec Ideal S1x2x64x128 .f32) (d : Fin 64) (j : Fin 128), headRows ![64 * b, 0] ho (cacheMat x) (ix2 d j) = x (ix4 0 ⟨b, hb⟩ d j) := fun x d j => by
    rw [headRows_apply b hb, cacheMat_apply]
    exact congrArg₂ (fun i k => x (ix4 0 i k j)) (Fin.ext (by simp only; omega)) (Fin.ext (by simp only; omega))
  have hn : ∀ (x : FVec Ideal S8x128 .f32) (d : Fin 64) (j : Fin 128), headRows ![64 * b, 0] ho (newMat x) (ix2 d j)
      = if h : j.val < 8 then x (ix2 ⟨j.val, h⟩ ⟨64 * b + d.val, by omega⟩) else 0 := fun x d j => by
    rw [headRows_apply b hb, newMat_apply]
  have key : ∀ (h : ℕ) (h2 : h < 2), h = c.val / 64 → kernelForm (fun j => scores k0_pay7 (queries q) (headRows ![64 * b, 0] ho (cacheMat ck)) (ix2 ⟨8 * h + t.val, by omega⟩ j))
      (fun j => scores k0_pay8 (queries q) (headRows ![64 * b, 0] ho (newMat kn)) (ix2 ⟨8 * h + t.val, by omega⟩ j)) (sinkCol s0 s1 (ix2 ⟨8 * h + t.val, by omega⟩ 0))
          (fun j => headRows ![64 * b, 0] ho (cacheMat cv) (ix2 ⟨c.val % 64, by omega⟩ j)) (fun j => headRows ![64 * b, 0] ho (newMat vn) (ix2 ⟨c.val % 64, by omega⟩ j))
      = kernelForm
      (fun j => if t.val < j.val then ∑ d : Fin 64, q (ix2 t ⟨64 * (c.val / 64) + d.val, by omega⟩) * Ideal.ofBits .f32 0x3E000000#32 * ck (ix4 0 ⟨b, hb⟩ d j) else ⊥)
      (fun j => if j.val ≤ t.val then ∑ d : Fin 64, q (ix2 t ⟨64 * (c.val / 64) + d.val, by omega⟩) * Ideal.ofBits .f32 0x3E000000#32
        * (if h : j.val < 8 then kn (ix2 ⟨j.val, h⟩ ⟨64 * b + d.val, by omega⟩) else 0) else ⊥)
      (if c.val < 64 then s0 else s1) (fun j => cv (ix4 0 ⟨b, hb⟩ ⟨c.val % 64, by omega⟩ j))
      (fun j => if h : j.val < 8 then vn (ix2 ⟨j.val, h⟩ ⟨64 * b + c.val % 64, by omega⟩) else 0) := fun h h2 e => by
    subst e
    have e1 : (8 * (c.val / 64) + t.val) % 8 = t.val := by omega
    have e2 : (8 * (c.val / 64) + t.val) / 8 = c.val / 64 := by omega
    simp only [scores_apply, maskC, maskN, sinkCol_apply, hc, hn, select_if, e1, e2]
    congr 1
    exact if_congr (by omega) rfl rfl
  unfold item fromScores
  rw [sideBySide_apply, row_apply, row_apply]
  by_cases h : c.val < 64
  · rw [if_pos (by simp only; omega), if_neg (by simp only; omega), add_zero, ← key 0 (by omega) (by omega)]
    simp only [Nat.mul_zero, Nat.zero_add]
  · rw [if_neg (by simp only; omega), if_pos (by simp only; omega), zero_add, ← key 1 (by omega) (by omega)]

/-- A window moved on: the cached keys from the ninth on, and then the new ones. -/
theorem moved_apply (n : FVec Ideal S8x128 .f32) (x : FVec Ideal S1x2x64x128 .f32) (z : Fin 1) (b : Fin 2) (d : Fin 64) (p : Fin 128) :
    moved n x (ix4 z b d p) = if h : p.val < 120 then x (ix4 0 b d ⟨p.val + 8, by omega⟩) else n (ix2 ⟨p.val - 120, by omega⟩ ⟨64 * b.val + d.val, by omega⟩) := by
  unfold moved
  generalize hN : newMat n = N
  generalize hX : cacheMat x = X
  pointwise []
  subst hN
  subst hX
  by_cases h : p.val < 120
  · have e : (p.val + 128 - 120) % 128 = p.val + 8 := by omega
    rw [dif_pos h]
    simp only [e]
    refine (congrArg (fun w => Scalar.select w _ _) ((lane_new ⟨p.val + 8, by omega⟩).trans (if_neg (by simp only; omega)))).trans ?_
    refine (ValueIdx.select_zero _ _).trans ((cacheMat_apply _ _ _).trans ?_)
    exact congrArg₂ (fun i k => x (ix4 0 i k _)) (Fin.ext (by simp only; omega)) (Fin.ext (by simp only; omega))
  · have e : (p.val + 128 - 120) % 128 = p.val - 120 := by omega
    rw [dif_neg h]
    simp only [e]
    refine (congrArg (fun w => Scalar.select w _ _) ((lane_new ⟨p.val - 120, by omega⟩).trans (if_pos (by simp only; omega)))).trans ?_
    refine (ValueIdx.select_one _ _).trans ((newMat_apply _ _ _).trans ((dif_pos (by simp only; omega)).trans ?_))
    exact congrArg (fun i => n (ix2 _ i)) (Fin.ext (by simp only; omega))

end Cert.Attn

end
-- ==== Proof.AttnBlk.lean ====
/-
  One step's blocks of the samples' attention, index by index, of the step's operands: the stored pieces tile the blocks,
  and each is read at a row and a column.
-/
module

public import proofs.«01_k».proof.Proof.AttnRun
public import proofs.«01_k».proof.Proof.AttnRead

@[expose] public section

set_option maxRecDepth 16384

noncomputable section

namespace Cert.Attn

open Idealize.ShloMosaic Idealize.ShloMosaic.TcCoe Idealize.SL.Sem Cert.KernelIdeal Cert.KernelIdeal.Gen

/-- `kernelForm` of equal scores, sinks and values. -/
theorem kernelForm_congr {s s' n n' V V' W W' : Fin 128 → EReal} {z z' : EReal} (hs : ∀ j, s j = s' j) (hn : ∀ j, n j = n' j) (hz : z = z')
    (hV : ∀ j, V j = V' j) (hW : ∀ j, W j = W' j) : kernelForm s n z V W = kernelForm s' n' z' V' W' := by
  rw [funext hs, funext hn, hz, funext hV, funext hW]

/-- The queries' load. -/
theorem ldQ (x : Vec Ideal S128x512 .f32) (k : Fin 64) (t : Fin 8) (l : Fin 128) :
    (View.ld x (rectQ k) : FVec Ideal S8x128 .f32) (ix2 t l) = x (ix2 ⟨8 * (k.val / 4) + t.val, by omega⟩ ⟨128 * (k.val % 4) + l.val, by omega⟩) :=
  congrArg x (by funext a; fin_cases a <;> exact Fin.ext (by simp [rectQ, Rect.emb_apply]))

/-- The new keys' load. -/
theorem ldK (x : Vec Ideal S128x128 .f32) (s : Fin 16) (t : Fin 8) (l : Fin 128) :
    (View.ld x (rectK s) : FVec Ideal S8x128 .f32) (ix2 t l) = x (ix2 ⟨8 * s.val + t.val, by omega⟩ l) :=
  congrArg x (by funext a; fin_cases a <;> exact Fin.ext (by simp [rectK, Rect.emb_apply]))

/-- The window's load. -/
theorem ldC (x : Vec Ideal S16x2x64x128 .f32) (s : Fin 16) (b : Fin 2) (d : Fin 64) (j : Fin 128) :
    (View.ld x (rectC s) : FVec Ideal S1x2x64x128 .f32) (ix4 0 b d j) = x (ix4 s b d j) :=
  congrArg x (by funext a; fin_cases a <;> exact Fin.ext (by simp [rectC, Rect.emb_apply]))

/-- A sink's load. -/
theorem ldS (x : Vec Ideal S8 .f32) (h : Fin 8) : View.ld x (rectS h) (Shape.Idx.first (s := S1) (by decide)) = x (ix1 h) :=
  congrArg x (by funext a; fin_cases a; exact Fin.ext (by simp [rectS]))

/-- Row `i` and column `n` of the attention's block. -/
def attAt (x0 : Vec Ideal S8 .f32) (x1 : Vec Ideal S128x512 .f32) (x2 x3 : Vec Ideal S128x128 .f32) (x4 x5 : Vec Ideal S16x2x64x128 .f32)
    (i : Fin 128) (n : Fin 512) : EReal :=
  kernelForm
    (fun j => if i.val % 8 < j.val then ∑ d : Fin 64, x1 (ix2 i ⟨64 * (n.val / 64) + d.val, by omega⟩) * Ideal.ofBits .f32 0x3E000000#32
      * x4 (ix4 ⟨i.val / 8, by omega⟩ ⟨n.val / 256, by omega⟩ d j) else ⊥)
    (fun j => if j.val ≤ i.val % 8 then ∑ d : Fin 64, x1 (ix2 i ⟨64 * (n.val / 64) + d.val, by omega⟩) * Ideal.ofBits .f32 0x3E000000#32
      * (if h : j.val < 8 then x2 (ix2 ⟨8 * (i.val / 8) + j.val, by omega⟩ ⟨64 * (n.val / 256) + d.val, by omega⟩) else 0) else ⊥)
    (x0 (ix1 ⟨n.val / 64, by omega⟩)) (fun j => x5 (ix4 ⟨i.val / 8, by omega⟩ ⟨n.val / 256, by omega⟩ ⟨n.val % 64, by omega⟩ j))
    (fun j => if h : j.val < 8 then x3 (ix2 ⟨8 * (i.val / 8) + j.val, by omega⟩ ⟨64 * (n.val / 256) + n.val % 64, by omega⟩) else 0)

/-- A matrix at equal rows and columns. -/
theorem at2 {a b : ℕ} (x : Shape.Idx ⟨2, ![a, b]⟩ → EReal) {i i' : Fin a} {j j' : Fin b} (hi : i.val = i'.val) (hj : j.val = j'.val) :
    x (ix2 i j) = x (ix2 i' j') := by
  rw [Fin.ext hi, Fin.ext hj]

/-- A window at equal places. -/
theorem at4 (x : Vec Ideal S16x2x64x128 .f32) {i i' : Fin 16} {j j' : Fin 2} {k k' : Fin 64} (l : Fin 128) (hi : i.val = i'.val)
    (hj : j.val = j'.val) (hk : k.val = k'.val) : x (ix4 i j k l) = x (ix4 i' j' k' l) := by
  rw [Fin.ext hi, Fin.ext hj, Fin.ext hk]

/-- A piece's row and column. -/
theorem itemAt_apply (x0 : Vec Ideal S8 .f32) (x1 : Vec Ideal S128x512 .f32) (x2 x3 : Vec Ideal S128x128 .f32) (x4 x5 : Vec Ideal S16x2x64x128 .f32)
    (k : Fin 64) (t : Fin 8) (c : Fin 128) : itemAt x0 x1 x2 x3 x4 x5 k (ix2 t c)
      = attAt x0 x1 x2 x3 x4 x5 ⟨8 * (k.val / 4) + t.val, by omega⟩ ⟨128 * (k.val % 4) + c.val, by omega⟩ := by
  refine (item_apply (k.val % 4 / 2) (by omega) (slices_head k) _ _ _ _ _ _ _ t c).trans ?_
  refine kernelForm_congr (fun j => ?_) (fun j => ?_) ?_ (fun j => ?_) (fun j => ?_)
  · refine if_congr (by first | rfl | omega | (simp only; omega)) (Finset.sum_congr rfl fun d _ => ?_) rfl
    rw [ldQ, ldC]
    refine congrArg₂ (· * ·) (congrArg (· * _) ?_) ?_
    · exact at2 x1 (by first | rfl | omega | (simp only; omega)) (by first | rfl | omega | (simp only; omega))
    · exact at4 x4 j (by first | rfl | omega | (simp only; omega)) (by first | rfl | omega | (simp only; omega)) (by first | rfl | omega | (simp only; omega))
  · refine if_congr (by first | rfl | omega | (simp only; omega)) (Finset.sum_congr rfl fun d _ => ?_) rfl
    rw [ldQ]
    refine congrArg₂ (· * ·) (congrArg (· * _) ?_) ?_
    · exact at2 x1 (by first | rfl | omega | (simp only; omega)) (by first | rfl | omega | (simp only; omega))
    · by_cases h : j.val < 8
      · rw [dif_pos h, dif_pos h, ldK]
        exact at2 x2 (by first | rfl | omega | (simp only; omega)) (by first | rfl | omega | (simp only; omega))
      · rw [dif_neg h, dif_neg h]
  · by_cases h : c.val < 64
    · rw [if_pos h, ldS]
      exact congrArg x0 (congrArg ix1 (Fin.ext (by first | rfl | omega | (simp only; omega))))
    · rw [if_neg h, ldS]
      exact congrArg x0 (congrArg ix1 (Fin.ext (by first | rfl | omega | (simp only; omega))))
  · rw [ldC]
    exact at4 x5 j (by first | rfl | omega | (simp only; omega)) (by first | rfl | omega | (simp only; omega)) (by first | rfl | omega | (simp only; omega))
  · by_cases h : j.val < 8
    · rw [dif_pos h, dif_pos h, ldK]
      exact at2 x3 (by first | rfl | omega | (simp only; omega)) (by first | rfl | omega | (simp only; omega))
    · rw [dif_neg h, dif_neg h]

/-- Sequence `s` of a block of windows. -/
def winAt (x2 : Vec Ideal S128x128 .f32) (x4 : Vec Ideal S16x2x64x128 .f32) (s : Fin 16) (b : Fin 2) (d : Fin 64) (p : Fin 128) : EReal :=
  if h : p.val < 120 then x4 (ix4 s b d ⟨p.val + 8, by omega⟩) else x2 (ix2 ⟨8 * s.val + (p.val - 120), by omega⟩ ⟨64 * b.val + d.val, by omega⟩)

/-- Where a piece's index goes in the attention's block. -/
theorem embQ (k : Fin 64) (t : Fin 8) (l : Fin 128) :
    (rectQ k).emb (ix2 t l) = ix2 ⟨8 * (k.val / 4) + t.val, by omega⟩ ⟨128 * (k.val % 4) + l.val, by omega⟩ := by
  funext a
  fin_cases a
  · exact Fin.ext (show 8 * (k.val / 4) + 1 * t.val = 8 * (k.val / 4) + t.val by omega)
  · exact Fin.ext (show 128 * (k.val % 4) + 1 * l.val = 128 * (k.val % 4) + l.val by omega)

/-- Where a window's index goes in the windows' block. -/
theorem embC (s : Fin 16) (z : Fin 1) (b : Fin 2) (d : Fin 64) (j : Fin 128) : (rectC s).emb (ix4 z b d j) = ix4 s b d j := by
  funext a
  fin_cases a
  · exact Fin.ext (show s.val + 1 * z.val = s.val by omega)
  · exact Fin.ext (show 0 + 1 * b.val = b.val by omega)
  · exact Fin.ext (show 0 + 1 * d.val = d.val by omega)
  · exact Fin.ext (show 0 + 1 * j.val = j.val by omega)

/-- A piece at an index of its own is the block at the place where it goes. -/
theorem piece6 (x0 : Vec Ideal S8 .f32) (x1 : Vec Ideal S128x512 .f32) (x2 x3 : Vec Ideal S128x128 .f32) (x4 x5 : Vec Ideal S16x2x64x128 .f32)
    (k : Fin 64) (u : S8x128.Idx) : itemAt x0 x1 x2 x3 x4 x5 k u
      = attAt x0 x1 x2 x3 x4 x5 ((rectQ k).emb u (0 : Fin 2)) ((rectQ k).emb u (1 : Fin 2)) := by
  idx_vars u
  refine (itemAt_apply x0 x1 x2 x3 x4 x5 k u0 u1).trans ?_
  exact (congrArg (fun y : S128x512.Idx => attAt x0 x1 x2 x3 x4 x5 (y (0 : Fin 2)) (y (1 : Fin 2))) (embQ k u0 u1)).symm

/-- The attention's pieces make up its block. -/
theorem canon6 (x0 : Vec Ideal S8 .f32) (x1 : Vec Ideal S128x512 .f32) (x2 x3 : Vec Ideal S128x128 .f32) (x4 x5 : Vec Ideal S16x2x64x128 .f32)
    (y : S128x512.Idx) (h : ∃ pc ∈ pieces6 x0 x1 x2 x3 x4 x5, y ∈ pc.1.set) :
    View.canon (Val := Elt Ideal) (pieces6 x0 x1 x2 x3 x4 x5) y = attAt x0 x1 x2 x3 x4 x5 (y (0 : Fin 2)) (y (1 : Fin 2)) := by
  let G : S128x512.Idx → EReal := fun y => attAt x0 x1 x2 x3 x4 x5 (y (0 : Fin 2)) (y (1 : Fin 2))
  suffices hp : ∀ p ∈ pieces6 x0 x1 x2 x3 x4 x5, ∀ u : p.fst.shape.Idx, p.snd u = G (p.fst.emb u) from
     View.canon_apply_of_pieces (Val := Elt Ideal) (e := .f32) G (pieces6 x0 x1 x2 x3 x4 x5) hp y h
  intro p hp
  unfold pieces6 at hp
  rw [List.mem_map] at hp
  obtain ⟨k, -, hk⟩ := hp
  subst hk
  exact piece6 x0 x1 x2 x3 x4 x5 k

/-- A window's piece at an index of its own is the block at the place where it goes. -/
theorem pieceW (x2 : Vec Ideal S128x128 .f32) (x4 : Vec Ideal S16x2x64x128 .f32) (s : Fin 16) (u : S1x2x64x128.Idx) :
    moved (View.ld x2 (rectK s)) (View.ld x4 (rectC s)) u
      = winAt x2 x4 ((rectC s).emb u (0 : Fin 4)) ((rectC s).emb u (1 : Fin 4)) ((rectC s).emb u (2 : Fin 4)) ((rectC s).emb u (3 : Fin 4)) := by
  idx_vars u
  refine (moved_apply _ _ u0 u1 u2 u3).trans ?_
  refine Eq.trans ?_ (congrArg (fun y : S16x2x64x128.Idx => winAt x2 x4 (y (0 : Fin 4)) (y (1 : Fin 4)) (y (2 : Fin 4)) (y (3 : Fin 4))) (embC s u0 u1 u2 u3)).symm
  change _ = winAt x2 x4 s u1 u2 u3
  unfold winAt
  by_cases h : u3.val < 120
  · rw [dif_pos h, dif_pos h, ldC]
  · rw [dif_neg h, dif_neg h, ldK]

/-- The windows' pieces make up their block. -/
theorem canonW (x2 : Vec Ideal S128x128 .f32) (x4 : Vec Ideal S16x2x64x128 .f32) (y : S16x2x64x128.Idx) (h : ∃ pc ∈ piecesW x2 x4, y ∈ pc.1.set) :
    View.canon (Val := Elt Ideal) (piecesW x2 x4) y = winAt x2 x4 (y (0 : Fin 4)) (y (1 : Fin 4)) (y (2 : Fin 4)) (y (3 : Fin 4)) := by
  refine View.canon_apply_of_pieces (Val := Elt Ideal) (e := .f32)
    (fun y => winAt x2 x4 (y (0 : Fin 4)) (y (1 : Fin 4)) (y (2 : Fin 4)) (y (3 : Fin 4))) _ ?_ y h
  intro p hp
  unfold piecesW at hp
  rw [List.mem_map] at hp
  obtain ⟨s, -, hs⟩ := hp
  subst hs
  exact pieceW x2 x4 s

/-- The attention's block after a step. -/
theorem out6_apply (c : Dev nD) (i : grid0.Coords) (arg1 : Memref sig .tc .smem S8 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S16x2x64x128 .f32) (harg5 : arg5.IsWhole) (arg6 : Memref sig .tc .vmem S16x2x64x128 .f32) (harg6 : arg6.IsWhole) (arg7 : Memref sig .tc .vmem S128x512 .f32) (harg7 : arg7.IsWhole) (arg8 : Memref sig .tc .vmem S16x2x64x128 .f32) (harg8 : arg8.IsWhole) (arg9 : Memref sig .tc .vmem S16x2x64x128 .f32) (harg9 : arg9.IsWhole)
    (x0 : Vec Ideal S8 .f32) (x1 : Vec Ideal S128x512 .f32) (x2 : Vec Ideal S128x128 .f32) (x3 : Vec Ideal S128x128 .f32) (x4 : Vec Ideal S16x2x64x128 .f32) (x5 : Vec Ideal S16x2x64x128 .f32)
    (y : S128x512.Idx) : out0_A_6 c i arg1 harg1 arg2 harg2 arg3 harg3 arg4 harg4 arg5 harg5 arg6 harg6 arg7 harg7 arg8 harg8 arg9 harg9 x0 x1 x2 x3 x4 x5 y = attAt x0 x1 x2 x3 x4 x5 (y (0 : Fin 2)) (y (1 : Fin 2)) := by
  have hc := cover0_A_6 c i arg1 harg1 arg2 harg2 arg3 harg3 arg4 harg4 arg5 harg5 arg6 harg6 arg7 harg7 arg8 harg8 arg9 harg9 x0 x1 x2 x3 x4 x5 y
  unfold out0_A_6
  rw [View.read_writes_junk_eq_canon]
  rw [run6] at hc ⊢
  simp only [Memref.IsWhole.read_unread] at hc ⊢
  exact canon6 x0 x1 x2 x3 x4 x5 y hc

/-- The keys' windows after a step. -/
theorem out7_apply (c : Dev nD) (i : grid0.Coords) (arg1 : Memref sig .tc .smem S8 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S16x2x64x128 .f32) (harg5 : arg5.IsWhole) (arg6 : Memref sig .tc .vmem S16x2x64x128 .f32) (harg6 : arg6.IsWhole) (arg7 : Memref sig .tc .vmem S128x512 .f32) (harg7 : arg7.IsWhole) (arg8 : Memref sig .tc .vmem S16x2x64x128 .f32) (harg8 : arg8.IsWhole) (arg9 : Memref sig .tc .vmem S16x2x64x128 .f32) (harg9 : arg9.IsWhole)
    (x0 : Vec Ideal S8 .f32) (x1 : Vec Ideal S128x512 .f32) (x2 : Vec Ideal S128x128 .f32) (x3 : Vec Ideal S128x128 .f32) (x4 : Vec Ideal S16x2x64x128 .f32) (x5 : Vec Ideal S16x2x64x128 .f32)
    (y : S16x2x64x128.Idx) : out0_A_7 c i arg1 harg1 arg2 harg2 arg3 harg3 arg4 harg4 arg5 harg5 arg6 harg6 arg7 harg7 arg8 harg8 arg9 harg9 x0 x1 x2 x3 x4 x5 y
      = winAt x2 x4 (y (0 : Fin 4)) (y (1 : Fin 4)) (y (2 : Fin 4)) (y (3 : Fin 4)) := by
  have hc := cover0_A_7 c i arg1 harg1 arg2 harg2 arg3 harg3 arg4 harg4 arg5 harg5 arg6 harg6 arg7 harg7 arg8 harg8 arg9 harg9 x0 x1 x2 x3 x4 x5 y
  unfold out0_A_7
  rw [View.read_writes_junk_eq_canon]
  rw [run7] at hc ⊢
  simp only [Memref.IsWhole.read_unread] at hc ⊢
  exact canonW x2 x4 y hc

/-- The values' windows after a step. -/
theorem out8_apply (c : Dev nD) (i : grid0.Coords) (arg1 : Memref sig .tc .smem S8 .f32) (harg1 : arg1.IsWhole) (arg2 : Memref sig .tc .vmem S128x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S16x2x64x128 .f32) (harg5 : arg5.IsWhole) (arg6 : Memref sig .tc .vmem S16x2x64x128 .f32) (harg6 : arg6.IsWhole) (arg7 : Memref sig .tc .vmem S128x512 .f32) (harg7 : arg7.IsWhole) (arg8 : Memref sig .tc .vmem S16x2x64x128 .f32) (harg8 : arg8.IsWhole) (arg9 : Memref sig .tc .vmem S16x2x64x128 .f32) (harg9 : arg9.IsWhole)
    (x0 : Vec Ideal S8 .f32) (x1 : Vec Ideal S128x512 .f32) (x2 : Vec Ideal S128x128 .f32) (x3 : Vec Ideal S128x128 .f32) (x4 : Vec Ideal S16x2x64x128 .f32) (x5 : Vec Ideal S16x2x64x128 .f32)
    (y : S16x2x64x128.Idx) : out0_A_8 c i arg1 harg1 arg2 harg2 arg3 harg3 arg4 harg4 arg5 harg5 arg6 harg6 arg7 harg7 arg8 harg8 arg9 harg9 x0 x1 x2 x3 x4 x5 y
      = winAt x3 x5 (y (0 : Fin 4)) (y (1 : Fin 4)) (y (2 : Fin 4)) (y (3 : Fin 4)) := by
  have hc := cover0_A_8 c i arg1 harg1 arg2 harg2 arg3 harg3 arg4 harg4 arg5 harg5 arg6 harg6 arg7 harg7 arg8 harg8 arg9 harg9 x0 x1 x2 x3 x4 x5 y
  unfold out0_A_8
  rw [View.read_writes_junk_eq_canon]
  rw [run8] at hc ⊢
  simp only [Memref.IsWhole.read_unread] at hc ⊢
  exact canonW x3 x5 y hc

end Cert.Attn

end
-- ==== Proof.AttnValue.lean ====
/-
  The samples' attention, the kernel's result arrays in terms of its arguments: 8 grid points, each of 16 sequences, which is 128
  rows of the queries.
-/
module

public import proofs.«01_k».proof.Proof.AttnBlk
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.Attn

open Idealize.ShloMosaic Idealize.ShloMosaic.TcCoe Idealize.SL.Sem Cert.KernelIdeal Cert.KernelIdeal.Gen

/-- Row `n` and column `w` of the attention, in the kernel's order: sequence `n / 8`, step `n % 8`, head `w / 64` and its pair of
    keys and values `w / 256`. -/
def kern (q : S1152x512.Idx → EReal) (k v : S1152x128.Idx → EReal) (ck cv : S1x128x128x2x64.Idx → EReal) (sk : S1x8.Idx → EReal)
    (n : Fin 1024) (w : Fin 512) : EReal :=
  kernelForm
    (fun j => if n.val % 8 < j.val then ∑ d : Fin 64, q (ix2 ⟨n.val, by omega⟩ ⟨64 * (w.val / 64) + d.val, by omega⟩) * Ideal.ofBits .f32 0x3E000000#32
      * ck (ix5 0 ⟨n.val / 8, by omega⟩ j ⟨w.val / 256, by omega⟩ d) else ⊥)
    (fun j => if j.val ≤ n.val % 8 then ∑ d : Fin 64, q (ix2 ⟨n.val, by omega⟩ ⟨64 * (w.val / 64) + d.val, by omega⟩) * Ideal.ofBits .f32 0x3E000000#32
      * (if h : j.val < 8 then k (ix2 ⟨8 * (n.val / 8) + j.val, by omega⟩ ⟨64 * (w.val / 256) + d.val, by omega⟩) else 0) else ⊥)
    (sk (ix2 0 ⟨w.val / 64, by omega⟩)) (fun j => cv (ix5 0 ⟨n.val / 8, by omega⟩ j ⟨w.val / 256, by omega⟩ ⟨w.val % 64, by omega⟩))
    (fun j => if h : j.val < 8 then v (ix2 ⟨8 * (n.val / 8) + j.val, by omega⟩ ⟨64 * (w.val / 256) + w.val % 64, by omega⟩) else 0)

/-- A window moved on by 8 steps: the last 120 kept, and the 8 new. -/
def wins (k : S1152x128.Idx → EReal) (ck : S1x128x128x2x64.Idx → EReal) (s : Fin 128) (b : Fin 2) (d : Fin 64) (p : Fin 128) : EReal :=
  if h : p.val < 120 then ck (ix5 0 s ⟨p.val + 8, by omega⟩ b d) else k (ix2 ⟨8 * s.val + (p.val - 120), by omega⟩ ⟨64 * b.val + d.val, by omega⟩)

variable (m : (ℓ : Loc nD τ sig) → Buf (Elt Ideal) ℓ)

/-- Where each window's block lies. -/
theorem idx : ∀ t : Fin cfg0.N, win0_0.index t = ![0] ∧ win0_1.index t = ![t.val, 0] ∧ win0_2.index t = ![t.val, 0]
    ∧ win0_3.index t = ![t.val, 0] ∧ win0_4.index t = ![t.val, 0, 0, 0] ∧ win0_5.index t = ![t.val, 0, 0, 0]
    ∧ win0_6.index t = ![t.val, 0] ∧ win0_7.index t = ![t.val, 0, 0, 0] ∧ win0_8.index t = ![t.val, 0, 0, 0] :=
  (by decide +kernel : ∀ t : Fin grid0.N, _)

/-- There are 8 grid points. -/
theorem lt8 (t : Fin cfg0.N) : t.val < 8 := t.isLt

/-- The sinks' block. -/
theorem blk0 (c : Dev nD) (t : Fin cfg0.N) (h : Fin 8) : iblk m c 0 t (ix1 h) = V m c main_v4 (ix1 h) := by
  unfold iblk
  blk_ext [idx t]

/-- The queries' block at a grid point. -/
theorem blk1 (c : Dev nD) (t : Fin cfg0.N) (i : Fin 128) (k : Fin 512) :
    iblk m c 1 t (ix2 i k) = V m c main_arg0 (ix2 ⟨128 * t.val + i.val, by have := lt8 t; omega⟩ k) := by
  have := lt8 t
  unfold iblk
  blk_ext [idx t]

/-- The new keys' block at a grid point. -/
theorem blk2 (c : Dev nD) (t : Fin cfg0.N) (i : Fin 128) (k : Fin 128) :
    iblk m c 2 t (ix2 i k) = V m c main_arg1 (ix2 ⟨128 * t.val + i.val, by have := lt8 t; omega⟩ k) := by
  have := lt8 t
  unfold iblk
  blk_ext [idx t]

/-- The new values' block at a grid point. -/
theorem blk3 (c : Dev nD) (t : Fin cfg0.N) (i : Fin 128) (k : Fin 128) :
    iblk m c 3 t (ix2 i k) = V m c main_arg2 (ix2 ⟨128 * t.val + i.val, by have := lt8 t; omega⟩ k) := by
  have := lt8 t
  unfold iblk
  blk_ext [idx t]

/-- The key windows' block at a grid point. -/
theorem blk4 (c : Dev nD) (t : Fin cfg0.N) (s : Fin 16) (b : Fin 2) (d : Fin 64) (j : Fin 128) :
    iblk m c 4 t (ix4 s b d j) = V m c main_v1 (ix4 ⟨16 * t.val + s.val, by have := lt8 t; omega⟩ b d j) := by
  have := lt8 t
  unfold iblk
  blk_ext [idx t]

/-- The value windows' block at a grid point. -/
theorem blk5 (c : Dev nD) (t : Fin cfg0.N) (s : Fin 16) (b : Fin 2) (d : Fin 64) (j : Fin 128) :
    iblk m c 5 t (ix4 s b d j) = V m c main_v3 (ix4 ⟨16 * t.val + s.val, by have := lt8 t; omega⟩ b d j) := by
  have := lt8 t
  unfold iblk
  blk_ext [idx t]

/-- The sinks in the arguments. -/
theorem entS (c : Dev nD) (h : Fin 8) : V m c main_v4 (ix1 h) = m ((c : Thread nD τ).loc main_arg5) (ix2 0 h) := by
  unfold V
  after_reads_at

/-- The queries are an argument. -/
theorem entQ (c : Dev nD) (i : Fin 1152) (k : Fin 512) : V m c main_arg0 (ix2 i k) = m ((c : Thread nD τ).loc main_arg0) (ix2 i k) := by
  unfold V
  after_reads_at

/-- The new keys are an argument. -/
theorem entK (c : Dev nD) (i : Fin 1152) (k : Fin 128) : V m c main_arg1 (ix2 i k) = m ((c : Thread nD τ).loc main_arg1) (ix2 i k) := by
  unfold V
  after_reads_at

/-- The new values are an argument. -/
theorem entV (c : Dev nD) (i : Fin 1152) (k : Fin 128) : V m c main_arg2 (ix2 i k) = m ((c : Thread nD τ).loc main_arg2) (ix2 i k) := by
  unfold V
  after_reads_at

/-- The key windows in the arguments. -/
theorem entCK (c : Dev nD) (s : Fin 128) (b : Fin 2) (d : Fin 64) (j : Fin 128) :
    V m c main_v1 (ix4 s b d j) = m ((c : Thread nD τ).loc main_arg3) (ix5 0 s j b d) := by
  unfold V
  after_reads_at

/-- The value windows in the arguments. -/
theorem entCV (c : Dev nD) (s : Fin 128) (b : Fin 2) (d : Fin 64) (j : Fin 128) :
    V m c main_v3 (ix4 s b d j) = m ((c : Thread nD τ).loc main_arg4) (ix5 0 s j b d) := by
  unfold V
  after_reads_at

/-- A matrix at equal rows and columns. -/
theorem eq2 {a b : ℕ} (x : Shape.Idx ⟨2, ![a, b]⟩ → EReal) {i i' : Fin a} {j j' : Fin b} (hi : i.val = i'.val) (hj : j.val = j'.val) :
    x (ix2 i j) = x (ix2 i' j') := by
  rw [Fin.ext hi, Fin.ext hj]

/-- The cached windows at equal places. -/
theorem eq5 (x : S1x128x128x2x64.Idx → EReal) {i i' : Fin 128} {k k' : Fin 2} {l l' : Fin 64} (j : Fin 128) (hi : i.val = i'.val)
    (hk : k.val = k'.val) (hl : l.val = l'.val) : x (ix5 0 i j k l) = x (ix5 0 i' j k' l') := by
  rw [Fin.ext hi, Fin.ext hk, Fin.ext hl]

/-- A grid point's attention is its rows of the whole. -/
theorem att_point (c : Dev nD) (t : Fin cfg0.N) (i : Fin 128) (w : Fin 512) :
    attAt (iblk m c 0 t) (iblk m c 1 t) (iblk m c 2 t) (iblk m c 3 t) (iblk m c 4 t) (iblk m c 5 t) i w
      = kern (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨128 * t.val + i.val, by have := lt8 t; omega⟩ w := by
  have h8 := lt8 t
  refine kernelForm_congr (fun j => ?_) (fun j => ?_) ?_ (fun j => ?_) (fun j => ?_)
  · refine if_congr (by first | rfl | omega | (simp only; omega)) (Finset.sum_congr rfl fun d _ => ?_) rfl
    refine congrArg₂ (· * ·) (congrArg (· * _) ?_) ?_
    · exact ((blk1 m c t _ _).trans (entQ m c _ _)).trans (eq2 _ (by first | rfl | omega | (simp only; omega)) (by first | rfl | omega | (simp only; omega)))
    · exact ((blk4 m c t _ _ _ _).trans (entCK m c _ _ _ _)).trans (eq5 _ j (by first | rfl | omega | (simp only; omega)) (by first | rfl | omega | (simp only; omega)) (by first | rfl | omega | (simp only; omega)))
  · refine if_congr (by first | rfl | omega | (simp only; omega)) (Finset.sum_congr rfl fun d _ => ?_) rfl
    refine congrArg₂ (· * ·) (congrArg (· * _) ?_) ?_
    · exact ((blk1 m c t _ _).trans (entQ m c _ _)).trans (eq2 _ (by first | rfl | omega | (simp only; omega)) (by first | rfl | omega | (simp only; omega)))
    · by_cases h : j.val < 8
      · rw [dif_pos h, dif_pos h]
        exact ((blk2 m c t _ _).trans (entK m c _ _)).trans (eq2 _ (by first | rfl | omega | (simp only; omega)) (by first | rfl | omega | (simp only; omega)))
      · rw [dif_neg h, dif_neg h]
  · exact ((blk0 m c t _).trans (entS m c _)).trans (eq2 _ (by first | rfl | omega | (simp only; omega)) (by first | rfl | omega | (simp only; omega)))
  · exact ((blk5 m c t _ _ _ _).trans (entCV m c _ _ _ _)).trans (eq5 _ j (by first | rfl | omega | (simp only; omega)) (by first | rfl | omega | (simp only; omega)) (by first | rfl | omega | (simp only; omega)))
  · by_cases h : j.val < 8
    · rw [dif_pos h, dif_pos h]
      exact ((blk3 m c t _ _).trans (entV m c _ _)).trans (eq2 _ (by first | rfl | omega | (simp only; omega)) (by first | rfl | omega | (simp only; omega)))
    · rw [dif_neg h, dif_neg h]

/-- A grid point's key windows are its sequences of the whole. -/
theorem winK_point (c : Dev nD) (t : Fin cfg0.N) (s : Fin 16) (b : Fin 2) (d : Fin 64) (p : Fin 128) :
    winAt (iblk m c 2 t) (iblk m c 4 t) s b d p
      = wins (m ((c : Thread nD τ).loc main_arg1)) (m ((c : Thread nD τ).loc main_arg3)) ⟨16 * t.val + s.val, by have := lt8 t; omega⟩ b d p := by
  have h8 := lt8 t
  unfold winAt wins
  by_cases h : p.val < 120
  · rw [dif_pos h, dif_pos h]
    exact (blk4 m c t _ _ _ _).trans (entCK m c _ _ _ _)
  · rw [dif_neg h, dif_neg h]
    exact ((blk2 m c t _ _).trans (entK m c _ _)).trans (eq2 _ (by first | rfl | omega | (simp only; omega)) (by first | rfl | omega | (simp only; omega)))

/-- A grid point's value windows are its sequences of the whole. -/
theorem winV_point (c : Dev nD) (t : Fin cfg0.N) (s : Fin 16) (b : Fin 2) (d : Fin 64) (p : Fin 128) :
    winAt (iblk m c 3 t) (iblk m c 5 t) s b d p
      = wins (m ((c : Thread nD τ).loc main_arg2)) (m ((c : Thread nD τ).loc main_arg4)) ⟨16 * t.val + s.val, by have := lt8 t; omega⟩ b d p := by
  have h8 := lt8 t
  unfold winAt wins
  by_cases h : p.val < 120
  · rw [dif_pos h, dif_pos h]
    exact (blk5 m c t _ _ _ _).trans (entCV m c _ _ _ _)
  · rw [dif_neg h, dif_neg h]
    exact ((blk3 m c t _ _).trans (entV m c _ _)).trans (eq2 _ (by first | rfl | omega | (simp only; omega)) (by first | rfl | omega | (simp only; omega)))

/-- What a grid point leaves of the attention. -/
theorem outs6 (c : Dev nD) (t : Fin cfg0.N) (y : S128x512.Idx) : (outsAt0 m c t).1 y
    = attAt (iblk m c 0 t) (iblk m c 1 t) (iblk m c 2 t) (iblk m c 3 t) (iblk m c 4 t) (iblk m c 5 t) (y (0 : Fin 2)) (y (1 : Fin 2)) := by
  unfold outsAt0
  dsimp only
  exact out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) y

/-- What a grid point leaves of the key windows. -/
theorem outs7 (c : Dev nD) (t : Fin cfg0.N) (y : S16x2x64x128.Idx) : (outsAt0 m c t).2.1 y
    = winAt (iblk m c 2 t) (iblk m c 4 t) (y (0 : Fin 4)) (y (1 : Fin 4)) (y (2 : Fin 4)) (y (3 : Fin 4)) := by
  unfold outsAt0
  dsimp only
  exact out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) y

/-- What a grid point leaves of the value windows. -/
theorem outs8 (c : Dev nD) (t : Fin cfg0.N) (y : S16x2x64x128.Idx) : (outsAt0 m c t).2.2 y
    = winAt (iblk m c 3 t) (iblk m c 5 t) (y (0 : Fin 4)) (y (1 : Fin 4)) (y (2 : Fin 4)) (y (3 : Fin 4)) := by
  unfold outsAt0
  dsimp only
  exact out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) y

/-- **The kernel's attention.** -/
theorem att_eq (c : Dev nD) : (dats m 0 c).arrAt 6 cfg0.N = fun y =>
    kern (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) := by
  refine (dats m 0 c).arrAt_eq_of_covers 6 _ (by decide +kernel) fun t hf y => ?_
  blk_simp
  rw [after0_6]
  change S128x512.Idx at y
  idx_vars y
  have := lt8 t
  have e : (win0_6.blk t).view.emb (ix2 y0 y1) = ix2 ⟨128 * t.val + y0.val, by omega⟩ y1 := by
    blk_ext [idx t]
  refine ((outs6 m c t (ix2 y0 y1)).trans (att_point m c t y0 y1)).trans ?_
  rw [e]
  rfl

/-- **The kernel's key windows.** -/
theorem winK_eq (c : Dev nD) : (dats m 0 c).arrAt 7 cfg0.N = fun y =>
    wins (m ((c : Thread nD τ).loc main_arg1)) (m ((c : Thread nD τ).loc main_arg3)) (y 0) (y 1) (y 2) (y 3) := by
  refine (dats m 0 c).arrAt_eq_of_covers 7 _ (by decide +kernel) fun t hf y => ?_
  blk_simp
  rw [after0_7]
  change S16x2x64x128.Idx at y
  idx_vars y
  have := lt8 t
  have e : (win0_7.blk t).view.emb (ix4 y0 y1 y2 y3) = ix4 ⟨16 * t.val + y0.val, by omega⟩ y1 y2 y3 := by
    blk_ext [idx t]
  refine ((outs7 m c t (ix4 y0 y1 y2 y3)).trans (winK_point m c t y0 y1 y2 y3)).trans ?_
  rw [e]
  rfl

/-- **The kernel's value windows.** -/
theorem winV_eq (c : Dev nD) : (dats m 0 c).arrAt 8 cfg0.N = fun y =>
    wins (m ((c : Thread nD τ).loc main_arg2)) (m ((c : Thread nD τ).loc main_arg4)) (y 0) (y 1) (y 2) (y 3) := by
  refine (dats m 0 c).arrAt_eq_of_covers 8 _ (by decide +kernel) fun t hf y => ?_
  blk_simp
  rw [after0_8]
  change S16x2x64x128.Idx at y
  idx_vars y
  have := lt8 t
  have e : (win0_8.blk t).view.emb (ix4 y0 y1 y2 y3) = ix4 ⟨16 * t.val + y0.val, by omega⟩ y1 y2 y3 := by
    blk_ext [idx t]
  refine ((outs8 m c t (ix4 y0 y1 y2 y3)).trans (winV_point m c t y0 y1 y2 y3)).trans ?_
  rw [e]
  rfl

end Cert.Attn

end
-- ==== Proof.AttnRef.lean ====
/-
  What the reference computes of the samples' attention, stage by stage: the keys of a window with the new ones after them, the
  masked scores, the softmax with the sink, and its product with the values (`plainForm`); and the windows moved on.
-/
module

public import proofs.«01_k».proof.Proof.AttnRead
public import proofs.«01_k».proof.Proof.Gen.ReferenceIdeal.Read
public import Idealize.ShloMosaic.Lib.Pipeline.ValueKit
public import Idealize.ShloMosaic.Lib.StableHlo.ReadAt

@[expose] public section

set_option maxRecDepth 16384

noncomputable section

namespace Cert.Attn

open Idealize.ShloMosaic Idealize.ShloMosaic.TcCoe Idealize.SL.Sem Cert.ReferenceIdeal Cert.ReferenceIdeal.Read

/-- The keys (or values) of sequence `s`: its window, then the new ones. -/
def catAt (k : S1152x128.Idx → EReal) (ck : S1x128x128x2x64.Idx → EReal) (s : Fin 128) (j : Fin 136) (b : Fin 2) (d : Fin 64) : EReal :=
  if h : j.val < 128 then ck (ix5 0 s ⟨j.val, h⟩ b d) else k (ix2 ⟨8 * s.val + (j.val - 128), by omega⟩ ⟨64 * b.val + d.val, by omega⟩)

/-- The product of a query with a key. -/
def dotAt (q : S1152x512.Idx → EReal) (k : S1152x128.Idx → EReal) (ck : S1x128x128x2x64.Idx → EReal)
    (s : Fin 128) (t : Fin 8) (b : Fin 2) (g : Fin 4) (j : Fin 136) : EReal :=
  ∑ d : Fin 64, catAt k ck s j b d * q (ix2 ⟨8 * s.val + t.val, by omega⟩ ⟨256 * b.val + 64 * g.val + d.val, by omega⟩)

/-- The score of a key for a query: those after the query, and those 128 or more before it, stand at −∞. -/
def scoreAt (q : S1152x512.Idx → EReal) (k : S1152x128.Idx → EReal) (ck : S1x128x128x2x64.Idx → EReal)
    (s : Fin 128) (t : Fin 8) (b : Fin 2) (g : Fin 4) (j : Fin 136) : EReal :=
  if j.val ≤ 128 + t.val ∧ t.val < j.val then dotAt q k ck s t b g j * Ideal.ofBits .f32 0x3E000000#32 else ⊥

variable (x0 : (⟨S1152x512, .f32⟩ : BufTy).Contents (Elt Ideal)) (x1 x2 : (⟨S1152x128, .f32⟩ : BufTy).Contents (Elt Ideal))
  (x3 x4 : (⟨S1x128x128x2x64, .f32⟩ : BufTy).Contents (Elt Ideal)) (x5 : (⟨S1x8, .f32⟩ : BufTy).Contents (Elt Ideal))

/-- A value read at an index of two coordinates. -/
theorem read2 {a b : ℕ} {α : Type} (x : Shape.Idx ⟨2, ![a, b]⟩ → α) (i : Shape.Idx ⟨2, ![a, b]⟩) (p : Fin a) (q : Fin b)
    (hp : (i 0).val = p.val) (hq : (i 1).val = q.val) : x i = x (ix2 p q) :=
  congrArg x (by funext d; fin_cases d <;> apply Fin.ext <;> assumption)

/-- A value read at an index of five coordinates. -/
theorem read5 {n0 n1 n2 n3 n4 : ℕ} {α : Type} (x : Shape.Idx ⟨5, ![n0, n1, n2, n3, n4]⟩ → α) (i : Shape.Idx ⟨5, ![n0, n1, n2, n3, n4]⟩)
    (p0 : Fin n0) (p1 : Fin n1) (p2 : Fin n2) (p3 : Fin n3) (p4 : Fin n4) (h0 : (i 0).val = p0.val) (h1 : (i 1).val = p1.val)
    (h2 : (i 2).val = p2.val) (h3 : (i 3).val = p3.val) (h4 : (i 4).val = p4.val) : x i = x (ix5 p0 p1 p2 p3 p4) :=
  congrArg x (by funext d; fin_cases d <;> apply Fin.ext <;> assumption)

/-- A window with the new keys after it, read at a position. -/
theorem cat_read (z : S128x128x2x64.Idx → EReal) (w : S128x8x2x64.Idx → EReal) (i : S128x136x2x64.Idx) :
    concatenate S128x136x2x64 1 [⟨S128x128x2x64, z⟩, ⟨S128x8x2x64, w⟩] Gen.concatenates_S128x128x2x64_S128x8x2x64_S128x136x2x64_d1 i
      = if h : (i 1).val < 128 then z (ix4 (i 0) ⟨(i 1).val, h⟩ (i 2) (i 3))
        else w (ix4 (i 0) ⟨(i 1).val - 128, by have := (i 1).isLt; change (i 1).val < 136 at this; omega⟩ (i 2) (i 3)) := by
  split_ifs with h
  · refine concatenate_pair_apply_left 1 z w _ i rfl _ fun b => ?_
    fin_cases b <;> rfl
  · refine concatenate_pair_apply_right 1 z w _ i rfl rfl _ (fun b hb => ?_) ?_
    · fin_cases b
      · rfl
      · exact absurd rfl hb
      · rfl
      · rfl
    · show (i 1).val - 128 + 128 = (i 1).val
      omega

/-- The keys, all of them. -/
theorem ref8 (i : S128x136x2x64.Idx) : val_main_v8 (F := Ideal) x1 x3 i = catAt x1 x3 (i 0) (i 1) (i 2) (i 3) := by
  have a0 : (i 0).val < 128 := (i 0).isLt
  have a1 : (i 1).val < 136 := (i 1).isLt
  have a2 : (i 2).val < 2 := (i 2).isLt
  have a3 : (i 3).val < 64 := (i 3).isLt
  refine (cat_read _ _ i).trans ?_
  unfold catAt
  by_cases h : (i 1).val < 128
  · rw [dif_pos h, dif_pos h]
    refine (val_main_v6_apply x3 _).trans (read5 x3 _ _ _ _ _ _ rfl ?_ ?_ ?_ ?_)
    · show ((((i 0).val * 128 + (i 1).val) * 2 + (i 2).val) * 64 + (i 3).val) / 16384 % 128 = (i 0).val; omega
    · show ((((i 0).val * 128 + (i 1).val) * 2 + (i 2).val) * 64 + (i 3).val) / 128 % 128 = (i 1).val; omega
    · show ((((i 0).val * 128 + (i 1).val) * 2 + (i 2).val) * 64 + (i 3).val) / 64 % 2 = (i 2).val; omega
    · show ((((i 0).val * 128 + (i 1).val) * 2 + (i 2).val) * 64 + (i 3).val) % 64 = (i 3).val; omega
  · rw [dif_neg h, dif_neg h]
    refine (val_main_v3_apply x1 _).trans ((val_main_v2_apply x1 _).trans (read2 x1 _ _ _ ?_ ?_))
    · show ((((i 0).val * 8 + ((i 1).val - 128)) * 2 + (i 2).val) * 64 + (i 3).val) / 128 = 8 * (i 0).val + ((i 1).val - 128); omega
    · show ((((i 0).val * 8 + ((i 1).val - 128)) * 2 + (i 2).val) * 64 + (i 3).val) % 128 = 64 * (i 2).val + (i 3).val; omega

/-- The values, all of them: the same of other arrays. -/
theorem ref9 (i : S128x136x2x64.Idx) : val_main_v9 (F := Ideal) x2 x4 i = catAt x2 x4 (i 0) (i 1) (i 2) (i 3) := ref8 x2 x4 i

/-- The queries. -/
theorem ref1 (i : S128x8x2x4x64.Idx) : val_main_v1 (F := Ideal) x0 i
    = x0 (ix2 ⟨8 * (i 0).val + (i 1).val, by have h0 : (i 0).val < 128 := (i 0).isLt; have h1 : (i 1).val < 8 := (i 1).isLt; omega⟩
        ⟨256 * (i 2).val + 64 * (i 3).val + (i 4).val, by
          have h2 : (i 2).val < 2 := (i 2).isLt; have h3 : (i 3).val < 4 := (i 3).isLt; have h4 : (i 4).val < 64 := (i 4).isLt; omega⟩) := by
  have a0 : (i 0).val < 128 := (i 0).isLt
  have a1 : (i 1).val < 8 := (i 1).isLt
  have a2 : (i 2).val < 2 := (i 2).isLt
  have a3 : (i 3).val < 4 := (i 3).isLt
  have a4 : (i 4).val < 64 := (i 4).isLt
  refine (val_main_v1_apply x0 i).trans ((val_main_v0_apply x0 _).trans (read2 x0 _ _ _ ?_ ?_))
  · show (((((i 0).val * 8 + (i 1).val) * 2 + (i 2).val) * 4 + (i 3).val) * 64 + (i 4).val) / 512 = 8 * (i 0).val + (i 1).val; omega
  · show (((((i 0).val * 8 + (i 1).val) * 2 + (i 2).val) * 4 + (i 3).val) * 64 + (i 4).val) % 512
      = 256 * (i 2).val + 64 * (i 3).val + (i 4).val
    omega

/-- The products of the queries with the keys. -/
theorem ref27 (i : S128x2x4x8x136.Idx) :
    val_main_v27 (F := Ideal) x0 x1 x3 i = dotAt x0 x1 x3 (i 0) (i 3) (i 1) (i 2) (i 4) :=
  (val_main_v27_apply x0 x1 x3 i).trans ((val_main_v26_apply x0 x1 x3 _).trans
    (Finset.sum_congr rfl fun d _ => congrArg₂ (· * ·) (ref8 x1 x3 _) (ref1 x0 _)))

/-- Which keys a query sees. -/
theorem ref24 : ∀ (t : Fin 8) (j : Fin 136),
    IntOp.andi (IntOp.cmpi .sle (BitVec.ofNat 32 j.val) (IntOp.addi 128#32 (BitVec.ofNat 32 t.val)))
      (IntOp.cmpi .slt (IntOp.subi (IntOp.addi 128#32 (BitVec.ofNat 32 t.val)) (BitVec.ofNat 32 j.val)) 128#32)
    = if j.val ≤ 128 + t.val ∧ t.val < j.val then 1#1 else 0#1 := by
  decide +kernel

/-- The mask, read at a position. -/
theorem mask_read (i : S128x2x4x8x136.Idx) :
    val_main_call0_v1 (F := Ideal) i = if (i 4).val ≤ 128 + (i 3).val ∧ (i 3).val < (i 4).val then 1#1 else 0#1 := by
  refine (val_main_call0_v1_apply i).trans ((val_main_v24_apply _).trans (Eq.trans ?_ (ref24 (i 3) (i 4))))
  refine congrArg₂ IntOp.andi ?_ ?_
  · refine (val_main_v18_apply _).trans (congrArg₂ (IntOp.cmpi .sle) ?_ ?_)
    · exact (val_main_v16_apply _).trans (val_main_v15_apply _)
    · exact (val_main_v17_apply _).trans (congrArg₂ IntOp.addi (val_main_v12_apply _) (val_main_v11_apply _))
  · refine (val_main_v23_apply _).trans (congrArg₂ (IntOp.cmpi .slt) ?_ ?_)
    · refine (val_main_v21_apply _).trans (congrArg₂ IntOp.subi ?_ ?_)
      · exact (val_main_v19_apply _).trans (congrArg₂ IntOp.addi (val_main_v12_apply _) (val_main_v11_apply _))
      · exact (val_main_v20_apply _).trans (val_main_v15_apply _)
    · exact val_main_v22_apply _

/-- The masked scores. -/
theorem ref30 (i : S128x2x4x8x136.Idx) :
    val_main_v30 (F := Ideal) x0 x1 x3 i = scoreAt x0 x1 x3 (i 0) (i 3) (i 1) (i 2) (i 4) := by
  refine (val_main_v30_apply x0 x1 x3 i).trans ?_
  rw [mask_read]
  unfold scoreAt
  split_ifs
  · refine congrArg₂ (· * ·) (ref27 x0 x1 x3 i) (val_main_v28_apply i)
  · exact (val_main_call0_v2_apply i).trans wbot

/-- The scores and, after them, the sink. -/
theorem ref33 (i : S128x2x4x8x137.Idx) : val_main_v33 (F := Ideal) x0 x1 x3 x5 i
    = withSink (scoreAt x0 x1 x3 (i 0) (i 3) (i 1) (i 2))
        (x5 (ix2 0 ⟨4 * (i 1).val + (i 2).val, by have h1 : (i 1).val < 2 := (i 1).isLt; have h2 : (i 2).val < 4 := (i 2).isLt; omega⟩)) (i 4) := by
  have a1 : (i 1).val < 2 := (i 1).isLt
  have a2 : (i 2).val < 4 := (i 2).isLt
  have a4 : (i 4).val < 137 := (i 4).isLt
  unfold withSink val_main_v33
  by_cases h : (i 4).val < 136
  · rw [dif_pos h]
    refine (concatenate_pair_apply_left (s₁ := S128x2x4x8x136) 4 _ _ _ i rfl (ix5 (i 0) (i 1) (i 2) (i 3) ⟨(i 4).val, h⟩) fun b => ?_).trans (ref30 x0 x1 x3 _)
    fin_cases b <;> rfl
  · rw [dif_neg h]
    refine (concatenate_pair_apply_right (s₁ := S128x2x4x8x136) (s₂ := S128x2x4x8x1) 4 _ _ _ i rfl rfl (ix5 (i 0) (i 1) (i 2) (i 3) 0) (fun b hb => ?_) ?_).trans ?_
    · fin_cases b
      · rfl
      · rfl
      · rfl
      · rfl
      · exact absurd rfl hb
    · show 0 + 136 = (i 4).val
      omega
    · refine (val_main_v32_apply x5 _).trans ((val_main_v31_apply x5 _).trans ((val_main_v25_apply x5 _).trans (read2 x5 _ _ _ rfl ?_)))
      show (((((i 1).val * 4 + (i 2).val) * 1 + 0) * 1 + 0)) % 8 = 4 * (i 1).val + (i 2).val
      omega

/-- The greatest score. -/
theorem ref36 (i : S128x2x4x8.Idx) : val_main_v36 (F := Ideal) x0 x1 x3 x5 i
    = plainPeak (scoreAt x0 x1 x3 (i 0) (i 3) (i 1) (i 2))
        (x5 (ix2 0 ⟨4 * (i 1).val + (i 2).val, by have h1 : (i 1).val < 2 := (i 1).isLt; have h2 : (i 2).val < 4 := (i 2).isLt; omega⟩)) := by
  refine (val_main_v36_apply x0 x1 x3 x5 i).trans ?_
  have e : val_main_v34 (F := Ideal) x0 x1 x3 x5 i
      = Finset.univ.fold max (Ideal.ofBits .f32 0xFF800000#32) fun k : Fin 137 => val_main_v33 (F := Ideal) x0 x1 x3 x5 (ix5 (i 0) (i 1) (i 2) (i 3) k) := by
    unfold val_main_v34 val_main_cst_2
    generalize val_main_v33 (F := Ideal) x0 x1 x3 x5 = z
    idx_vars i
    pointwise []
  rw [e, val_main_v35_apply]
  unfold plainPeak
  refine congrArg₂ max wbot ?_
  rw [wbot]
  exact congrArg (Finset.univ.fold max ⊥) (funext fun k => ref33 x0 x1 x3 x5 _)

/-- A weight before it is divided. -/
theorem ref40 (i : S128x2x4x8x137.Idx) : val_main_v40 (F := Ideal) x0 x1 x3 x5 i
    = Ideal.exp (withSink (scoreAt x0 x1 x3 (i 0) (i 3) (i 1) (i 2))
        (x5 (ix2 0 ⟨4 * (i 1).val + (i 2).val, by have h1 : (i 1).val < 2 := (i 1).isLt; have h2 : (i 2).val < 4 := (i 2).isLt; omega⟩)) (i 4)
      - plainPeak (scoreAt x0 x1 x3 (i 0) (i 3) (i 1) (i 2))
        (x5 (ix2 0 ⟨4 * (i 1).val + (i 2).val, by have h1 : (i 1).val < 2 := (i 1).isLt; have h2 : (i 2).val < 4 := (i 2).isLt; omega⟩))) := by
  refine (val_main_v40_apply x0 x1 x3 x5 i).trans (congrArg Ideal.exp ?_)
  refine (val_main_v39_apply x0 x1 x3 x5 i).trans (congrArg₂ (· - ·) (ref33 x0 x1 x3 x5 i) ?_)
  exact (val_main_v38_apply x0 x1 x3 x5 i).trans ((val_main_v37_apply x0 x1 x3 x5 _).trans (ref36 x0 x1 x3 x5 _))

/-- A weight. -/
theorem ref45 (i : S128x2x4x8x136.Idx) : val_main_v45 (F := Ideal) x0 x1 x3 x5 i
    = Ideal.div (val_main_v40 (F := Ideal) x0 x1 x3 x5 (idx_main_v45 i))
        (∑ k : Fin 137, val_main_v40 (F := Ideal) x0 x1 x3 x5 (ix5 (i 0) (i 1) (i 2) (i 3) k)) := by
  refine (val_main_v45_apply x0 x1 x3 x5 i).trans ((val_main_v44_apply x0 x1 x3 x5 _).trans (congrArg (Ideal.div _) ?_))
  refine (val_main_v43_apply x0 x1 x3 x5 _).trans ((val_main_v42_apply x0 x1 x3 x5 _).trans ((val_main_v41_apply x0 x1 x3 x5 _).trans ?_))
  refine (congrArg (· + _) (?_ : _ = (0 : EReal))).trans ((zero_add _).trans (Finset.sum_congr rfl fun k _ => ?_))
  · exact Ideal.ofBits_zero_f32
  · exact read5 _ _ _ _ _ _ _ rfl rfl rfl rfl rfl

/-- The attention of a query. -/
theorem ref47 (i : S128x8x2x4x64.Idx) : val_main_v47 (F := Ideal) x0 x1 x2 x3 x4 x5 i
    = plainForm (scoreAt x0 x1 x3 (i 0) (i 1) (i 2) (i 3))
        (x5 (ix2 0 ⟨4 * (i 2).val + (i 3).val, by have h1 : (i 2).val < 2 := (i 2).isLt; have h2 : (i 3).val < 4 := (i 3).isLt; omega⟩))
        (fun j => catAt x2 x4 (i 0) j (i 2) (i 4)) := by
  refine (val_main_v47_apply x0 x1 x2 x3 x4 x5 _).trans ((val_main_v46_apply x0 x1 x2 x3 x4 x5 _).trans ?_)
  unfold plainForm
  refine Finset.sum_congr rfl fun j _ => (mul_comm _ _).trans (congrArg₂ (· * ·) ?_ (ref9 x2 x4 _))
  refine (ref45 x0 x1 x3 x5 _).trans (congrArg₂ Ideal.div ?_ (Finset.sum_congr rfl fun k _ => ref40 x0 x1 x3 x5 _))
  refine (ref40 x0 x1 x3 x5 _).trans (congrArg Ideal.exp (congrArg (· - _) ?_))
  exact dif_pos j.isLt

/-- The same at a row and a column. -/
theorem ref48 (n : Fin 1024) (w : Fin 512) : val_main_v48 (F := Ideal) x0 x1 x2 x3 x4 x5 (ix2 n w)
    = plainForm (scoreAt x0 x1 x3 ⟨n.val / 8, by omega⟩ ⟨n.val % 8, by omega⟩ ⟨w.val / 256, by omega⟩ ⟨w.val / 64 % 4, by omega⟩)
        (x5 (ix2 0 ⟨w.val / 64, by omega⟩)) (fun j => catAt x2 x4 ⟨n.val / 8, by omega⟩ j ⟨w.val / 256, by omega⟩ ⟨w.val % 64, by omega⟩) := by
  refine (val_main_v48_apply x0 x1 x2 x3 x4 x5 _).trans ((read5 _ _ ⟨n.val / 8, by omega⟩ ⟨n.val % 8, by omega⟩ ⟨w.val / 256, by omega⟩
    ⟨w.val / 64 % 4, by omega⟩ ⟨w.val % 64, by omega⟩ ?_ ?_ ?_ ?_ ?_).trans ((ref47 x0 x1 x2 x3 x4 x5 _).trans ?_))
  · show (n.val * 512 + w.val) / 4096 = n.val / 8; omega
  · show (n.val * 512 + w.val) / 512 % 8 = n.val % 8; omega
  · show (n.val * 512 + w.val) / 256 % 2 = w.val / 256; omega
  · show (n.val * 512 + w.val) / 64 % 4 = w.val / 64 % 4; omega
  · show (n.val * 512 + w.val) % 64 = w.val % 64; omega
  · refine congrArg (fun z => plainForm _ z _) (read2 x5 _ _ _ rfl ?_)
    show 4 * (w.val / 256) + w.val / 64 % 4 = w.val / 64
    omega

/-- The keys' window moved on, channel first. -/
theorem ref50 (i : S128x2x64x128.Idx) : val_main_v50 (F := Ideal) x1 x3 i
    = catAt x1 x3 (i 0) ⟨8 + (i 3).val, by have h : (i 3).val < 128 := (i 3).isLt; omega⟩ (i 1) (i 2) :=
  (val_main_v50_apply x1 x3 i).trans ((val_main_v49_apply x1 x3 _).trans (ref8 x1 x3 _))

/-- The values' window moved on, channel first. -/
theorem ref52 (i : S128x2x64x128.Idx) : val_main_v52 (F := Ideal) x2 x4 i
    = catAt x2 x4 (i 0) ⟨8 + (i 3).val, by have h : (i 3).val < 128 := (i 3).isLt; omega⟩ (i 1) (i 2) := ref50 x2 x4 i

end Cert.Attn

end
-- ==== Proof.PostRow.lean ====
/-
  One row of the layer's end, over the extended reals, with no program in sight: the group norm of the scan's output,
  the gate, the output product added to the residual, the feed-forward network and the last norm. `row` is what both
  the kernel and the reference compute of a row; the lemmas are the two places where they spell it differently — the
  mean over a head's 64 columns as a product with a 0/1 matrix of 128 columns (`slab_sum`), in two parts of which the
  second is nothing for finite values (`two_part_sum`), and the factor 1/64 for the division by 64 (`mul_inv64`).
-/
module

public import Idealize.ShloMosaic.Lib.Pointwise

@[expose] public section

noncomputable section

namespace Cert.Post

open Idealize.ShloMosaic

/-- A row scaled by the reciprocal root of its mean square, times the weights. -/
def rms (y g : Fin 1024 → EReal) (d : Fin 1024) : EReal :=
  y d * Ideal.rsqrt (Ideal.div (∑ e, y e * y e) (Ideal.ofBits .f32 0x44800000#32) + Ideal.ofBits .f32 0x358637BD#32) * g d

/-- Column `k` of the head that column `c` lies in. -/
abbrev headCol (c : Fin 512) (k : Fin 64) : Fin 512 := ⟨64 * (c.val / 64) + k.val, by omega⟩

/-- The mean over a column's head. -/
def mean (o : Fin 512 → EReal) (c : Fin 512) : EReal :=
  Ideal.div (∑ k : Fin 64, o (headCol c k)) (Ideal.ofBits .f32 0x42800000#32)

/-- The row less its heads' means. -/
def cen (o : Fin 512 → EReal) (c : Fin 512) : EReal := o c - mean o c

/-- The heads' variances. -/
def var (o : Fin 512 → EReal) (c : Fin 512) : EReal := mean (fun c => cen o c * cen o c) c

/-- The scan's half of the mixer: normalised, scaled and shifted, the bonus added, gated. -/
def mix (o g bonus gng gnb : Fin 512 → EReal) (c : Fin 512) : EReal :=
  (cen o c * Ideal.rsqrt (var o c + Ideal.ofBits .f32 0x3A27C5AC#32) * gng c + gnb c + bonus c) * g c

/-- The residual after the mixer: the attention's half and the scan's half through their halves of the output matrix. -/
def resid (x : Fin 1024 → EReal) (att rw : Fin 512 → EReal) (wt wb : Fin 512 → Fin 1024 → EReal) (d : Fin 1024) : EReal :=
  x d + ∑ c, att c * wt c d + ∑ c, rw c * wb c d

/-- The gated unit of the feed-forward network. -/
def hid (u : Fin 1024 → EReal) (wg wu : Fin 1024 → Fin 2816 → EReal) (j : Fin 2816) : EReal :=
  (∑ d, u d * wg d j) * Ideal.div 1 (1 + Ideal.exp (-(∑ d, u d * wg d j))) * ∑ d, u d * wu d j

/-- The residual after the feed-forward network. -/
def ffn (x1 gf : Fin 1024 → EReal) (wg wu : Fin 1024 → Fin 2816 → EReal) (wd : Fin 2816 → Fin 1024 → EReal) (d : Fin 1024) : EReal :=
  x1 d + ∑ j, hid (rms x1 gf) wg wu j * wd j d

/-- The whole row. -/
def row (o g bonus att : Fin 512 → EReal) (x : Fin 1024 → EReal) (gng gnb : Fin 512 → EReal) (wt wb : Fin 512 → Fin 1024 → EReal)
    (gf : Fin 1024 → EReal) (wg wu : Fin 1024 → Fin 2816 → EReal) (wd : Fin 2816 → Fin 1024 → EReal) (gl : Fin 1024 → EReal) :
    Fin 1024 → EReal :=
  rms (ffn (resid x att (mix o g bonus gng gnb) wt wb) gf wg wu wd) gl

/-! ## The kernel's spellings -/

/-- The word of 64. -/
theorem w64 : Ideal.ofBits .f32 0x42800000#32 = ((64 : ℝ) : EReal) := by
  simp [Ideal.ofBits, Ideal.ieee]
  rw [← EReal.coe_mul]
  norm_num

/-- The word of 1/64. -/
theorem w64inv : Ideal.ofBits .f32 0x3C800000#32 = ((1 / 64 : ℝ) : EReal) := by
  simp [Ideal.ofBits, Ideal.ieee]
  rw [← EReal.coe_mul]
  norm_num

/-- Division by 64 is the product with 1/64. -/
theorem mul_inv64 (x : EReal) : x * Ideal.ofBits .f32 0x3C800000#32 = Ideal.div x (Ideal.ofBits .f32 0x42800000#32) := by
  rw [w64, w64inv, Ideal.div, if_neg (by exact_mod_cast (by norm_num : (64 : ℝ) ≠ 0)), ← EReal.coe_inv]
  norm_num

/-- A real number less itself. -/
theorem sub_self_of_real {x : EReal} (h : ∃ r : ℝ, x = r) : x - x = 0 := by
  obtain ⟨r, rfl⟩ := h
  rw [← EReal.coe_sub, sub_self, EReal.coe_zero]

/-- Column `l` of the 128 that column `c` lies in. -/
abbrev slabCol (c : Fin 512) (l : Fin 128) : Fin 512 := ⟨128 * (c.val / 128) + l.val, by omega⟩

/-- The sum over 128 columns, masked to the head of column `c`, is the sum over that head's 64. -/
theorem slab_sum (o : Fin 512 → EReal) (c : Fin 512) (ones : Fin 128 → EReal)
    (h : ∀ l : Fin 128, ones l = if l.val / 64 = c.val % 128 / 64 then 1 else 0) :
    ∑ l, o (slabCol c l) * ones l = ∑ k, o (headCol c k) := by
  have e : ∀ l : Fin 128, o (slabCol c l) * ones l = if l.val / 64 = c.val % 128 / 64 then o (slabCol c l) else 0 := by
    intro l; rw [h]; split <;> simp
  rw [Finset.sum_congr rfl fun l _ => e l, ← Finset.sum_filter]
  symm
  refine Finset.sum_bij (fun k _ => (⟨64 * (c.val % 128 / 64) + k.val, by omega⟩ : Fin 128)) ?_ ?_ ?_ ?_
  · intro k _; rw [Finset.mem_filter]; exact ⟨Finset.mem_univ _, by simp only; omega⟩
  · intro a _ b _ hab
    have := Fin.mk.inj hab
    exact Fin.ext (by omega)
  · intro l hl
    have hl := (Finset.mem_filter.mp hl).2
    exact ⟨⟨l.val - 64 * (c.val % 128 / 64), by omega⟩, Finset.mem_univ _, Fin.ext (by simp only; omega)⟩
  · intro k _
    congr 1
    exact Fin.ext (by simp only; omega)

/-- The head sum in two parts, of which the second sees nothing of finite values. -/
theorem two_part_sum (o : Fin 512 → EReal) (hr : ∀ c, ∃ r : ℝ, o c = r) (c : Fin 512) (ones : Fin 128 → EReal)
    (h : ∀ l : Fin 128, ones l = if l.val / 64 = c.val % 128 / 64 then 1 else 0) :
    ∑ l, o (slabCol c l) * ones l + ∑ l, (o (slabCol c l) - o (slabCol c l)) * ones l = ∑ k, o (headCol c k) := by
  have z : ∑ l, (o (slabCol c l) - o (slabCol c l)) * ones l = 0 :=
    Finset.sum_eq_zero fun l _ => by rw [sub_self_of_real (hr _), zero_mul]
  rw [slab_sum o c ones h, z, add_zero]

/-- The mean over a column's head from one group of 128 columns: `g` names the group's columns, `m` the column in it. -/
theorem slab_mean (f : Fin 512 → EReal) (hr : ∀ c, ∃ r : ℝ, f c = r) (ones : Fin 128 → Fin 128 → EReal)
    (h1 : ∀ l m : Fin 128, ones l m = if l.val / 64 = m.val / 64 then 1 else 0) (c : Fin 512) (g : Fin 128 → Fin 512)
    (hg : ∀ x, (g x).val = 128 * (c.val / 128) + x.val) (m : Fin 128) (hm : m.val = c.val % 128) :
    (∑ x, f (g x) * ones x m + ∑ x, (f (g x) - f (g x)) * ones x m) * Ideal.ofBits .f32 0x3C800000#32 = mean f c := by
  rw [mul_inv64, mean]
  have e : g = slabCol c := funext fun x => Fin.ext (hg x)
  subst e
  rw [two_part_sum f hr c (fun l => ones l m) fun l => by rw [h1, hm]]

/-- The mean over a column's head, the group chosen by the column. -/
theorem ladder_mean (f : Fin 512 → EReal) (hr : ∀ c, ∃ r : ℝ, f c = r) (ones : Fin 128 → Fin 128 → EReal)
    (h1 : ∀ l m : Fin 128, ones l m = if l.val / 64 = m.val / 64 then 1 else 0) (c : Fin 512) :
    (if h : c.val < 128 then
        ∑ x : Fin 128, f ⟨x.val, by omega⟩ * ones x ⟨c.val, h⟩
          + ∑ x : Fin 128, (f ⟨x.val, by omega⟩ - f ⟨x.val, by omega⟩) * ones x ⟨c.val, h⟩
      else if h : c.val - 128 < 128 then
        ∑ x : Fin 128, f ⟨128 + x.val, by omega⟩ * ones x ⟨c.val - 128, h⟩
          + ∑ x : Fin 128, (f ⟨128 + x.val, by omega⟩ - f ⟨128 + x.val, by omega⟩) * ones x ⟨c.val - 128, h⟩
      else if h : c.val - 128 - 128 < 128 then
        ∑ x : Fin 128, f ⟨256 + x.val, by omega⟩ * ones x ⟨c.val - 128 - 128, h⟩
          + ∑ x : Fin 128, (f ⟨256 + x.val, by omega⟩ - f ⟨256 + x.val, by omega⟩) * ones x ⟨c.val - 128 - 128, h⟩
      else
        ∑ x : Fin 128, f ⟨384 + x.val, by omega⟩ * ones x ⟨c.val - 128 - 128 - 128, by omega⟩
          + ∑ x : Fin 128, (f ⟨384 + x.val, by omega⟩ - f ⟨384 + x.val, by omega⟩) * ones x ⟨c.val - 128 - 128 - 128, by omega⟩)
      * Ideal.ofBits .f32 0x3C800000#32 = mean f c := by
  have hc := c.isLt
  split
  · exact slab_mean f hr ones h1 c (fun x => ⟨x.val, by omega⟩) (fun x => by simp only; omega) _ (by simp only; omega)
  split
  · exact slab_mean f hr ones h1 c (fun x => ⟨128 + x.val, by omega⟩) (fun x => by simp only; omega) _ (by simp only; omega)
  split
  · exact slab_mean f hr ones h1 c (fun x => ⟨256 + x.val, by omega⟩) (fun x => by simp only; omega) _ (by simp only; omega)
  · exact slab_mean f hr ones h1 c (fun x => ⟨384 + x.val, by omega⟩) (fun x => by simp only; omega) _ (by simp only; omega)

/-- A finite sum of real numbers is one. -/
theorem real_sum {ι : Type} (s : Finset ι) (f : ι → EReal) (h : ∀ i, ∃ r : ℝ, f i = r) : ∃ r : ℝ, ∑ i ∈ s, f i = r := by
  classical
  refine Finset.sum_induction f (fun x => ∃ r : ℝ, x = r) ?_ ⟨0, EReal.coe_zero.symm⟩ fun i _ => h i
  rintro _ _ ⟨a, rfl⟩ ⟨b, rfl⟩
  exact ⟨a + b, (EReal.coe_add a b).symm⟩

/-- The mean of real numbers is one. -/
theorem real_mean (o : Fin 512 → EReal) (hr : ∀ c, ∃ r : ℝ, o c = r) (c : Fin 512) : ∃ r : ℝ, mean o c = r := by
  obtain ⟨s, hs⟩ := real_sum Finset.univ (fun k : Fin 64 => o (headCol c k)) fun k => hr _
  exact ⟨s * (1 / 64), by rw [mean, ← mul_inv64, hs, w64inv, EReal.coe_mul]⟩

/-- So are the centred row's entries. -/
theorem real_cen (o : Fin 512 → EReal) (hr : ∀ c, ∃ r : ℝ, o c = r) (c : Fin 512) : ∃ r : ℝ, cen o c = r := by
  obtain ⟨a, ha⟩ := hr c
  obtain ⟨b, hb⟩ := real_mean o hr c
  exact ⟨a - b, by rw [cen, ha, hb, EReal.coe_sub]⟩

/-- And their squares. -/
theorem real_sq (o : Fin 512 → EReal) (hr : ∀ c, ∃ r : ℝ, o c = r) (c : Fin 512) : ∃ r : ℝ, cen o c * cen o c = r := by
  obtain ⟨a, ha⟩ := real_cen o hr c
  exact ⟨a * a, by rw [ha, EReal.coe_mul]⟩

/-! ## The reference's spelling -/

/-- The product of the two halves side by side with the whole output matrix. -/
theorem halves_sum (f g : Fin 512 → EReal) (w : Fin 1024 → EReal) :
    ∑ c : Fin 1024, (if h : c.val < 512 then f ⟨c.val, h⟩ else g ⟨c.val - 512, by omega⟩) * w c
      = ∑ c : Fin 512, f c * w ⟨c.val, by omega⟩ + ∑ c : Fin 512, g c * w ⟨512 + c.val, by omega⟩ := by
  refine (Fin.sum_univ_add (a := 512) (b := 512) _).trans ?_
  refine congrArg₂ (· + ·) (Finset.sum_congr rfl fun c _ => ?_) (Finset.sum_congr rfl fun c _ => ?_)
  · rw [dif_pos (by simp)]
    rfl
  · rw [dif_neg (by simp)]
    exact congrArg₂ (· * ·) (congrArg g (Fin.ext (by simp))) (congrArg w (Fin.ext (by simp [Nat.add_comm])))

end Cert.Post

end
-- ==== Proof.PostPay.lean ====
/-
  The kernel's stages, each at an entry: what a stage computes of its operands' rows. A block of 512 rows is worked on in
  two halves of 256 whose stages are cut differently, so a stage may occur once for each half.
-/
module

public import proofs.«01_k».proof.Proof.PostRow
public import proofs.«01_k».proof.Proof.Gen.Kernel2Ideal.Value

@[expose] public section

set_option maxRecDepth 16384

noncomputable section

namespace Cert.Post

open Idealize.ShloMosaic Cert.Kernel2Ideal Cert.Kernel2Ideal.Gen

/-- Row `i` of a block. -/
abbrev brow {n k : ℕ} (x : (⟨2, ![n, k]⟩ : Shape).Idx → EReal) (i : Fin n) (c : Fin k) : EReal := x (ix2 i c)

/-- The 0/1 matrix that says which of 128 columns share a head. -/
def IsOnes (ones : FVec Ideal S128x128 .bf16) : Prop :=
  ∀ l m : Fin 128, ones (ix2 l m) = if l.val / 64 = m.val / 64 then 1 else 0

/-- The heads' means of the upper half's rows, as the kernel multiplies them out. -/
theorem pay6_apply (ones : FVec Ideal S128x128 .bf16) (h1 : IsOnes ones) (o : FVec Ideal S256x512 .f32)
    (hr : ∀ i, ∃ r : ℝ, o i = r) (i : Fin 256) (c : Fin 512) :
    (k0_pay6 ones o : FVec Ideal S256x512 .f32) (ix2 i c) = mean (brow o i) c := by
  pointwise [k0_pay6, k0_pay4, k0_pay3]
  exact ladder_mean (brow o i) (fun c => hr _) (fun l m => ones (ix2 l m)) h1 c

/-- The lower half's rows less their heads' means. -/
theorem pay11_apply (ones : FVec Ideal S128x128 .bf16) (h1 : IsOnes ones) (o : FVec Ideal S256x512 .f32)
    (hr : ∀ i, ∃ r : ℝ, o i = r) (i : Fin 256) (c : Fin 512) :
    (k0_pay11 (k0_pay3 ones) (k0_pay5 o) (k0_pay7 o) (k0_pay8 o) (k0_pay9 ones o) : FVec Ideal S256x512 .f32) (ix2 i c)
      = cen (brow o i) c := by
  pointwise [k0_pay11, k0_pay9, k0_pay8, k0_pay7, k0_pay5, k0_pay3]
  rw [cen, ← ladder_mean (brow o i) (fun c => hr _) (fun l m => ones (ix2 l m)) h1 c]

/-- The heads' variances of the lower half's rows, from the centred rows. -/
theorem pay19_apply (ones : FVec Ideal S128x128 .bf16) (h1 : IsOnes ones) (o oc : FVec Ideal S256x512 .f32)
    (hr : ∀ i, ∃ r : ℝ, o i = r) (hc : ∀ i c, oc (ix2 i c) = cen (brow o i) c) (i : Fin 256) (c : Fin 512) :
    (k0_pay19 (k0_pay3 ones) oc : FVec Ideal S256x512 .f32) (ix2 i c) = var (brow o i) c := by
  pointwise [k0_pay19, k0_pay3, var]
  simp only [hc]
  exact ladder_mean (fun c => cen (brow o i) c * cen (brow o i) c) (real_sq _ fun c => hr _) (fun l m => ones (ix2 l m)) h1 c

/-- The scan's half of the mixer, lower half's rows. -/
theorem pay21_apply (o oc v : FVec Ideal S256x512 .f32) (hc : ∀ i c, oc (ix2 i c) = cen (brow o i) c)
    (hv : ∀ i c, v (ix2 i c) = var (brow o i) c) (gng gnb : FVec Ideal S1x512 .f32) (bonus g : FVec Ideal S256x512 .f32)
    (i : Fin 256) (c : Fin 512) :
    (k0_pay21 oc v gng gnb bonus g : FVec Ideal S256x512 .bf16) (ix2 i c)
      = mix (brow o i) (brow g i) (brow bonus i) (brow gng 0) (brow gnb 0) c := by
  pointwise [k0_pay21, mix, hc, hv]

/-- The normalised, scaled and shifted rows of the upper half. -/
theorem pay20_apply (ones : FVec Ideal S128x128 .bf16) (h1 : IsOnes ones) (o mn : FVec Ideal S256x512 .f32)
    (hr : ∀ i, ∃ r : ℝ, o i = r) (hm : ∀ i c, mn (ix2 i c) = mean (brow o i) c) (gng gnb : FVec Ideal S1x512 .f32)
    (i : Fin 256) (c : Fin 512) :
    (k0_pay20 (k0_pay10 (k0_pay4 o) mn) (k0_pay15 (k0_pay3 ones) (k0_pay4 o) mn) (k0_pay16 (k0_pay3 ones) (k0_pay4 o) mn)
        (k0_pay17 (k0_pay3 ones) (k0_pay4 o) mn) (k0_pay18 (k0_pay3 ones) (k0_pay4 o) mn) gng gnb
        : FVec Ideal S256x512 .f32) (ix2 i c)
      = cen (brow o i) c * Ideal.rsqrt (var (brow o i) c + Ideal.ofBits .f32 0x3A27C5AC#32) * gng (ix2 0 c) + gnb (ix2 0 c) := by
  pointwise [k0_pay20, k0_pay18, k0_pay17, k0_pay16, k0_pay15, k0_pay14, k0_pay13, k0_pay12, k0_pay10, k0_pay4, k0_pay3]
  simp only [hm]
  rw [var, ← ladder_mean (fun c => cen (brow o i) c * cen (brow o i) c) (real_sq _ fun c => hr _) (fun l m => ones (ix2 l m)) h1 c]
  rfl

/-- The residual after the mixer, upper half's rows. -/
theorem pay22_apply (nrm bonus g : FVec Ideal S256x512 .f32) (x : FVec Ideal S256x1024 .f32) (att : FVec Ideal S256x512 .bf16)
    (wt wb : FVec Ideal S512x1024 .bf16) (i : Fin 256) (d : Fin 1024) :
    k0_pay22 nrm bonus g x att wt wb (ix2 i d)
      = resid (brow x i) (brow att i) (fun c => (nrm (ix2 i c) + bonus (ix2 i c)) * g (ix2 i c)) (fun c d => wt (ix2 c d))
          (fun c d => wb (ix2 c d)) d := by
  pointwise [k0_pay22, resid]

/-- The last norm, upper half's rows. -/
theorem pay1_apply (x : FVec Ideal S256x1024 .f32) (g : FVec Ideal S1x1024 .f32) (i : Fin 256) (d : Fin 1024) :
    k0_pay1 x g (ix2 i d) = rms (brow x i) (brow g 0) d := by
  pointwise [k0_pay1, rms]

/-- The residual after the feed-forward network, upper half's rows. -/
theorem pay27_apply (x : FVec Ideal S256x1024 .f32) (u : FVec Ideal S256x1024 .bf16) (wg wu : FVec Ideal S1024x2816 .bf16)
    (wd : FVec Ideal S2816x1024 .bf16) (i : Fin 256) (d : Fin 1024) :
    k0_pay27 x u wg wu wd (ix2 i d) = brow x i d + ∑ j, hid (brow u i) (fun d j => wg (ix2 d j)) (fun d j => wu (ix2 d j)) j * wd (ix2 j d) := by
  pointwise [k0_pay27, hid]
  simp only [sub_eq_add_neg, zero_add]

/-- The norm before the feed-forward network, upper half's rows. -/
theorem pay24_apply (x : FVec Ideal S256x1024 .f32) (g : FVec Ideal S1x1024 .f32) (i : Fin 256) (d : Fin 1024) :
    k0_pay24 x g (ix2 i d) = rms (brow x i) (brow g 0) d := by
  pointwise [k0_pay24, rms]

/-- The residual after the mixer, lower half's rows. -/
theorem pay23_apply (rw : FVec Ideal S256x512 .bf16) (x : FVec Ideal S256x1024 .f32) (att : FVec Ideal S256x512 .bf16)
    (wt wb : FVec Ideal S512x1024 .bf16) (i : Fin 256) (d : Fin 1024) :
    k0_pay23 rw x att wt wb (ix2 i d) = resid (brow x i) (brow att i) (brow rw i) (fun c d => wt (ix2 c d)) (fun c d => wb (ix2 c d)) d := by
  pointwise [k0_pay23, resid]

/-- The norm before the feed-forward network, lower half's rows. -/
theorem pay25_apply (rw : FVec Ideal S256x512 .bf16) (x : FVec Ideal S256x1024 .f32) (att : FVec Ideal S256x512 .bf16)
    (wt wb : FVec Ideal S512x1024 .bf16) (g : FVec Ideal S1x1024 .f32) (i : Fin 256) (d : Fin 1024) :
    k0_pay25 rw x att wt wb g (ix2 i d) = rms (brow (k0_pay23 rw x att wt wb) i) (brow g 0) d := by
  pointwise [k0_pay25, rms]

/-- The hidden layer, lower half's rows. -/
theorem pay26_apply (u : FVec Ideal S256x1024 .f32) (wg wu : FVec Ideal S1024x2816 .bf16) (i : Fin 256) (j : Fin 2816) :
    k0_pay26 u wg wu (ix2 i j) = hid (brow u i) (fun d j => wg (ix2 d j)) (fun d j => wu (ix2 d j)) j := by
  pointwise [k0_pay26, hid]
  simp only [sub_eq_add_neg, zero_add]

/-- The second residual and the last norm, lower half's rows. -/
theorem pay2_apply (x1 : FVec Ideal S256x1024 .f32) (h : FVec Ideal S256x2816 .bf16) (wd : FVec Ideal S2816x1024 .bf16)
    (g : FVec Ideal S1x1024 .f32) (i : Fin 256) (d : Fin 1024) :
    k0_pay2 x1 h wd g (ix2 i d) = rms (fun d => x1 (ix2 i d) + ∑ j, h (ix2 i j) * wd (ix2 j d)) (brow g 0) d := by
  pointwise [k0_pay2, rms]

end Cert.Post
end
-- ==== Proof.PostBlock.lean ====
/-
  What one grid point of the layer's end writes: its 512 rows, stored as two halves of 256, are `Cert.Post.row` of the
  blocks' rows.
-/
module

public import proofs.«01_k».proof.Proof.PostPay

@[expose] public section

set_option maxRecDepth 16384

noncomputable section

namespace Cert.Post

open Idealize.ShloMosaic Cert.Kernel2Ideal Cert.Kernel2Ideal.Gen

/-- The upper half's payload is the row function of the loaded rows. -/
theorem upper_apply (ones : FVec Ideal S128x128 .bf16) (h1 : IsOnes ones) (o bonus g : FVec Ideal S256x512 .f32)
    (hr : ∀ i, ∃ r : ℝ, o i = r) (att : FVec Ideal S256x512 .bf16) (x : FVec Ideal S256x1024 .f32)
    (gng gnb : FVec Ideal S1x512 .f32) (wt wb : FVec Ideal S512x1024 .bf16) (gf gl : FVec Ideal S1x1024 .f32)
    (wg wu : FVec Ideal S1024x2816 .bf16) (wd : FVec Ideal S2816x1024 .bf16) (x1 : FVec Ideal S256x1024 .f32)
    (hx : x1 = k0_pay22 (k0_pay20 (k0_pay10 (k0_pay4 o) (k0_pay6 ones o)) (k0_pay15 (k0_pay3 ones) (k0_pay4 o) (k0_pay6 ones o))
        (k0_pay16 (k0_pay3 ones) (k0_pay4 o) (k0_pay6 ones o)) (k0_pay17 (k0_pay3 ones) (k0_pay4 o) (k0_pay6 ones o))
        (k0_pay18 (k0_pay3 ones) (k0_pay4 o) (k0_pay6 ones o)) gng gnb) bonus g x att wt wb)
    (i : Fin 256) (d : Fin 1024) :
    (k0_pay1 (k0_pay27 x1 (k0_pay24 x1 gf) wg wu wd) gl : FVec Ideal S256x1024 .f32) (ix2 i d)
      = row (brow o i) (brow g i) (brow bonus i) (brow att i) (brow x i) (brow gng 0) (brow gnb 0) (fun c d => wt (ix2 c d))
          (fun c d => wb (ix2 c d)) (brow gf 0) (fun d j => wg (ix2 d j)) (fun d j => wu (ix2 d j)) (fun j d => wd (ix2 j d))
          (brow gl 0) d := by
  have e1 : brow x1 i = resid (brow x i) (brow att i) (mix (brow o i) (brow g i) (brow bonus i) (brow gng 0) (brow gnb 0))
      (fun c d => wt (ix2 c d)) (fun c d => wb (ix2 c d)) := by
    funext d
    show x1 (ix2 i d) = _
    rw [hx, pay22_apply]
    refine congrArg (fun f => resid _ _ f _ _ d) (funext fun c => ?_)
    rw [pay20_apply ones h1 o _ hr (pay6_apply ones h1 o hr)]
    rfl
  have e2 : brow (k0_pay24 x1 gf) i = rms (brow x1 i) (brow gf 0) := funext fun d => pay24_apply x1 gf i d
  have e3 : brow (k0_pay27 x1 (k0_pay24 x1 gf) wg wu wd) i
      = ffn (brow x1 i) (brow gf 0) (fun d j => wg (ix2 d j)) (fun d j => wu (ix2 d j)) (fun j d => wd (ix2 j d)) := by
    funext d
    rw [brow, pay27_apply, e2]
    rfl
  rw [pay1_apply, e3, e1]
  rfl

/-- The lower half's payload is the row function of the loaded rows. -/
theorem lower_apply (ones : FVec Ideal S128x128 .bf16) (h1 : IsOnes ones) (o bonus g : FVec Ideal S256x512 .f32)
    (hr : ∀ i, ∃ r : ℝ, o i = r) (att : FVec Ideal S256x512 .bf16) (x : FVec Ideal S256x1024 .f32)
    (gng gnb : FVec Ideal S1x512 .f32) (wt wb : FVec Ideal S512x1024 .bf16) (gf gl : FVec Ideal S1x1024 .f32)
    (wg wu : FVec Ideal S1024x2816 .bf16) (wd : FVec Ideal S2816x1024 .bf16) (oc : FVec Ideal S256x512 .f32)
    (ho : oc = k0_pay11 (k0_pay3 ones) (k0_pay5 o) (k0_pay7 o) (k0_pay8 o) (k0_pay9 ones o)) (rw : FVec Ideal S256x512 .bf16)
    (hw : rw = k0_pay21 oc (k0_pay19 (k0_pay3 ones) oc) gng gnb bonus g) (i : Fin 256) (d : Fin 1024) :
    (k0_pay2 (k0_pay23 rw x att wt wb) (k0_pay26 (k0_pay25 rw x att wt wb gf) wg wu) wd gl : FVec Ideal S256x1024 .f32) (ix2 i d)
      = row (brow o i) (brow g i) (brow bonus i) (brow att i) (brow x i) (brow gng 0) (brow gnb 0) (fun c d => wt (ix2 c d))
          (fun c d => wb (ix2 c d)) (brow gf 0) (fun d j => wg (ix2 d j)) (fun d j => wu (ix2 d j)) (fun j d => wd (ix2 j d))
          (brow gl 0) d := by
  have hc : ∀ i c, oc (ix2 i c) = cen (brow o i) c := fun i c => by rw [ho]; exact pay11_apply ones h1 o hr i c
  have e0 : brow rw i = mix (brow o i) (brow g i) (brow bonus i) (brow gng 0) (brow gnb 0) := by
    funext c
    show rw (ix2 i c) = _
    rw [hw]
    exact pay21_apply o oc _ hc (pay19_apply ones h1 o oc hr hc) gng gnb bonus g i c
  have e1 : brow (k0_pay23 rw x att wt wb) i
      = resid (brow x i) (brow att i) (mix (brow o i) (brow g i) (brow bonus i) (brow gng 0) (brow gnb 0))
          (fun c d => wt (ix2 c d)) (fun c d => wb (ix2 c d)) := by
    funext d
    rw [brow, pay23_apply, e0]
  have e2 : brow (k0_pay25 rw x att wt wb gf) i = rms (brow (k0_pay23 rw x att wt wb) i) (brow gf 0) :=
    funext fun d => pay25_apply rw x att wt wb gf i d
  rw [pay2_apply]
  have e3 : (fun d => k0_pay23 rw x att wt wb (ix2 i d) + ∑ j, k0_pay26 (k0_pay25 rw x att wt wb gf) wg wu (ix2 i j) * wd (ix2 j d))
      = ffn (brow (k0_pay23 rw x att wt wb) i) (brow gf 0) (fun d j => wg (ix2 d j)) (fun d j => wu (ix2 d j)) (fun j d => wd (ix2 j d)) := by
    funext d
    refine congrArg₂ (· + ·) rfl (Finset.sum_congr rfl fun j _ => ?_)
    rw [pay26_apply, e2]
  rw [e3, e1]
  rfl

/-- A row as a function of its column. -/
theorem brow_eq {n k : ℕ} (x : (⟨2, ![n, k]⟩ : Shape).Idx → EReal) (i : Fin n) : brow x i = fun c => x (ix2 i c) := rfl

/-- What a grid point writes, row by row. -/
theorem block_apply (x0 : FVec Ideal S512x512 .f32) (x1 : FVec Ideal S512x1024 .f32) (x2 : FVec Ideal S512x512 .bf16)
    (x3 : FVec Ideal S512x1024 .f32) (x4 x5 : FVec Ideal S1x512 .f32) (x6 : FVec Ideal S128x128 .bf16)
    (x7 : FVec Ideal S1024x1024 .bf16) (x8 : FVec Ideal S1x1024 .f32) (x9 x10 : FVec Ideal S1024x2816 .bf16)
    (x11 : FVec Ideal S2816x1024 .bf16) (x12 : FVec Ideal S1x1024 .f32) (h1 : IsOnes x6) (hr : ∀ i, ∃ r : ℝ, x0 i = r)
    (i : Fin 512) (d : Fin 1024) :
    (out0_13 (F := Ideal) x0 x1 x2 x3 x4 x5 x6 x7 x8 x9 x10 x11 x12) (ix2 i d)
      = row (brow x0 i) (fun c => x1 (ix2 i ⟨c.val, by omega⟩)) (fun c => x1 (ix2 i ⟨512 + c.val, by omega⟩)) (brow x2 i)
          (brow x3 i) (brow x4 0) (brow x5 0) (fun c d => x7 (ix2 ⟨c.val, by omega⟩ d)) (fun c d => x7 (ix2 ⟨512 + c.val, by omega⟩ d))
          (brow x8 0) (fun d j => x9 (ix2 d j)) (fun d j => x10 (ix2 d j)) (fun j d => x11 (ix2 j d)) (brow x12 0) d := by
  let G : S512x1024.Idx → EReal := fun y =>
    row (brow x0 (y 0)) (fun c => x1 (ix2 (y 0) ⟨c.val, by omega⟩)) (fun c => x1 (ix2 (y 0) ⟨512 + c.val, by omega⟩)) (brow x2 (y 0))
          (brow x3 (y 0)) (brow x4 0) (brow x5 0) (fun c d => x7 (ix2 ⟨c.val, by omega⟩ d)) (fun c d => x7 (ix2 ⟨512 + c.val, by omega⟩ d))
          (brow x8 0) (fun d j => x9 (ix2 d j)) (fun d j => x10 (ix2 d j)) (fun j d => x11 (ix2 j d)) (brow x12 0) (y 1)
  unfold_out out0_13
  refine View.canon_apply_of_pieces (Val := Elt Ideal) (e := .f32) G _ ?_ (ix2 i d) (cover0_13 _ _ _)
  intro p hp y
  simp only [List.mem_cons, List.mem_nil_iff, or_false] at hp
  rcases hp with rfl | rfl
  · change S256x1024.Idx at y
    idx_vars y
    have e : r0_11.emb (ix2 y0 y1) = ix2 ⟨256 + y0.val, by omega⟩ y1 := by
      funext a
      fin_cases a <;> exact Fin.ext (by simp [Rect.emb_apply])
    rw [e]
    have key := lower_apply (View.ld (Val := Elt Ideal) (e' := .bf16) x6 r0_0) (by intro l m; pointwise; exact h1 l m) (View.ld (Val := Elt Ideal) (e' := .f32) x0 r0_2) (View.ld (Val := Elt Ideal) (e' := .f32) x1 r0_6) (View.ld (Val := Elt Ideal) (e' := .f32) x1 r0_7) (fun i => hr _) (View.ld (Val := Elt Ideal) (e' := .bf16) x2 r0_2)
      (View.ld (Val := Elt Ideal) (e' := .f32) x3 r0_11) (View.ld (Val := Elt Ideal) (e' := .f32) x4 r0_3) (View.ld (Val := Elt Ideal) (e' := .f32) x5 r0_3) (View.ld (Val := Elt Ideal) (e' := .bf16) x7 r0_9) (View.ld (Val := Elt Ideal) (e' := .bf16) x7 r0_10) (View.ld (Val := Elt Ideal) (e' := .f32) x8 r0_12)
      (View.ld (Val := Elt Ideal) (e' := .f32) x12 r0_12) (View.ld (Val := Elt Ideal) (e' := .bf16) x9 r0_13) (View.ld (Val := Elt Ideal) (e' := .bf16) x10 r0_13) (View.ld (Val := Elt Ideal) (e' := .bf16) x11 r0_14) _ rfl _ rfl y0 y1
    refine Eq.trans ?_ (key.trans ?_)
    · with_reducible rfl
    · simp only [G, brow_eq]
      pointwise
  · change S256x1024.Idx at y
    idx_vars y
    have e : r0_8.emb (ix2 y0 y1) = ix2 ⟨y0.val, by omega⟩ y1 := by
      funext a
      fin_cases a <;> exact Fin.ext (by simp [Rect.emb_apply])
    rw [e]
    have key := upper_apply (View.ld (Val := Elt Ideal) (e' := .bf16) x6 r0_0) (by intro l m; pointwise; exact h1 l m) (View.ld (Val := Elt Ideal) (e' := .f32) x0 r0_1) (View.ld (Val := Elt Ideal) (e' := .f32) x1 r0_4) (View.ld (Val := Elt Ideal) (e' := .f32) x1 r0_5) (fun i => hr _) (View.ld (Val := Elt Ideal) (e' := .bf16) x2 r0_1)
      (View.ld (Val := Elt Ideal) (e' := .f32) x3 r0_8) (View.ld (Val := Elt Ideal) (e' := .f32) x4 r0_3) (View.ld (Val := Elt Ideal) (e' := .f32) x5 r0_3) (View.ld (Val := Elt Ideal) (e' := .bf16) x7 r0_9) (View.ld (Val := Elt Ideal) (e' := .bf16) x7 r0_10) (View.ld (Val := Elt Ideal) (e' := .f32) x8 r0_12)
      (View.ld (Val := Elt Ideal) (e' := .f32) x12 r0_12) (View.ld (Val := Elt Ideal) (e' := .bf16) x9 r0_13) (View.ld (Val := Elt Ideal) (e' := .bf16) x10 r0_13) (View.ld (Val := Elt Ideal) (e' := .bf16) x11 r0_14) _ rfl y0 y1
    refine Eq.trans ?_ (key.trans ?_)
    · with_reducible rfl
    · simp only [G, brow_eq]
      pointwise

end Cert.Post

end
-- ==== Proof.PostBlk.lean ====
/-
  The kernel's operands at a grid point, read back to the arguments: each window's block of its array, and each array the
  host prepares before the call (reshapes, one concatenation, and the 0/1 matrix of "the same head").
-/
module

public import proofs.«01_k».proof.Proof.PostBlock
public import Idealize.ShloMosaic.Lib.Pipeline.ValueKit
public import Idealize.ShloMosaic.Lib.StableHlo.ReadAt

@[expose] public section

set_option maxRecDepth 16384

noncomputable section

namespace Cert.Post

open Idealize.ShloMosaic Idealize.ShloMosaic.TcCoe Idealize.SL.Sem Cert.Kernel2Ideal Cert.Kernel2Ideal.Gen

/-- The number of the head that a column lies in, as the host's floor division spells it. -/
def headWord (l : Fin 128) : BitVec 32 :=
  Scalar.select (IntOp.andi
      (IntOp.cmpi CmpIPredicate.ne (if BitVec.ofNat 32 l.val = 0 then 0 else if (BitVec.ofNat 32 l.val).msb = true then -1 else 1 : BitVec 32)
        (if id (constantI S_ 32 64#32) ix0 = 0 then 0 else if BitVec.msb (id (constantI S_ 32 64#32) ix0) = true then -1 else 1 : BitVec 32))
      (IntOp.cmpi CmpIPredicate.ne (IntOp.remsi ArithUnit.host (BitVec.ofNat 32 l.val) (id (constantI S_ 32 64#32) ix0)) 0#32))
    (IntOp.subi (IntOp.divsi ArithUnit.host (BitVec.ofNat 32 l.val) (id (constantI S_ 32 64#32) ix0)) 1#32)
    (IntOp.divsi ArithUnit.host (BitVec.ofNat 32 l.val) (id (constantI S_ 32 64#32) ix0))

/-- It is the column over 64. -/
theorem headWord_eq : ∀ l : Fin 128, headWord l = BitVec.ofNat 32 (l.val / 64) := by decide +kernel

/-- Two columns have one head exactly if their words agree. -/
theorem headWord_cmp : ∀ l k : Fin 128, IntOp.cmpi CmpIPredicate.eq (headWord l) (headWord k) = if l.val / 64 = k.val / 64 then 1#1 else 0#1 := by
  intro l k
  rw [headWord_eq, headWord_eq]
  revert l k
  decide +kernel

variable (m : (ℓ : Loc nD τ sig) → Buf (Elt Ideal) ℓ)

/-- Where each window's block lies at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

/-- There are 32 grid points. -/
theorem lt32 (t : Fin cfg0.N) : t.val < 32 := t.isLt

/-- An array as the call finds it is what the host's operations made of the arguments. -/
theorem entry_eq (c : Dev nD) (b : Ref sig .tc) : V m c b =
    StableHlo.after (hostOps0 ++ hostOps0_1 ++ hostOps0_2 : List (HloOp τ sig (Elt Ideal))) (fun b => m (c, b)) (Proc.devRef .tc b) := by
  simp only [V, List.flatten_cons, List.flatten_nil, List.append_nil, List.append_assoc]

/-! ## The windows' blocks -/

/-- Window 0's block at a grid point, read in its array. -/
theorem blk0 (c : Dev nD) (t : Fin cfg0.N) (i : Fin 512) (k : Fin 512) :
    iblk m c 0 t (ix2 i k) = V m c main_v25 (ix2 ⟨512 * t.val + i.val, by have := lt32 t; omega⟩ k) := by
  have := lt32 t
  unfold iblk
  blk_ext [idx t]

/-- Window 1's block at a grid point, read in its array. -/
theorem blk1 (c : Dev nD) (t : Fin cfg0.N) (i : Fin 512) (k : Fin 1024) :
    iblk m c 1 t (ix2 i k) = V m c main_v24 (ix2 ⟨512 * t.val + i.val, by have := lt32 t; omega⟩ k) := by
  have := lt32 t
  unfold iblk
  blk_ext [idx t]

/-- Window 2's block at a grid point, read in its array. -/
theorem blk2 (c : Dev nD) (t : Fin cfg0.N) (i : Fin 512) (k : Fin 512) :
    iblk m c 2 t (ix2 i k) = V m c main_v26 (ix2 ⟨512 * t.val + i.val, by have := lt32 t; omega⟩ k) := by
  have := lt32 t
  unfold iblk
  blk_ext [idx t]

/-- Window 3's block at a grid point, read in its array. -/
theorem blk3 (c : Dev nD) (t : Fin cfg0.N) (i : Fin 512) (k : Fin 1024) :
    iblk m c 3 t (ix2 i k) = V m c main_v27 (ix2 ⟨512 * t.val + i.val, by have := lt32 t; omega⟩ k) := by
  have := lt32 t
  unfold iblk
  blk_ext [idx t]

/-- Window 4's block at a grid point, read in its array. -/
theorem blk4 (c : Dev nD) (t : Fin cfg0.N) (i : Fin 1) (k : Fin 512) :
    iblk m c 4 t (ix2 i k) = V m c main_v3 (ix2 i k) := by
  have := lt32 t
  unfold iblk
  blk_ext [idx t]

/-- Window 5's block at a grid point, read in its array. -/
theorem blk5 (c : Dev nD) (t : Fin cfg0.N) (i : Fin 1) (k : Fin 512) :
    iblk m c 5 t (ix2 i k) = V m c main_v5 (ix2 i k) := by
  have := lt32 t
  unfold iblk
  blk_ext [idx t]

/-- Window 6's block at a grid point, read in its array. -/
theorem blk6 (c : Dev nD) (t : Fin cfg0.N) (i : Fin 128) (k : Fin 128) :
    iblk m c 6 t (ix2 i k) = V m c main_v22 (ix2 i k) := by
  have := lt32 t
  unfold iblk
  blk_ext [idx t]

/-- Window 7's block at a grid point, read in its array. -/
theorem blk7 (c : Dev nD) (t : Fin cfg0.N) (i : Fin 1024) (k : Fin 1024) :
    iblk m c 7 t (ix2 i k) = V m c main_v7 (ix2 i k) := by
  have := lt32 t
  unfold iblk
  blk_ext [idx t]

/-- Window 8's block at a grid point, read in its array. -/
theorem blk8 (c : Dev nD) (t : Fin cfg0.N) (i : Fin 1) (k : Fin 1024) :
    iblk m c 8 t (ix2 i k) = V m c main_v9 (ix2 i k) := by
  have := lt32 t
  unfold iblk
  blk_ext [idx t]

/-- Window 9's block at a grid point, read in its array. -/
theorem blk9 (c : Dev nD) (t : Fin cfg0.N) (i : Fin 1024) (k : Fin 2816) :
    iblk m c 9 t (ix2 i k) = V m c main_v11 (ix2 i k) := by
  have := lt32 t
  unfold iblk
  blk_ext [idx t]

/-- Window 10's block at a grid point, read in its array. -/
theorem blk10 (c : Dev nD) (t : Fin cfg0.N) (i : Fin 1024) (k : Fin 2816) :
    iblk m c 10 t (ix2 i k) = V m c main_v13 (ix2 i k) := by
  have := lt32 t
  unfold iblk
  blk_ext [idx t]

/-- Window 11's block at a grid point, read in its array. -/
theorem blk11 (c : Dev nD) (t : Fin cfg0.N) (i : Fin 2816) (k : Fin 1024) :
    iblk m c 11 t (ix2 i k) = V m c main_v15 (ix2 i k) := by
  have := lt32 t
  unfold iblk
  blk_ext [idx t]

/-- Window 12's block at a grid point, read in its array. -/
theorem blk12 (c : Dev nD) (t : Fin cfg0.N) (i : Fin 1) (k : Fin 1024) :
    iblk m c 12 t (ix2 i k) = V m c main_v16 (ix2 i k) := by
  have := lt32 t
  unfold iblk
  blk_ext [idx t]

/-! ## The arrays the host prepares -/

/-- The array that the host prepares as value 25, read in the arguments. -/
theorem ent25 (c : Dev nD) (n : Fin 16384) (k : Fin 512) : V m c main_v25 (ix2 n k) =
    m ((c : Thread nD τ).loc main_arg0) (ix4 ⟨n.val / 8192, by omega⟩ ⟨n.val % 8192, by omega⟩ ⟨k.val / 64, by omega⟩ ⟨k.val % 64, by omega⟩) := by
  rw [entry_eq]
  after_reads_at

/-- The gate array's first 512 columns are the gate. -/
theorem ent24a (c : Dev nD) (n : Fin 16384) (k : Fin 512) : V m c main_v24 (ix2 n ⟨k.val, by omega⟩) =
    m ((c : Thread nD τ).loc main_arg1) (ix3 ⟨n.val / 8192, by omega⟩ ⟨n.val % 8192, by omega⟩ k) := by
  rw [entry_eq]
  after_reads_at
  after_reads_at

/-- Its last 512 columns are the bonus. -/
theorem ent24b (c : Dev nD) (n : Fin 16384) (k : Fin 512) : V m c main_v24 (ix2 n ⟨512 + k.val, by omega⟩) =
    m ((c : Thread nD τ).loc main_arg2) (ix3 ⟨n.val / 8192, by omega⟩ ⟨n.val % 8192, by omega⟩ k) := by
  rw [entry_eq]
  after_reads_at
  after_reads_at

/-- The array that the host prepares as value 26, read in the arguments. -/
theorem ent26 (c : Dev nD) (n : Fin 16384) (k : Fin 512) : V m c main_v26 (ix2 n k) =
    m ((c : Thread nD τ).loc main_arg3) (ix3 ⟨n.val / 8192, by omega⟩ ⟨n.val % 8192, by omega⟩ k) := by
  rw [entry_eq]
  after_reads_at

/-- The array that the host prepares as value 27, read in the arguments. -/
theorem ent27 (c : Dev nD) (n : Fin 16384) (k : Fin 1024) : V m c main_v27 (ix2 n k) =
    m ((c : Thread nD τ).loc main_arg4) (ix3 ⟨n.val / 8192, by omega⟩ ⟨n.val % 8192, by omega⟩ k) := by
  rw [entry_eq]
  after_reads_at

/-- The array that the host prepares as value 3, read in the arguments. -/
theorem ent3 (c : Dev nD) (k : Fin 512) : V m c main_v3 (ix2 0 k) =
    m ((c : Thread nD τ).loc main_arg5) (ix2 0 k) := by
  rw [entry_eq]
  after_reads_at

/-- The array that the host prepares as value 5, read in the arguments. -/
theorem ent5 (c : Dev nD) (k : Fin 512) : V m c main_v5 (ix2 0 k) =
    m ((c : Thread nD τ).loc main_arg6) (ix2 0 k) := by
  rw [entry_eq]
  after_reads_at

/-- The array that the host prepares as value 7, read in the arguments. -/
theorem ent7 (c : Dev nD) (i k : Fin 1024) : V m c main_v7 (ix2 i k) =
    m ((c : Thread nD τ).loc main_arg7) (ix3 0 i k) := by
  rw [entry_eq]
  after_reads_at

/-- The array that the host prepares as value 9, read in the arguments. -/
theorem ent9 (c : Dev nD) (k : Fin 1024) : V m c main_v9 (ix2 0 k) =
    m ((c : Thread nD τ).loc main_arg8) (ix2 0 k) := by
  rw [entry_eq]
  after_reads_at

/-- The array that the host prepares as value 11, read in the arguments. -/
theorem ent11 (c : Dev nD) (i : Fin 1024) (k : Fin 2816) : V m c main_v11 (ix2 i k) =
    m ((c : Thread nD τ).loc main_arg9) (ix3 0 i k) := by
  rw [entry_eq]
  after_reads_at

/-- The array that the host prepares as value 13, read in the arguments. -/
theorem ent13 (c : Dev nD) (i : Fin 1024) (k : Fin 2816) : V m c main_v13 (ix2 i k) =
    m ((c : Thread nD τ).loc main_arg10) (ix3 0 i k) := by
  rw [entry_eq]
  after_reads_at

/-- The array that the host prepares as value 15, read in the arguments. -/
theorem ent15 (c : Dev nD) (i : Fin 2816) (k : Fin 1024) : V m c main_v15 (ix2 i k) =
    m ((c : Thread nD τ).loc main_arg11) (ix3 0 i k) := by
  rw [entry_eq]
  after_reads_at

/-- The array that the host prepares as value 16, read in the arguments. -/
theorem ent16 (c : Dev nD) (k : Fin 1024) : V m c main_v16 (ix2 0 k) =
    m ((c : Thread nD τ).loc main_arg12) (ix1 k) := by
  rw [entry_eq]
  after_reads_at

/-- The array that the host prepares as value 22, read in the arguments. -/
theorem ent22 (c : Dev nD) (l k : Fin 128) : (V m c main_v22 (ix2 l k)) = (if l.val / 64 = k.val / 64 then 1 else 0 : EReal) := by
  rw [entry_eq]
  after_reads_at
  refine (congrArg (FloatOps.uitofp (F := Ideal) FTy.bf16) (headWord_cmp l k)).trans ?_
  split <;> simp [FloatOps.uitofp]

end Cert.Post

end
-- ==== Proof.PostValue.lean ====
/-
  The kernel's result array: every row is `Cert.Post.row` of the arguments' rows at the position it stands for.
-/
module

public import proofs.«01_k».proof.Proof.PostBlk

@[expose] public section

set_option maxRecDepth 16384

noncomputable section

namespace Cert.Post

open Idealize.ShloMosaic Idealize.ShloMosaic.TcCoe Idealize.SL.Sem Cert.Kernel2Ideal Cert.Kernel2Ideal.Gen

variable (m : (ℓ : Loc nD τ sig) → Buf (Elt Ideal) ℓ)

/-- Row `n` of the result, of the arguments. -/
def target (c : Dev nD) (n : Fin 16384) : Fin 1024 → EReal :=
  row (fun k => m ((c : Thread nD τ).loc main_arg0) (ix4 ⟨n.val / 8192, by omega⟩ ⟨n.val % 8192, by omega⟩ ⟨k.val / 64, by omega⟩ ⟨k.val % 64, by omega⟩))
    (fun k => m ((c : Thread nD τ).loc main_arg1) (ix3 ⟨n.val / 8192, by omega⟩ ⟨n.val % 8192, by omega⟩ k))
    (fun k => m ((c : Thread nD τ).loc main_arg2) (ix3 ⟨n.val / 8192, by omega⟩ ⟨n.val % 8192, by omega⟩ k))
    (fun k => m ((c : Thread nD τ).loc main_arg3) (ix3 ⟨n.val / 8192, by omega⟩ ⟨n.val % 8192, by omega⟩ k))
    (fun k => m ((c : Thread nD τ).loc main_arg4) (ix3 ⟨n.val / 8192, by omega⟩ ⟨n.val % 8192, by omega⟩ k))
    (fun k => m ((c : Thread nD τ).loc main_arg5) (ix2 0 k)) (fun k => m ((c : Thread nD τ).loc main_arg6) (ix2 0 k))
    (fun k d => m ((c : Thread nD τ).loc main_arg7) (ix3 0 ⟨k.val, by omega⟩ d))
    (fun k d => m ((c : Thread nD τ).loc main_arg7) (ix3 0 ⟨512 + k.val, by omega⟩ d))
    (fun d => m ((c : Thread nD τ).loc main_arg8) (ix2 0 d)) (fun d j => m ((c : Thread nD τ).loc main_arg9) (ix3 0 d j))
    (fun d j => m ((c : Thread nD τ).loc main_arg10) (ix3 0 d j)) (fun j d => m ((c : Thread nD τ).loc main_arg11) (ix3 0 j d))
    (fun d => m ((c : Thread nD τ).loc main_arg12) (ix1 d))

/-- What a grid point writes at row `i` of its block is the result's row there. -/
theorem point_apply (c : Dev nD) (hr : ∀ i, ∃ r : ℝ, m ((c : Thread nD τ).loc main_arg0) i = (r : EReal)) (t : Fin cfg0.N) (i : Fin 512) (d : Fin 1024) :
    (out0_13 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t)) (ix2 i d)
      = target m c ⟨512 * t.val + i.val, by have := lt32 t; omega⟩ d := by
  have key := block_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t)
      (fun l k => (blk6 m c t l k).trans (ent22 m c l k))
      (fun y => by
        change S512x512.Idx at y
        idx_vars y
        obtain ⟨r, e⟩ := hr (ix4 ⟨(512 * t.val + y0.val) / 8192, by have := lt32 t; omega⟩ ⟨(512 * t.val + y0.val) % 8192, by omega⟩ ⟨y1.val / 64, by omega⟩ ⟨y1.val % 64, by omega⟩)
        exact ⟨r, ((blk0 m c t y0 y1).trans (ent25 m c _ y1)).trans e⟩) i d
  refine key.trans ?_
  unfold target
  have e0 : brow (iblk m c 0 t) i = _ := funext fun k => (blk0 m c t i k).trans (ent25 m c _ k)
  have e1 : (fun k : Fin 512 => iblk m c 1 t (ix2 i ⟨k.val, by omega⟩)) = _ := funext fun k => (blk1 m c t i _).trans (ent24a m c _ k)
  have e1' : (fun k : Fin 512 => iblk m c 1 t (ix2 i ⟨512 + k.val, by omega⟩)) = _ := funext fun k => (blk1 m c t i _).trans (ent24b m c _ k)
  have e2 : brow (iblk m c 2 t) i = _ := funext fun k => (blk2 m c t i k).trans (ent26 m c _ k)
  have e3 : brow (iblk m c 3 t) i = _ := funext fun k => (blk3 m c t i k).trans (ent27 m c _ k)
  have e4 : brow (iblk m c 4 t) 0 = _ := funext fun k => (blk4 m c t 0 k).trans (ent3 m c k)
  have e5 : brow (iblk m c 5 t) 0 = _ := funext fun k => (blk5 m c t 0 k).trans (ent5 m c k)
  have e7 : (fun (k : Fin 512) (d : Fin 1024) => iblk m c 7 t (ix2 ⟨k.val, by omega⟩ d)) = _ :=
    funext fun k => funext fun d => (blk7 m c t _ d).trans (ent7 m c _ d)
  have e7' : (fun (k : Fin 512) (d : Fin 1024) => iblk m c 7 t (ix2 ⟨512 + k.val, by omega⟩ d)) = _ :=
    funext fun k => funext fun d => (blk7 m c t _ d).trans (ent7 m c _ d)
  have e8 : brow (iblk m c 8 t) 0 = _ := funext fun k => (blk8 m c t 0 k).trans (ent9 m c k)
  have e9 : (fun (d : Fin 1024) (j : Fin 2816) => iblk m c 9 t (ix2 d j)) = _ := funext fun d => funext fun j => (blk9 m c t d j).trans (ent11 m c d j)
  have e10 : (fun (d : Fin 1024) (j : Fin 2816) => iblk m c 10 t (ix2 d j)) = _ := funext fun d => funext fun j => (blk10 m c t d j).trans (ent13 m c d j)
  have e11 : (fun (j : Fin 2816) (d : Fin 1024) => iblk m c 11 t (ix2 j d)) = _ := funext fun j => funext fun d => (blk11 m c t j d).trans (ent15 m c j d)
  have e12 : brow (iblk m c 12 t) 0 = _ := funext fun k => (blk12 m c t 0 k).trans (ent16 m c k)
  rw [e0, e1, e1', e2, e3, e4, e5, e7, e7', e8, e9, e10, e11, e12]

/-- **The kernel's result array.** -/
theorem result_eq (c : Dev nD) (hr : ∀ i, ∃ r : ℝ, m ((c : Thread nD τ).loc main_arg0) i = (r : EReal)) :
    (dats m 0 c).arrAt 13 cfg0.N = fun y => target m c (y 0) (y 1) := by
  refine (dats m 0 c).arrAt_eq_of_covers 13 _ (by decide +kernel) fun t hf y => ?_
  blk_simp
  rw [after0_13]
  change S512x1024.Idx at y
  idx_vars y
  have := lt32 t
  have e : (win0_13.blk t).view.emb (ix2 y0 y1) = ix2 ⟨512 * t.val + y0.val, by omega⟩ y1 := by
    blk_ext [idx t]
  exact (point_apply m c hr t y0 y1).trans (by rw [e]; rfl)

end Cert.Post

end
-- ==== Proof.PostRef.lean ====
/-
  What the reference computes of the layer's end, stage by stage: each stage's row at a position is the stage of
  `Cert.Post.row` of the rows before it.
-/
module

public import proofs.«01_k».proof.Proof.PostRow
public import proofs.«01_k».proof.Proof.Gen.Reference2Ideal.Read
public import Idealize.ShloMosaic.Lib.Pipeline.ValueKit
public import Idealize.ShloMosaic.Lib.StableHlo.ReadAt

@[expose] public section

set_option maxRecDepth 16384

noncomputable section

namespace Cert.Post

open Idealize.ShloMosaic Idealize.ShloMosaic.TcCoe Idealize.SL.Sem Cert.Reference2Ideal Cert.Reference2Ideal.Read

variable (x0 : (⟨S2x8192x8x64, .f32⟩ : BufTy).Contents (Elt Ideal)) (x1 x2 : (⟨S2x8192x512, .f32⟩ : BufTy).Contents (Elt Ideal))
  (x3 : (⟨S2x8192x512, .bf16⟩ : BufTy).Contents (Elt Ideal)) (x4 : (⟨S2x8192x1024, .f32⟩ : BufTy).Contents (Elt Ideal))
  (x5 x6 : (⟨S1x512, .f32⟩ : BufTy).Contents (Elt Ideal)) (x7 : (⟨S1x1024x1024, .f32⟩ : BufTy).Contents (Elt Ideal))
  (x8 : (⟨S1x1024, .f32⟩ : BufTy).Contents (Elt Ideal)) (x9 x10 : (⟨S1x1024x2816, .f32⟩ : BufTy).Contents (Elt Ideal))
  (x11 : (⟨S1x2816x1024, .f32⟩ : BufTy).Contents (Elt Ideal)) (x12 : (⟨S1024, .f32⟩ : BufTy).Contents (Elt Ideal))

/-- A row of the scan's output, its heads one after another. -/
abbrev headRow (b : Fin 2) (t : Fin 8192) : Fin 512 → EReal := fun c => x0 (ix4 b t ⟨c.val / 64, by omega⟩ ⟨c.val % 64, by omega⟩)

/-- The head and the place of a head's column. -/
theorem headCol_read (z : Fin 8 → Fin 64 → EReal) (c : Fin 512) (k : Fin 64) :
    z ⟨(headCol c k).val / 64, by omega⟩ ⟨(headCol c k).val % 64, by omega⟩ = z ⟨c.val / 64, by omega⟩ k := by
  congr 1 <;> apply Fin.ext <;> simp only [headCol] <;> omega

/-- The heads' means. -/
theorem ref3 (b : Fin 2) (t : Fin 8192) (c : Fin 512) :
    val_main_v3 (F := Ideal) x0 (ix4 b t ⟨c.val / 64, by omega⟩ 0) = mean (headRow x0 b t) c := by
  pointwise [val_main_v3, val_main_v2, val_main_v1, val_main_v0, val_main_cst, val_main_cst_0]
  unfold mean
  refine congrArg (Ideal.div · _) (Finset.sum_congr rfl fun k _ => ?_)
  exact (headCol_read (fun h j => x0 (ix4 b t h j)) c k).symm

/-- The scan's output less its heads' means, as the variance reads it. -/
theorem ref5 (b : Fin 2) (t : Fin 8192) (c : Fin 512) :
    val_main_v5 (F := Ideal) x0 (ix4 b t ⟨c.val / 64, by omega⟩ ⟨c.val % 64, by omega⟩) = cen (headRow x0 b t) c := by
  have h := ref3 x0 b t c
  unfold val_main_v5 val_main_v4
  revert h
  generalize val_main_v3 (F := Ideal) x0 = z
  intro h
  pointwise [h]
  rfl

/-- The same, as the normalised value reads it. -/
theorem ref12 (b : Fin 2) (t : Fin 8192) (c : Fin 512) :
    val_main_v12 (F := Ideal) x0 (ix4 b t ⟨c.val / 64, by omega⟩ ⟨c.val % 64, by omega⟩) = cen (headRow x0 b t) c := by
  have h := ref3 x0 b t c
  unfold val_main_v12 val_main_v11
  revert h
  generalize val_main_v3 (F := Ideal) x0 = z
  intro h
  pointwise [h]
  rfl

/-- The heads' variances. -/
theorem ref10 (b : Fin 2) (t : Fin 8192) (c : Fin 512) :
    val_main_v10 (F := Ideal) x0 (ix4 b t ⟨c.val / 64, by omega⟩ 0) = var (headRow x0 b t) c := by
  have h : ∀ k : Fin 64, val_main_v5 (F := Ideal) x0 (ix4 b t ⟨c.val / 64, by omega⟩ k) = cen (headRow x0 b t) (headCol c k) :=
    fun k => (headCol_read (fun h j => val_main_v5 (F := Ideal) x0 (ix4 b t h j)) c k).symm.trans (ref5 x0 b t (headCol c k))
  unfold val_main_v10 val_main_v9 val_main_v8 val_main_v7 val_main_cst_1 val_main_cst_2 val_main_v6
  revert h
  generalize val_main_v5 (F := Ideal) x0 = z
  intro h
  pointwise []
  unfold var mean
  refine congrArg (Ideal.div · _) (Finset.sum_congr rfl fun k _ => ?_)
  rw [h]

/-- The scan's half of the mixer. -/
theorem ref28 (b : Fin 2) (t : Fin 8192) (c : Fin 512) :
    val_main_v28 (F := Ideal) x0 x1 x2 x5 x6 (ix3 b t c) = mix (headRow x0 b t) (fun c => x1 (ix3 b t c)) (fun c => x2 (ix3 b t c))
      (fun c => x5 (ix2 0 c)) (fun c => x6 (ix2 0 c)) c := by
  have h := ref10 x0 b t c
  have h' := ref12 x0 b t c
  unfold val_main_v28 val_main_v27 val_main_v26 val_main_v25 val_main_v24 val_main_v23 val_main_v22 val_main_v21 val_main_v20 val_main_v19
    val_main_v18 val_main_v17 val_main_v16 val_main_v15 val_main_v14 val_main_v13 val_main_cst_3
  revert h h'
  generalize val_main_v10 (F := Ideal) x0 = z
  generalize val_main_v12 (F := Ideal) x0 = z'
  intro h h'
  pointwise [h, h', mix]

/-- The residual after the mixer. -/
theorem ref33 (b : Fin 2) (t : Fin 8192) (d : Fin 1024) :
    val_main_v33 (F := Ideal) x0 x1 x2 x3 x4 x5 x6 x7 (ix3 b t d) = resid (fun c => x4 (ix3 b t c)) (fun c => x3 (ix3 b t c))
      (fun c => val_main_v28 (F := Ideal) x0 x1 x2 x5 x6 (ix3 b t c)) (fun c d => x7 (ix3 0 ⟨c.val, by omega⟩ d)) (fun c d => x7 (ix3 0 ⟨512 + c.val, by omega⟩ d)) d := by
  unfold val_main_v33 val_main_v32 val_main_v31 val_main_v30 val_main_v29
  generalize val_main_v28 (F := Ideal) x0 x1 x2 x5 x6 = z
  pointwise []
  exact (add_assoc _ _ _).symm

/-- The feed-forward network's input. -/
theorem ref47 (b : Fin 2) (t : Fin 8192) (d : Fin 1024) :
    val_main_v47 (F := Ideal) x0 x1 x2 x3 x4 x5 x6 x7 x8 (ix3 b t d) =
      rms (fun d => val_main_v33 (F := Ideal) x0 x1 x2 x3 x4 x5 x6 x7 (ix3 b t d)) (fun d => x8 (ix2 0 d)) d := by
  unfold val_main_v47 val_main_v46 val_main_v45 val_main_v44 val_main_v43 val_main_v42 val_main_v41 val_main_v40 val_main_v39 val_main_v38
    val_main_v37 val_main_v36 val_main_v35 val_main_v34 val_main_cst_4 val_main_cst_5 val_main_cst_6
  generalize val_main_v33 (F := Ideal) x0 x1 x2 x3 x4 x5 x6 x7 = z
  pointwise [rms]

/-- The gated unit. -/
theorem ref53 (b : Fin 2) (t : Fin 8192) (j : Fin 2816) :
    val_main_v53 (F := Ideal) x0 x1 x2 x3 x4 x5 x6 x7 x8 x9 x10 (ix3 b t j) =
      hid (fun d => val_main_v47 (F := Ideal) x0 x1 x2 x3 x4 x5 x6 x7 x8 (ix3 b t d)) (fun d j => x9 (ix3 0 d j)) (fun d j => x10 (ix3 0 d j)) j := by
  unfold val_main_v53 val_main_v52 val_main_v51 val_main_v50 val_main_call0_v5 val_main_call0_v4 val_main_call0_v3 val_main_call0_v2
    val_main_call0_v1 val_main_call0_v0 val_main_call0_cst val_main_call0_cst_0 val_main_v49 val_main_v48
  generalize val_main_v47 (F := Ideal) x0 x1 x2 x3 x4 x5 x6 x7 x8 = z
  pointwise [hid]

/-- The residual after the feed-forward network. -/
theorem ref56 (b : Fin 2) (t : Fin 8192) (d : Fin 1024) :
    val_main_v56 (F := Ideal) x0 x1 x2 x3 x4 x5 x6 x7 x8 x9 x10 x11 (ix3 b t d) =
      val_main_v33 (F := Ideal) x0 x1 x2 x3 x4 x5 x6 x7 (ix3 b t d)
        + ∑ j, val_main_v53 (F := Ideal) x0 x1 x2 x3 x4 x5 x6 x7 x8 x9 x10 (ix3 b t j) * x11 (ix3 0 j d) := by
  unfold val_main_v56 val_main_v55 val_main_v54
  generalize val_main_v33 (F := Ideal) x0 x1 x2 x3 x4 x5 x6 x7 = z
  generalize val_main_v53 (F := Ideal) x0 x1 x2 x3 x4 x5 x6 x7 x8 x9 x10 = z'
  pointwise []

/-- The last norm, its positions one after another. -/
theorem ref70 (n : Fin 16384) (d : Fin 1024) :
    val_main_v70 (F := Ideal) x0 x1 x2 x3 x4 x5 x6 x7 x8 x9 x10 x11 x12 (ix2 n d) =
      rms (fun d => val_main_v56 (F := Ideal) x0 x1 x2 x3 x4 x5 x6 x7 x8 x9 x10 x11 (ix3 ⟨n.val / 8192, by omega⟩ ⟨n.val % 8192, by omega⟩ d)) (fun d => x12 (ix1 d)) d := by
  unfold val_main_v70 val_main_v69 val_main_v68 val_main_v67 val_main_v66 val_main_v65 val_main_v64 val_main_v63 val_main_v62 val_main_v61 val_main_v60
    val_main_v59 val_main_v58 val_main_v57 val_main_cst_7 val_main_cst_8 val_main_cst_9
  generalize val_main_v56 (F := Ideal) x0 x1 x2 x3 x4 x5 x6 x7 x8 x9 x10 x11 = z
  pointwise [rms]

/-- **The reference's result**: its row `n` is `row` of the arguments' rows at the position `n` stands for. -/
theorem ref_row (n : Fin 16384) (d : Fin 1024) :
    val_main_v70 (F := Ideal) x0 x1 x2 x3 x4 x5 x6 x7 x8 x9 x10 x11 x12 (ix2 n d) =
      row (headRow x0 ⟨n.val / 8192, by omega⟩ ⟨n.val % 8192, by omega⟩)
        (fun c => x1 (ix3 ⟨n.val / 8192, by omega⟩ ⟨n.val % 8192, by omega⟩ c))
        (fun c => x2 (ix3 ⟨n.val / 8192, by omega⟩ ⟨n.val % 8192, by omega⟩ c))
        (fun c => x3 (ix3 ⟨n.val / 8192, by omega⟩ ⟨n.val % 8192, by omega⟩ c))
        (fun c => x4 (ix3 ⟨n.val / 8192, by omega⟩ ⟨n.val % 8192, by omega⟩ c))
        (fun c => x5 (ix2 0 c)) (fun c => x6 (ix2 0 c))
        (fun c d => x7 (ix3 0 ⟨c.val, by omega⟩ d)) (fun c d => x7 (ix3 0 ⟨512 + c.val, by omega⟩ d))
        (fun d => x8 (ix2 0 d)) (fun d j => x9 (ix3 0 d j)) (fun d j => x10 (ix3 0 d j)) (fun j d => x11 (ix3 0 j d))
        (fun d => x12 (ix1 d)) d := by
  simp only [ref70, ref56, ref53, ref47, ref33, ref28]
  rfl

end Cert.Post

end
-- ==== Proof.PostClaim.lean ====
/-
  The claim on the layer's end: the kernel's result array and the reference's are one function of the arguments, for a
  finite output of the scan.
-/
module

public import proofs.«01_k».proof.Defs
public import proofs.«01_k».proof.Proof.PostValue
public import proofs.«01_k».proof.Proof.PostRef
public import proofs.«01_k».proof.Proof.Gen.Reference2Ideal.Run
public import proofs.«01_k».proof.Proof.Gen.Pre_finite2
public import Idealize.ShloMosaic.Lib.Claim
public import Idealize.ShloMosaic.Lib.ReduceAll

@[expose] public section

set_option maxRecDepth 16384

noncomputable section

namespace Cert.Post

open Idealize.ShloMosaic Idealize.ShloMosaic.TcCoe Idealize.SL.Sem

/-- An extended real whose absolute value is below infinity is a real number. -/
theorem real_of_abs (x : EReal) (h : FloatOps.cmpf (F := Ideal) (φ := .f32) .olt (max x (-x)) (Ideal.ofBits .f32 0x7F800000#32) = 1#1) :
    ∃ r : ℝ, x = r := by
  have ht : Ideal.ofBits .f32 0x7F800000#32 = ⊤ := by simp [Ideal.ofBits, Ideal.ieee]
  have h' : max x (-x) < ⊤ := by
    by_contra hn
    rw [ht] at h
    change Ideal.cmp .olt (max x (-x)) ⊤ = 1#1 at h
    have hd : decide (max x (-x) < ⊤) = false := decide_eq_false hn
    have h' : BitVec.ofBool (decide (max x (-x) < ⊤)) = 1#1 := h
    rw [hd] at h'
    exact absurd h' (by decide)
  induction x using EReal.rec with
  | bot => simp at h'
  | top => simp at h'
  | coe r => exact ⟨r, rfl⟩

/-- The precondition says that every value of the scan's output is a real number. -/
theorem finite_of_pre (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) (i : Cert.Kernel2Ideal.S2x8192x8x64.Idx) :
    ∃ r : ℝ, m ((c.tc : Thread Cert.Kernel2Ideal.nD Cert.Kernel2Ideal.τ).loc Cert.Kernel2Ideal.main_arg0) i = (r : EReal) := by
  have h0 := h c
  dsimp only [Cert.Pre_finite2.fn] at h0
  have h1 := congrFun h0 ix0
  have h2 := Host.reduce_andi_all _ _ _ _ _ h1 i
  exact real_of_abs _ h2

/-- **The claim**: over the extended reals the kernel's result is the reference's. -/
theorem algebraic : Cert.algebraic_Kernel2Ideal_Reference2Ideal_pre_finite2 := by
  pair_intro
  · run_from Cert.Kernel2Ideal.Value.run_blocks m g
  · run_from Cert.Reference2Ideal.Value.run m' g'
    obtain ⟨h0, h1, h2, h3, h4, h5, h6, h7, h8, h9, h10, h11, h12⟩ := hagree c
    refine Eq.trans ?_ (result_eq m c (finite_of_pre m hpre c)).symm
    rw [Cert.Reference2Ideal.Read.val_main_v70_eq, h0, h1, h2, h3, h4, h5, h6, h7, h8, h9, h10, h11, h12]
    funext y
    change Cert.Kernel2Ideal.S16384x1024.Idx at y
    idx_vars y
    exact ref_row _ _ _ _ _ _ _ _ _ _ _ _ _ y0 y1

end Cert.Post

end
-- ==== Proof.AttnClaim.lean ====
/-
  The claim on the samples' attention: the kernel's three result arrays and the reference's are one function of the arguments, for
  finite queries, keys and sinks.
-/
module

public import proofs.«01_k».proof.Defs
public import proofs.«01_k».proof.Proof.AttnValue
public import proofs.«01_k».proof.Proof.AttnRef
public import proofs.«01_k».proof.Proof.PostClaim
public import proofs.«01_k».proof.Proof.Gen.ReferenceIdeal.Run
public import proofs.«01_k».proof.Proof.Gen.Pre_finite
public import Idealize.ShloMosaic.Lib.Claim
public import Idealize.ShloMosaic.Lib.ReduceAll

@[expose] public section

set_option maxRecDepth 16384

noncomputable section

namespace Cert.Attn

open Idealize.ShloMosaic Idealize.ShloMosaic.TcCoe Idealize.SL.Sem

/-- An array of numbers. -/
def Real {s : Shape} (x : s.Idx → EReal) : Prop := ∀ i, ∃ r : ℝ, x i = (r : EReal)

section
variable (q : Cert.KernelIdeal.S1152x512.Idx → EReal) (k v : Cert.KernelIdeal.S1152x128.Idx → EReal)
  (ck cv : Cert.KernelIdeal.S1x128x128x2x64.Idx → EReal) (sk : Cert.KernelIdeal.S1x8.Idx → EReal)

/-- A key of numbers. -/
theorem cat_real (hk : Real k) (hck : Real ck) (s : Fin 128) (j : Fin 136) (b : Fin 2) (d : Fin 64) :
    ∃ r : ℝ, catAt k ck s j b d = (r : EReal) := by
  unfold catAt
  split_ifs
  · exact hck _
  · exact hk _

/-- A score is a number or −∞. -/
theorem score_low (hq : Real q) (hk : Real k) (hck : Real ck) (s : Fin 128) (t : Fin 8) (b : Fin 2) (g : Fin 4) (j : Fin 136) :
    Low (scoreAt q k ck s t b g j) := by
  unfold scoreAt
  split_ifs
  · obtain ⟨r, hr⟩ := real_dot _ _ (fun d => cat_real k ck hk hck s j b d)
      (fun d : Fin 64 => hq (ix2 ⟨8 * s.val + t.val, by omega⟩ ⟨256 * b.val + 64 * g.val + d.val, by omega⟩))
    refine .inr ⟨r * (1 / 8), ?_⟩
    unfold dotAt
    rw [hr, w8, ← EReal.coe_mul]
  · exact .inl rfl

/-- The kernel scales the query, the mathematics the product. -/
theorem score_move (n : Fin 1024) (w : Fin 512) (j : Fin 136) (f : Fin 64 → EReal)
    (hf : ∀ d, f d = catAt k ck ⟨n.val / 8, by omega⟩ j ⟨w.val / 256, by omega⟩ d) :
    ∑ d : Fin 64, q (ix2 ⟨n.val, by omega⟩ ⟨64 * (w.val / 64) + d.val, by omega⟩) * Ideal.ofBits .f32 0x3E000000#32 * f d
      = dotAt q k ck ⟨n.val / 8, by omega⟩ ⟨n.val % 8, by omega⟩ ⟨w.val / 256, by omega⟩ ⟨w.val / 64 % 4, by omega⟩ j
        * Ideal.ofBits .f32 0x3E000000#32 := by
  unfold dotAt
  rw [w8, sum_mul_coe _ _ _ (by norm_num)]
  refine Finset.sum_congr rfl fun d _ => ?_
  rw [hf, mul_right_comm, mul_comm (q _)]
  refine congrArg (· * _) (congrArg (_ * ·) (read2 q _ _ _ ?_ ?_))
  · show n.val = 8 * (n.val / 8) + n.val % 8
    omega
  · show 64 * (w.val / 64) + d.val = 256 * (w.val / 256) + 64 * (w.val / 64 % 4) + d.val
    omega

/-- A key of the window, among all of them. -/
theorem cat_old (ck : Cert.KernelIdeal.S1x128x128x2x64.Idx → EReal) (k : Cert.KernelIdeal.S1152x128.Idx → EReal) (s : Fin 128)
    (j : Fin 128) (b : Fin 2) (d : Fin 64) : catAt k ck s ⟨j.val, by omega⟩ b d = ck (ix5 0 s j b d) := by
  unfold catAt
  exact dif_pos j.isLt

/-- What the kernel computes of a row and a column is what the mathematics does. -/
theorem kern_eq (hq : Real q) (hk : Real k) (hck : Real ck) (hsk : Real sk) (n : Fin 1024) (w : Fin 512) :
    kern q k v ck cv sk n w
      = plainForm (scoreAt q k ck ⟨n.val / 8, by omega⟩ ⟨n.val % 8, by omega⟩ ⟨w.val / 256, by omega⟩ ⟨w.val / 64 % 4, by omega⟩)
        (sk (ix2 0 ⟨w.val / 64, by omega⟩)) (fun j => catAt v cv ⟨n.val / 8, by omega⟩ j ⟨w.val / 256, by omega⟩ ⟨w.val % 64, by omega⟩) := by
  obtain ⟨z, hz⟩ := hsk (ix2 0 ⟨w.val / 64, by omega⟩)
  unfold kern
  rw [hz]
  refine Eq.trans (kernelForm_congr (fun j => ?_) (fun _ => rfl) rfl (fun j => ?_) (fun _ => rfl))
    (kernelForm_eq _ z _ (fun j => score_low q k ck hq hk hck _ _ _ _ j) _ _ (fun j h => ?_) (fun j h => ?_) (fun j h => ?_))
  · unfold scoreAt
    simp only
    by_cases h : n.val % 8 < j.val
    · rw [if_pos h, if_pos ⟨by omega, h⟩]
      exact score_move q k ck n w _ _ fun d => (cat_old ck k _ j _ _).symm
    · rw [if_neg h, if_neg (fun h' => h h'.2)]
  · exact (cat_old cv v _ j _ _).symm
  · unfold scoreAt
    simp only
    by_cases h' : j.val ≤ n.val % 8
    · rw [if_pos h', if_pos ⟨by omega, by omega⟩]
      refine score_move q k ck n w _ _ fun d => ?_
      unfold catAt
      rw [dif_pos h, dif_neg (by simp only; omega)]
      exact read2 k _ _ _ (by show 8 * (n.val / 8) + j.val = 8 * (n.val / 8) + (128 + j.val - 128); omega) rfl
    · rw [if_neg h', if_neg (fun e => h' (by omega))]
  · exact if_neg (by omega)
  · unfold catAt
    rw [dif_pos h, dif_neg (by simp only; omega)]
    exact read2 v _ _ _ (by show 8 * (n.val / 8) + j.val = 8 * (n.val / 8) + (128 + j.val - 128); omega) rfl

/-- The windows moved on are the last 128 of a window with the new keys after it. -/
theorem wins_eq (s : Fin 128) (b : Fin 2) (d : Fin 64) (p : Fin 128) : wins k ck s b d p = catAt k ck s ⟨8 + p.val, by omega⟩ b d := by
  unfold wins catAt
  by_cases h : p.val < 120
  · rw [dif_pos h, dif_pos (by simp only; omega)]
    exact read5 ck _ _ _ _ _ _ rfl rfl (Nat.add_comm _ _) rfl rfl
  · rw [dif_neg h, dif_neg (by simp only; omega)]
    exact read2 k _ _ _ (by show 8 * s.val + (p.val - 120) = 8 * s.val + (8 + p.val - 128); omega) rfl

end

/-- Both of two conditions that hold together hold. -/
theorem both : ∀ a b : BitVec 1, IntOp.andi a b = 1#1 → a = 1#1 ∧ b = 1#1 := by decide

/-- The precondition says that the queries, the keys and the sinks are numbers. -/
theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) :
    Real (s := Cert.KernelIdeal.S1152x512) (m ((c.tc : Thread Cert.KernelIdeal.nD Cert.KernelIdeal.τ).loc Cert.KernelIdeal.main_arg0))
    ∧ Real (s := Cert.KernelIdeal.S1152x128) (m ((c.tc : Thread Cert.KernelIdeal.nD Cert.KernelIdeal.τ).loc Cert.KernelIdeal.main_arg1))
    ∧ Real (s := Cert.KernelIdeal.S1x128x128x2x64) (m ((c.tc : Thread Cert.KernelIdeal.nD Cert.KernelIdeal.τ).loc Cert.KernelIdeal.main_arg3))
    ∧ Real (s := Cert.KernelIdeal.S1x8) (m ((c.tc : Thread Cert.KernelIdeal.nD Cert.KernelIdeal.τ).loc Cert.KernelIdeal.main_arg5)) := by
  have h0 := h c
  dsimp only [Cert.Pre_finite.fn, Cert.Pre_finite.fn_part1] at h0
  obtain ⟨h1, h2⟩ := both _ _ (congrFun h0 ix0)
  obtain ⟨h3, h4⟩ := both _ _ h1
  obtain ⟨h5, h6⟩ := both _ _ h3
  exact ⟨fun i => Cert.Post.real_of_abs _ (Host.reduce_andi_all _ _ _ _ _ h5 i), fun i => Cert.Post.real_of_abs _ (Host.reduce_andi_all _ _ _ _ _ h6 i),
    fun i => Cert.Post.real_of_abs _ (Host.reduce_andi_all _ _ _ _ _ h4 i), fun i => Cert.Post.real_of_abs _ (Host.reduce_andi_all _ _ _ _ _ h2 i)⟩

/-- **The claim**: over the extended reals the kernel's attention and windows are the reference's. -/
theorem algebraic : Cert.algebraic_KernelIdeal_ReferenceIdeal_pre_finite := by
  pair_intro
  · run_from Cert.KernelIdeal.Value.run_blocks m g
  · run_from Cert.ReferenceIdeal.Value.run m' g'
    · obtain ⟨h0, h1, h2, h3, h4, h5⟩ := hagree c
      obtain ⟨f0, f1, f3, f5⟩ := finite_of_pre m hpre c
      refine Eq.trans ?_ (att_eq m c).symm
      rw [Cert.ReferenceIdeal.Read.val_main_v48_eq, h0, h1, h2, h3, h4, h5]
      funext y
      change Cert.KernelIdeal.S1024x512.Idx at y
      idx_vars y
      exact (ref48 _ _ _ _ _ _ y0 y1).trans (kern_eq _ _ _ _ _ _ f0 f1 f3 f5 y0 y1).symm
    · obtain ⟨h0, h1, h2, h3, h4, h5⟩ := hagree c
      refine Eq.trans ?_ (winK_eq m c).symm
      rw [Cert.ReferenceIdeal.Read.val_main_v50_eq, h1, h3]
      funext y
      exact (ref50 _ _ y).trans (wins_eq _ _ _ _ _ _).symm
    · obtain ⟨h0, h1, h2, h3, h4, h5⟩ := hagree c
      refine Eq.trans ?_ (winV_eq m c).symm
      rw [Cert.ReferenceIdeal.Read.val_main_v52_eq, h2, h4]
      funext y
      exact (ref52 _ _ y).trans (wins_eq _ _ _ _ _ _).symm

end Cert.Attn

end
-- ==== Proof.Rows3.lean ====
/-
  The last position's norm: the kernel slices the last position and normalises it, the reference normalises every position
  and slices. Both are a row scaled by the reciprocal root of its mean square, times the weights (`Cert.Post.rms`).
-/
module

public import proofs.«01_k».proof.Defs
public import proofs.«01_k».proof.Proof.PostRow
public import proofs.«01_k».proof.Proof.Gen.Kernel3Ideal.Value
public import proofs.«01_k».proof.Proof.Gen.Reference3Ideal.Read
public import proofs.«01_k».proof.Proof.Gen.Reference3Ideal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Rows3

open Idealize.ShloMosaic Idealize.ShloMosaic.TcCoe Idealize.SL.Sem Cert.Kernel3Ideal Cert.Kernel3Ideal.Gen Cert.Post

/-- The one grid point's block. -/
theorem block_apply (x0 : FVec Ideal S2x1024 .f32) (x1 : FVec Ideal S1x1024 .f32) (i : Fin 2) (d : Fin 1024) :
    (out0_2 (F := Ideal) x0 x1) (ix2 i d) = rms (fun d => x0 (ix2 i d)) (fun d => x1 (ix2 0 d)) d := by
  let G : S2x1024.Idx → EReal := fun y => rms (fun d => x0 (ix2 (y 0) d)) (fun d => x1 (ix2 0 d)) (y 1)
  unfold out0_2
  refine View.canon_apply_of_pieces (Val := Elt Ideal) (e := .f32) G _ ?_ (ix2 i d) (cover0_2 _ _)
  intro p hp y
  simp only [List.mem_cons, List.mem_nil_iff, or_false] at hp
  rcases hp with rfl
  change S2x1024.Idx at y
  idx_vars y
  have e : r0_0.emb (ix2 y0 y1) = ix2 y0 y1 := by
    funext a
    fin_cases a <;> exact Fin.ext (by simp [Rect.emb_apply])
  rw [e]
  show _ = rms _ _ y1
  pointwise [k0_pay1, rms]

variable (m : (ℓ : Loc nD τ sig) → Buf (Elt Ideal) ℓ)

/-- Where each window's block lies. -/
theorem idx : ∀ t : Fin cfg0.N, win0_0.index t = ![0, 0] ∧ win0_1.index t = ![0, 0] ∧ win0_2.index t = ![0, 0] :=
  (by decide +kernel : ∀ t : Fin grid0.N, _)

/-- Window 0's block at a grid point, read in its array. -/
theorem blk0 (c : Dev nD) (t : Fin cfg0.N) (i : Fin 2) (k : Fin 1024) : iblk m c 0 t (ix2 i k) = V m c main_v1 (ix2 i k) := by
  unfold iblk
  blk_ext [idx t]

/-- Window 1's block at a grid point, read in its array. -/
theorem blk1 (c : Dev nD) (t : Fin cfg0.N) (i : Fin 1) (k : Fin 1024) : iblk m c 1 t (ix2 i k) = V m c main_v3 (ix2 i k) := by
  unfold iblk
  blk_ext [idx t]

/-- The array that the host prepares as value 1, read in the arguments. -/
theorem ent1 (c : Dev nD) (i : Fin 2) (k : Fin 1024) : V m c main_v1 (ix2 i k) = m ((c : Thread nD τ).loc main_arg0) (ix3 i ⟨8191, by omega⟩ k) := by
  unfold V
  after_reads_at

/-- The array that the host prepares as value 3, read in the arguments. -/
theorem ent3 (c : Dev nD) (k : Fin 1024) : V m c main_v3 (ix2 0 k) = m ((c : Thread nD τ).loc main_arg1) (ix2 0 k) := by
  unfold V
  after_reads_at

/-- **The kernel's result array.** -/
theorem result_eq (c : Dev nD) : (dats m 0 c).arrAt 2 cfg0.N =
    fun y => rms (fun d => m ((c : Thread nD τ).loc main_arg0) (ix3 (y 0) ⟨8191, by omega⟩ d)) (fun d => m ((c : Thread nD τ).loc main_arg1) (ix2 0 d)) (y 1) := by
  refine (dats m 0 c).arrAt_eq_of_covers 2 _ (by decide +kernel) fun t hf y => ?_
  blk_simp
  rw [after0_2]
  change S2x1024.Idx at y
  idx_vars y
  have e : (win0_2.blk t).view.emb (ix2 y0 y1) = ix2 y0 y1 := by
    blk_ext [idx t]
  have key := block_apply (iblk m c 0 t) (iblk m c 1 t) y0 y1
  have e0 : (fun d : Fin 1024 => iblk m c 0 t (ix2 y0 d)) = _ := funext fun d => (blk0 m c t y0 d).trans (ent1 m c y0 d)
  have e1 : (fun d : Fin 1024 => iblk m c 1 t (ix2 0 d)) = _ := funext fun d => (blk1 m c t 0 d).trans (ent3 m c d)
  refine key.trans ?_
  rw [e0, e1, e]
  rfl

/-- The reference's result. -/
theorem ref_apply (x0 : (⟨Cert.Reference3Ideal.S2x8192x1024, .f32⟩ : BufTy).Contents (Elt Ideal)) (x1 : (⟨Cert.Reference3Ideal.S1x1024, .f32⟩ : BufTy).Contents (Elt Ideal))
    (i : Fin 2) (d : Fin 1024) :
    Cert.Reference3Ideal.Read.val_main_v15 (F := Ideal) x0 x1 (ix2 i d) = rms (fun d => x0 (ix3 i ⟨8191, by omega⟩ d)) (fun d => x1 (ix2 0 d)) d := by
  open Cert.Reference3Ideal.Read in
  pointwise [rms, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- **The claim**: over the extended reals the kernel's result is the reference's. -/
theorem algebraic : Cert.algebraic_Kernel3Ideal_Reference3Ideal := by
  pair_intro
  · run_from Cert.Kernel3Ideal.Value.run_blocks m g
  · run_from Cert.Reference3Ideal.Value.run m' g'
    refine Eq.trans ?_ (result_eq m c).symm
    rw [Cert.Reference3Ideal.Read.val_main_v15_eq]
    funext y
    change S2x1024.Idx at y
    idx_vars y
    exact ref_apply _ _ y0 y1

end Cert.Rows3

end
-- ==== Proof.Rows4.lean ====
/-
  The last step's norm, for the samples: the kernel slices the last step and normalises it, the reference normalises every step
  and slices. Both are a row scaled by the reciprocal root of its mean square, times the weights (`Cert.Post.rms`).
-/
module

public import proofs.«01_k».proof.Defs
public import proofs.«01_k».proof.Proof.PostRow
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Rows4

open Idealize.ShloMosaic Idealize.ShloMosaic.TcCoe Idealize.SL.Sem Cert.Kernel4Ideal Cert.Kernel4Ideal.Gen Cert.Post

/-- The one grid point's block. -/
theorem block_apply (x0 : FVec Ideal S128x1024 .f32) (x1 : FVec Ideal S1x1024 .f32) (i : Fin 128) (d : Fin 1024) :
    (out0_2 (F := Ideal) x0 x1) (ix2 i d) = rms (fun d => x0 (ix2 i d)) (fun d => x1 (ix2 0 d)) d := by
  let G : S128x1024.Idx → EReal := fun y => rms (fun d => x0 (ix2 (y 0) d)) (fun d => x1 (ix2 0 d)) (y 1)
  unfold out0_2
  refine View.canon_apply_of_pieces (Val := Elt Ideal) (e := .f32) G _ ?_ (ix2 i d) (cover0_2 _ _)
  intro p hp y
  simp only [List.mem_cons, List.mem_nil_iff, or_false] at hp
  rcases hp with rfl
  change S128x1024.Idx at y
  idx_vars y
  have e : r0_0.emb (ix2 y0 y1) = ix2 y0 y1 := by
    funext a
    fin_cases a <;> exact Fin.ext (by simp [Rect.emb_apply])
  rw [e]
  show _ = rms _ _ y1
  pointwise [k0_pay1, rms]

variable (m : (ℓ : Loc nD τ sig) → Buf (Elt Ideal) ℓ)

/-- Where each window's block lies. -/
theorem idx : ∀ t : Fin cfg0.N, win0_0.index t = ![0, 0] ∧ win0_1.index t = ![0, 0] ∧ win0_2.index t = ![0, 0] :=
  (by decide +kernel : ∀ t : Fin grid0.N, _)

/-- Window 0's block at a grid point, read in its array. -/
theorem blk0 (c : Dev nD) (t : Fin cfg0.N) (i : Fin 128) (k : Fin 1024) : iblk m c 0 t (ix2 i k) = V m c main_v1 (ix2 i k) := by
  unfold iblk
  blk_ext [idx t]

/-- Window 1's block at a grid point, read in its array. -/
theorem blk1 (c : Dev nD) (t : Fin cfg0.N) (i : Fin 1) (k : Fin 1024) : iblk m c 1 t (ix2 i k) = V m c main_v3 (ix2 i k) := by
  unfold iblk
  blk_ext [idx t]

/-- The array that the host prepares as value 1, read in the arguments. -/
theorem ent1 (c : Dev nD) (i : Fin 128) (k : Fin 1024) : V m c main_v1 (ix2 i k) = m ((c : Thread nD τ).loc main_arg0) (ix3 i ⟨7, by omega⟩ k) := by
  unfold V
  after_reads_at

/-- The array that the host prepares as value 3, read in the arguments. -/
theorem ent3 (c : Dev nD) (k : Fin 1024) : V m c main_v3 (ix2 0 k) = m ((c : Thread nD τ).loc main_arg1) (ix2 0 k) := by
  unfold V
  after_reads_at

/-- **The kernel's result array.** -/
theorem result_eq (c : Dev nD) : (dats m 0 c).arrAt 2 cfg0.N =
    fun y => rms (fun d => m ((c : Thread nD τ).loc main_arg0) (ix3 (y 0) ⟨7, by omega⟩ d)) (fun d => m ((c : Thread nD τ).loc main_arg1) (ix2 0 d)) (y 1) := by
  refine (dats m 0 c).arrAt_eq_of_covers 2 _ (by decide +kernel) fun t hf y => ?_
  blk_simp
  rw [after0_2]
  change S128x1024.Idx at y
  idx_vars y
  have e : (win0_2.blk t).view.emb (ix2 y0 y1) = ix2 y0 y1 := by
    blk_ext [idx t]
  have key := block_apply (iblk m c 0 t) (iblk m c 1 t) y0 y1
  have e0 : (fun d : Fin 1024 => iblk m c 0 t (ix2 y0 d)) = _ := funext fun d => (blk0 m c t y0 d).trans (ent1 m c y0 d)
  have e1 : (fun d : Fin 1024 => iblk m c 1 t (ix2 0 d)) = _ := funext fun d => (blk1 m c t 0 d).trans (ent3 m c d)
  refine key.trans ?_
  rw [e0, e1, e]
  rfl

/-- The reference's result. -/
theorem ref_apply (x0 : (⟨Cert.Reference4Ideal.S128x8x1024, .f32⟩ : BufTy).Contents (Elt Ideal)) (x1 : (⟨Cert.Reference4Ideal.S1x1024, .f32⟩ : BufTy).Contents (Elt Ideal))
    (i : Fin 128) (d : Fin 1024) :
    Cert.Reference4Ideal.Read.val_main_v15 (F := Ideal) x0 x1 (ix2 i d) = rms (fun d => x0 (ix3 i ⟨7, by omega⟩ d)) (fun d => x1 (ix2 0 d)) d := by
  open Cert.Reference4Ideal.Read in
  pointwise [rms, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- **The claim**: over the extended reals the kernel's result is the reference's. -/
theorem algebraic : Cert.algebraic_Kernel4Ideal_Reference4Ideal := by
  pair_intro
  · run_from Cert.Kernel4Ideal.Value.run_blocks m g
  · run_from Cert.Reference4Ideal.Value.run m' g'
    refine Eq.trans ?_ (result_eq m c).symm
    rw [Cert.Reference4Ideal.Read.val_main_v15_eq]
    funext y
    change S128x1024.Idx at y
    idx_vars y
    exact ref_apply _ _ y0 y1

end Cert.Rows4

end
-- ==== Proof.PostBlock5.lean ====
/-
  What one grid point of the samples' last call writes. The body is the prompt's; only the attention's rows arrive
  uncast, which over the extended reals is no difference.
-/
module

public import proofs.«01_k».proof.Proof.PostBlock
public import proofs.«01_k».proof.Proof.Gen.Kernel5Ideal.Value

@[expose] public section

set_option maxRecDepth 16384

noncomputable section

namespace Cert.Post5

open Idealize.ShloMosaic Cert.Kernel5Ideal Cert.Kernel5Ideal.Gen Cert.Post

/-- A grid point writes what the prompt's call writes of the same blocks. -/
theorem out_eq (x0 : FVec Ideal S512x512 .f32) (x1 : FVec Ideal S512x1024 .f32) (x2 : FVec Ideal S512x512 .f32)
    (x3 : FVec Ideal S512x1024 .f32) (x4 x5 : FVec Ideal S1x512 .f32) (x6 : FVec Ideal S128x128 .bf16)
    (x7 : FVec Ideal S1024x1024 .bf16) (x8 : FVec Ideal S1x1024 .f32) (x9 x10 : FVec Ideal S1024x2816 .bf16)
    (x11 : FVec Ideal S2816x1024 .bf16) (x12 : FVec Ideal S1x1024 .f32) :
    (out0_13 (F := Ideal) x0 x1 x2 x3 x4 x5 x6 x7 x8 x9 x10 x11 x12 : S512x1024.Idx → EReal)
      = Cert.Kernel2Ideal.Gen.out0_13 (F := Ideal) x0 x1 x2 x3 x4 x5 x6 x7 x8 x9 x10 x11 x12 := by
  rfl

/-- What a grid point writes, row by row. -/
theorem block_apply (x0 : FVec Ideal S512x512 .f32) (x1 : FVec Ideal S512x1024 .f32) (x2 : FVec Ideal S512x512 .f32)
    (x3 : FVec Ideal S512x1024 .f32) (x4 x5 : FVec Ideal S1x512 .f32) (x6 : FVec Ideal S128x128 .bf16)
    (x7 : FVec Ideal S1024x1024 .bf16) (x8 : FVec Ideal S1x1024 .f32) (x9 x10 : FVec Ideal S1024x2816 .bf16)
    (x11 : FVec Ideal S2816x1024 .bf16) (x12 : FVec Ideal S1x1024 .f32) (h1 : IsOnes x6) (hr : ∀ i, ∃ r : ℝ, x0 i = r)
    (i : Fin 512) (d : Fin 1024) :
    (out0_13 (F := Ideal) x0 x1 x2 x3 x4 x5 x6 x7 x8 x9 x10 x11 x12) (ix2 i d)
      = row (brow x0 i) (fun c => x1 (ix2 i ⟨c.val, by omega⟩)) (fun c => x1 (ix2 i ⟨512 + c.val, by omega⟩)) (brow x2 i)
          (brow x3 i) (brow x4 0) (brow x5 0) (fun c d => x7 (ix2 ⟨c.val, by omega⟩ d)) (fun c d => x7 (ix2 ⟨512 + c.val, by omega⟩ d))
          (brow x8 0) (fun d j => x9 (ix2 d j)) (fun d j => x10 (ix2 d j)) (fun j d => x11 (ix2 j d)) (brow x12 0) d :=
  (congrFun (out_eq x0 x1 x2 x3 x4 x5 x6 x7 x8 x9 x10 x11 x12) (ix2 i d)).trans
    (Cert.Post.block_apply x0 x1 x2 x3 x4 x5 x6 x7 x8 x9 x10 x11 x12 h1 hr i d)

end Cert.Post5

end
-- ==== Proof.PostBlk5.lean ====
/-
  The samples' call: the kernel's operands at a grid point, read back to the arguments: each window's block of its array, and each array the
  host prepares before the call (reshapes, one concatenation, and the 0/1 matrix of "the same head").
-/
module

public import proofs.«01_k».proof.Proof.PostBlk
public import proofs.«01_k».proof.Proof.PostBlock5
public import Idealize.ShloMosaic.Lib.Pipeline.ValueKit
public import Idealize.ShloMosaic.Lib.StableHlo.ReadAt

@[expose] public section

set_option maxRecDepth 16384

noncomputable section

namespace Cert.Post5

open Idealize.ShloMosaic Idealize.ShloMosaic.TcCoe Idealize.SL.Sem Cert.Kernel5Ideal Cert.Kernel5Ideal.Gen Cert.Post

variable (m : (ℓ : Loc nD τ sig) → Buf (Elt Ideal) ℓ)

/-- Where each window's block lies at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

/-- There are 2 grid points. -/
theorem lt2 (t : Fin cfg0.N) : t.val < 2 := t.isLt

/-- An array as the call finds it is what the host's operations made of the arguments. -/
theorem entry_eq (c : Dev nD) (b : Ref sig .tc) : V m c b =
    StableHlo.after (hostOps0 ++ hostOps0_1 ++ hostOps0_2 : List (HloOp τ sig (Elt Ideal))) (fun b => m (c, b)) (Proc.devRef .tc b) := by
  simp only [V, List.flatten_cons, List.flatten_nil, List.append_nil, List.append_assoc]

/-! ## The windows' blocks -/

/-- Window 0's block at a grid point, read in its array. -/
theorem blk0 (c : Dev nD) (t : Fin cfg0.N) (i : Fin 512) (k : Fin 512) :
    iblk m c 0 t (ix2 i k) = V m c main_v25 (ix2 ⟨512 * t.val + i.val, by have := lt2 t; omega⟩ k) := by
  have := lt2 t
  unfold iblk
  blk_ext [idx t]

/-- Window 1's block at a grid point, read in its array. -/
theorem blk1 (c : Dev nD) (t : Fin cfg0.N) (i : Fin 512) (k : Fin 1024) :
    iblk m c 1 t (ix2 i k) = V m c main_v24 (ix2 ⟨512 * t.val + i.val, by have := lt2 t; omega⟩ k) := by
  have := lt2 t
  unfold iblk
  blk_ext [idx t]

/-- Window 2's block at a grid point, read in its array. -/
theorem blk2 (c : Dev nD) (t : Fin cfg0.N) (i : Fin 512) (k : Fin 512) :
    iblk m c 2 t (ix2 i k) = V m c main_v26 (ix2 ⟨512 * t.val + i.val, by have := lt2 t; omega⟩ k) := by
  have := lt2 t
  unfold iblk
  blk_ext [idx t]

/-- Window 3's block at a grid point, read in its array. -/
theorem blk3 (c : Dev nD) (t : Fin cfg0.N) (i : Fin 512) (k : Fin 1024) :
    iblk m c 3 t (ix2 i k) = V m c main_v27 (ix2 ⟨512 * t.val + i.val, by have := lt2 t; omega⟩ k) := by
  have := lt2 t
  unfold iblk
  blk_ext [idx t]

/-- Window 4's block at a grid point, read in its array. -/
theorem blk4 (c : Dev nD) (t : Fin cfg0.N) (i : Fin 1) (k : Fin 512) :
    iblk m c 4 t (ix2 i k) = V m c main_v3 (ix2 i k) := by
  have := lt2 t
  unfold iblk
  blk_ext [idx t]

/-- Window 5's block at a grid point, read in its array. -/
theorem blk5 (c : Dev nD) (t : Fin cfg0.N) (i : Fin 1) (k : Fin 512) :
    iblk m c 5 t (ix2 i k) = V m c main_v5 (ix2 i k) := by
  have := lt2 t
  unfold iblk
  blk_ext [idx t]

/-- Window 6's block at a grid point, read in its array. -/
theorem blk6 (c : Dev nD) (t : Fin cfg0.N) (i : Fin 128) (k : Fin 128) :
    iblk m c 6 t (ix2 i k) = V m c main_v22 (ix2 i k) := by
  have := lt2 t
  unfold iblk
  blk_ext [idx t]

/-- Window 7's block at a grid point, read in its array. -/
theorem blk7 (c : Dev nD) (t : Fin cfg0.N) (i : Fin 1024) (k : Fin 1024) :
    iblk m c 7 t (ix2 i k) = V m c main_v7 (ix2 i k) := by
  have := lt2 t
  unfold iblk
  blk_ext [idx t]

/-- Window 8's block at a grid point, read in its array. -/
theorem blk8 (c : Dev nD) (t : Fin cfg0.N) (i : Fin 1) (k : Fin 1024) :
    iblk m c 8 t (ix2 i k) = V m c main_v9 (ix2 i k) := by
  have := lt2 t
  unfold iblk
  blk_ext [idx t]

/-- Window 9's block at a grid point, read in its array. -/
theorem blk9 (c : Dev nD) (t : Fin cfg0.N) (i : Fin 1024) (k : Fin 2816) :
    iblk m c 9 t (ix2 i k) = V m c main_v11 (ix2 i k) := by
  have := lt2 t
  unfold iblk
  blk_ext [idx t]

/-- Window 10's block at a grid point, read in its array. -/
theorem blk10 (c : Dev nD) (t : Fin cfg0.N) (i : Fin 1024) (k : Fin 2816) :
    iblk m c 10 t (ix2 i k) = V m c main_v13 (ix2 i k) := by
  have := lt2 t
  unfold iblk
  blk_ext [idx t]

/-- Window 11's block at a grid point, read in its array. -/
theorem blk11 (c : Dev nD) (t : Fin cfg0.N) (i : Fin 2816) (k : Fin 1024) :
    iblk m c 11 t (ix2 i k) = V m c main_v15 (ix2 i k) := by
  have := lt2 t
  unfold iblk
  blk_ext [idx t]

/-- Window 12's block at a grid point, read in its array. -/
theorem blk12 (c : Dev nD) (t : Fin cfg0.N) (i : Fin 1) (k : Fin 1024) :
    iblk m c 12 t (ix2 i k) = V m c main_v16 (ix2 i k) := by
  have := lt2 t
  unfold iblk
  blk_ext [idx t]

/-! ## The arrays the host prepares -/

/-- The array that the host prepares as value 25, read in the arguments. -/
theorem ent25 (c : Dev nD) (n : Fin 1024) (k : Fin 512) : V m c main_v25 (ix2 n k) =
    m ((c : Thread nD τ).loc main_arg0) (ix4 ⟨n.val / 8, by omega⟩ ⟨n.val % 8, by omega⟩ ⟨k.val / 64, by omega⟩ ⟨k.val % 64, by omega⟩) := by
  rw [entry_eq]
  after_reads_at

/-- The gate array's first 512 columns are the gate. -/
theorem ent24a (c : Dev nD) (n : Fin 1024) (k : Fin 512) : V m c main_v24 (ix2 n ⟨k.val, by omega⟩) =
    m ((c : Thread nD τ).loc main_arg1) (ix3 ⟨n.val / 8, by omega⟩ ⟨n.val % 8, by omega⟩ k) := by
  rw [entry_eq]
  after_reads_at
  after_reads_at

/-- Its last 512 columns are the bonus. -/
theorem ent24b (c : Dev nD) (n : Fin 1024) (k : Fin 512) : V m c main_v24 (ix2 n ⟨512 + k.val, by omega⟩) =
    m ((c : Thread nD τ).loc main_arg2) (ix3 ⟨n.val / 8, by omega⟩ ⟨n.val % 8, by omega⟩ k) := by
  rw [entry_eq]
  after_reads_at
  after_reads_at

/-- The array that the host prepares as value 26, read in the arguments. -/
theorem ent26 (c : Dev nD) (n : Fin 1024) (k : Fin 512) : V m c main_v26 (ix2 n k) =
    m ((c : Thread nD τ).loc main_arg3) (ix3 ⟨n.val / 8, by omega⟩ ⟨n.val % 8, by omega⟩ k) := by
  rw [entry_eq]
  after_reads_at

/-- The array that the host prepares as value 27, read in the arguments. -/
theorem ent27 (c : Dev nD) (n : Fin 1024) (k : Fin 1024) : V m c main_v27 (ix2 n k) =
    m ((c : Thread nD τ).loc main_arg4) (ix3 ⟨n.val / 8, by omega⟩ ⟨n.val % 8, by omega⟩ k) := by
  rw [entry_eq]
  after_reads_at

/-- The array that the host prepares as value 3, read in the arguments. -/
theorem ent3 (c : Dev nD) (k : Fin 512) : V m c main_v3 (ix2 0 k) =
    m ((c : Thread nD τ).loc main_arg5) (ix2 0 k) := by
  rw [entry_eq]
  after_reads_at

/-- The array that the host prepares as value 5, read in the arguments. -/
theorem ent5 (c : Dev nD) (k : Fin 512) : V m c main_v5 (ix2 0 k) =
    m ((c : Thread nD τ).loc main_arg6) (ix2 0 k) := by
  rw [entry_eq]
  after_reads_at

/-- The array that the host prepares as value 7, read in the arguments. -/
theorem ent7 (c : Dev nD) (i k : Fin 1024) : V m c main_v7 (ix2 i k) =
    m ((c : Thread nD τ).loc main_arg7) (ix3 0 i k) := by
  rw [entry_eq]
  after_reads_at

/-- The array that the host prepares as value 9, read in the arguments. -/
theorem ent9 (c : Dev nD) (k : Fin 1024) : V m c main_v9 (ix2 0 k) =
    m ((c : Thread nD τ).loc main_arg8) (ix2 0 k) := by
  rw [entry_eq]
  after_reads_at

/-- The array that the host prepares as value 11, read in the arguments. -/
theorem ent11 (c : Dev nD) (i : Fin 1024) (k : Fin 2816) : V m c main_v11 (ix2 i k) =
    m ((c : Thread nD τ).loc main_arg9) (ix3 0 i k) := by
  rw [entry_eq]
  after_reads_at

/-- The array that the host prepares as value 13, read in the arguments. -/
theorem ent13 (c : Dev nD) (i : Fin 1024) (k : Fin 2816) : V m c main_v13 (ix2 i k) =
    m ((c : Thread nD τ).loc main_arg10) (ix3 0 i k) := by
  rw [entry_eq]
  after_reads_at

/-- The array that the host prepares as value 15, read in the arguments. -/
theorem ent15 (c : Dev nD) (i : Fin 2816) (k : Fin 1024) : V m c main_v15 (ix2 i k) =
    m ((c : Thread nD τ).loc main_arg11) (ix3 0 i k) := by
  rw [entry_eq]
  after_reads_at

/-- The array that the host prepares as value 16, read in the arguments. -/
theorem ent16 (c : Dev nD) (k : Fin 1024) : V m c main_v16 (ix2 0 k) =
    m ((c : Thread nD τ).loc main_arg12) (ix1 k) := by
  rw [entry_eq]
  after_reads_at

/-- The array that the host prepares as value 22, read in the arguments. -/
theorem ent22 (c : Dev nD) (l k : Fin 128) : (V m c main_v22 (ix2 l k)) = (if l.val / 64 = k.val / 64 then 1 else 0 : EReal) := by
  rw [entry_eq]
  after_reads_at
  refine (congrArg (FloatOps.uitofp (F := Ideal) FTy.bf16) (headWord_cmp l k)).trans ?_
  split <;> simp [FloatOps.uitofp]

end Cert.Post5

end
-- ==== Proof.PostValue5.lean ====
/-
  The samples' call: the kernel's result array: every row is `Cert.Post.row` of the arguments' rows at the position it stands for.
-/
module

public import proofs.«01_k».proof.Proof.PostBlk5

@[expose] public section

set_option maxRecDepth 16384

noncomputable section

namespace Cert.Post5

open Idealize.ShloMosaic Idealize.ShloMosaic.TcCoe Idealize.SL.Sem Cert.Kernel5Ideal Cert.Kernel5Ideal.Gen Cert.Post

variable (m : (ℓ : Loc nD τ sig) → Buf (Elt Ideal) ℓ)

/-- Row `n` of the result, of the arguments. -/
def target (c : Dev nD) (n : Fin 1024) : Fin 1024 → EReal :=
  row (fun k => m ((c : Thread nD τ).loc main_arg0) (ix4 ⟨n.val / 8, by omega⟩ ⟨n.val % 8, by omega⟩ ⟨k.val / 64, by omega⟩ ⟨k.val % 64, by omega⟩))
    (fun k => m ((c : Thread nD τ).loc main_arg1) (ix3 ⟨n.val / 8, by omega⟩ ⟨n.val % 8, by omega⟩ k))
    (fun k => m ((c : Thread nD τ).loc main_arg2) (ix3 ⟨n.val / 8, by omega⟩ ⟨n.val % 8, by omega⟩ k))
    (fun k => m ((c : Thread nD τ).loc main_arg3) (ix3 ⟨n.val / 8, by omega⟩ ⟨n.val % 8, by omega⟩ k))
    (fun k => m ((c : Thread nD τ).loc main_arg4) (ix3 ⟨n.val / 8, by omega⟩ ⟨n.val % 8, by omega⟩ k))
    (fun k => m ((c : Thread nD τ).loc main_arg5) (ix2 0 k)) (fun k => m ((c : Thread nD τ).loc main_arg6) (ix2 0 k))
    (fun k d => m ((c : Thread nD τ).loc main_arg7) (ix3 0 ⟨k.val, by omega⟩ d))
    (fun k d => m ((c : Thread nD τ).loc main_arg7) (ix3 0 ⟨512 + k.val, by omega⟩ d))
    (fun d => m ((c : Thread nD τ).loc main_arg8) (ix2 0 d)) (fun d j => m ((c : Thread nD τ).loc main_arg9) (ix3 0 d j))
    (fun d j => m ((c : Thread nD τ).loc main_arg10) (ix3 0 d j)) (fun j d => m ((c : Thread nD τ).loc main_arg11) (ix3 0 j d))
    (fun d => m ((c : Thread nD τ).loc main_arg12) (ix1 d))

/-- What a grid point writes at row `i` of its block is the result's row there. -/
theorem point_apply (c : Dev nD) (hr : ∀ i, ∃ r : ℝ, m ((c : Thread nD τ).loc main_arg0) i = (r : EReal)) (t : Fin cfg0.N) (i : Fin 512) (d : Fin 1024) :
    (out0_13 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t)) (ix2 i d)
      = target m c ⟨512 * t.val + i.val, by have := lt2 t; omega⟩ d := by
  have key := block_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t)
      (fun l k => (blk6 m c t l k).trans (ent22 m c l k))
      (fun y => by
        change S512x512.Idx at y
        idx_vars y
        obtain ⟨r, e⟩ := hr (ix4 ⟨(512 * t.val + y0.val) / 8, by have := lt2 t; omega⟩ ⟨(512 * t.val + y0.val) % 8, by omega⟩ ⟨y1.val / 64, by omega⟩ ⟨y1.val % 64, by omega⟩)
        exact ⟨r, ((blk0 m c t y0 y1).trans (ent25 m c _ y1)).trans e⟩) i d
  refine key.trans ?_
  unfold target
  have e0 : brow (iblk m c 0 t) i = _ := funext fun k => (blk0 m c t i k).trans (ent25 m c _ k)
  have e1 : (fun k : Fin 512 => iblk m c 1 t (ix2 i ⟨k.val, by omega⟩)) = _ := funext fun k => (blk1 m c t i _).trans (ent24a m c _ k)
  have e1' : (fun k : Fin 512 => iblk m c 1 t (ix2 i ⟨512 + k.val, by omega⟩)) = _ := funext fun k => (blk1 m c t i _).trans (ent24b m c _ k)
  have e2 : brow (iblk m c 2 t) i = _ := funext fun k => (blk2 m c t i k).trans (ent26 m c _ k)
  have e3 : brow (iblk m c 3 t) i = _ := funext fun k => (blk3 m c t i k).trans (ent27 m c _ k)
  have e4 : brow (iblk m c 4 t) 0 = _ := funext fun k => (blk4 m c t 0 k).trans (ent3 m c k)
  have e5 : brow (iblk m c 5 t) 0 = _ := funext fun k => (blk5 m c t 0 k).trans (ent5 m c k)
  have e7 : (fun (k : Fin 512) (d : Fin 1024) => iblk m c 7 t (ix2 ⟨k.val, by omega⟩ d)) = _ :=
    funext fun k => funext fun d => (blk7 m c t _ d).trans (ent7 m c _ d)
  have e7' : (fun (k : Fin 512) (d : Fin 1024) => iblk m c 7 t (ix2 ⟨512 + k.val, by omega⟩ d)) = _ :=
    funext fun k => funext fun d => (blk7 m c t _ d).trans (ent7 m c _ d)
  have e8 : brow (iblk m c 8 t) 0 = _ := funext fun k => (blk8 m c t 0 k).trans (ent9 m c k)
  have e9 : (fun (d : Fin 1024) (j : Fin 2816) => iblk m c 9 t (ix2 d j)) = _ := funext fun d => funext fun j => (blk9 m c t d j).trans (ent11 m c d j)
  have e10 : (fun (d : Fin 1024) (j : Fin 2816) => iblk m c 10 t (ix2 d j)) = _ := funext fun d => funext fun j => (blk10 m c t d j).trans (ent13 m c d j)
  have e11 : (fun (j : Fin 2816) (d : Fin 1024) => iblk m c 11 t (ix2 j d)) = _ := funext fun j => funext fun d => (blk11 m c t j d).trans (ent15 m c j d)
  have e12 : brow (iblk m c 12 t) 0 = _ := funext fun k => (blk12 m c t 0 k).trans (ent16 m c k)
  rw [e0, e1, e1', e2, e3, e4, e5, e7, e7', e8, e9, e10, e11, e12]

/-- **The kernel's result array.** -/
theorem result_eq (c : Dev nD) (hr : ∀ i, ∃ r : ℝ, m ((c : Thread nD τ).loc main_arg0) i = (r : EReal)) :
    (dats m 0 c).arrAt 13 cfg0.N = fun y => target m c (y 0) (y 1) := by
  refine (dats m 0 c).arrAt_eq_of_covers 13 _ (by decide +kernel) fun t hf y => ?_
  blk_simp
  rw [after0_13]
  change S512x1024.Idx at y
  idx_vars y
  have := lt2 t
  have e : (win0_13.blk t).view.emb (ix2 y0 y1) = ix2 ⟨512 * t.val + y0.val, by omega⟩ y1 := by
    blk_ext [idx t]
  exact (point_apply m c hr t y0 y1).trans (by rw [e]; rfl)

end Cert.Post5

end
-- ==== Proof.PostRef5.lean ====
/-
  What the reference computes of the samples' end of the layer, stage by stage: each stage's row at a position is the stage of
  `Cert.Post.row` of the rows before it.
-/
module

public import proofs.«01_k».proof.Proof.PostRef
public import proofs.«01_k».proof.Proof.Gen.Reference5Ideal.Read
public import Idealize.ShloMosaic.Lib.Pipeline.ValueKit
public import Idealize.ShloMosaic.Lib.StableHlo.ReadAt

@[expose] public section

set_option maxRecDepth 16384

noncomputable section

namespace Cert.Post5

open Idealize.ShloMosaic Idealize.ShloMosaic.TcCoe Idealize.SL.Sem Cert.Reference5Ideal Cert.Reference5Ideal.Read Cert.Post

variable (x0 : (⟨S128x8x8x64, .f32⟩ : BufTy).Contents (Elt Ideal)) (x1 x2 : (⟨S128x8x512, .f32⟩ : BufTy).Contents (Elt Ideal))
  (x3 : (⟨S128x8x512, .f32⟩ : BufTy).Contents (Elt Ideal)) (x4 : (⟨S128x8x1024, .f32⟩ : BufTy).Contents (Elt Ideal))
  (x5 x6 : (⟨S1x512, .f32⟩ : BufTy).Contents (Elt Ideal)) (x7 : (⟨S1x1024x1024, .f32⟩ : BufTy).Contents (Elt Ideal))
  (x8 : (⟨S1x1024, .f32⟩ : BufTy).Contents (Elt Ideal)) (x9 x10 : (⟨S1x1024x2816, .f32⟩ : BufTy).Contents (Elt Ideal))
  (x11 : (⟨S1x2816x1024, .f32⟩ : BufTy).Contents (Elt Ideal)) (x12 : (⟨S1024, .f32⟩ : BufTy).Contents (Elt Ideal))

/-- A row of the scan's output, its heads one after another. -/
abbrev headRow (b : Fin 128) (t : Fin 8) : Fin 512 → EReal := fun c => x0 (ix4 b t ⟨c.val / 64, by omega⟩ ⟨c.val % 64, by omega⟩)

/-- The heads' means. -/
theorem ref3 (b : Fin 128) (t : Fin 8) (c : Fin 512) :
    val_main_v3 (F := Ideal) x0 (ix4 b t ⟨c.val / 64, by omega⟩ 0) = mean (headRow x0 b t) c := by
  pointwise [val_main_v3, val_main_v2, val_main_v1, val_main_v0, val_main_cst, val_main_cst_0]
  unfold mean
  refine congrArg (Ideal.div · _) (Finset.sum_congr rfl fun k _ => ?_)
  exact (headCol_read (fun h j => x0 (ix4 b t h j)) c k).symm

/-- The scan's output less its heads' means, as the variance reads it. -/
theorem ref5 (b : Fin 128) (t : Fin 8) (c : Fin 512) :
    val_main_v5 (F := Ideal) x0 (ix4 b t ⟨c.val / 64, by omega⟩ ⟨c.val % 64, by omega⟩) = cen (headRow x0 b t) c := by
  have h := ref3 x0 b t c
  unfold val_main_v5 val_main_v4
  revert h
  generalize val_main_v3 (F := Ideal) x0 = z
  intro h
  pointwise [h]
  rfl

/-- The same, as the normalised value reads it. -/
theorem ref12 (b : Fin 128) (t : Fin 8) (c : Fin 512) :
    val_main_v12 (F := Ideal) x0 (ix4 b t ⟨c.val / 64, by omega⟩ ⟨c.val % 64, by omega⟩) = cen (headRow x0 b t) c := by
  have h := ref3 x0 b t c
  unfold val_main_v12 val_main_v11
  revert h
  generalize val_main_v3 (F := Ideal) x0 = z
  intro h
  pointwise [h]
  rfl

/-- The heads' variances. -/
theorem ref10 (b : Fin 128) (t : Fin 8) (c : Fin 512) :
    val_main_v10 (F := Ideal) x0 (ix4 b t ⟨c.val / 64, by omega⟩ 0) = var (headRow x0 b t) c := by
  have h : ∀ k : Fin 64, val_main_v5 (F := Ideal) x0 (ix4 b t ⟨c.val / 64, by omega⟩ k) = cen (headRow x0 b t) (headCol c k) :=
    fun k => (headCol_read (fun h j => val_main_v5 (F := Ideal) x0 (ix4 b t h j)) c k).symm.trans (ref5 x0 b t (headCol c k))
  unfold val_main_v10 val_main_v9 val_main_v8 val_main_v7 val_main_cst_1 val_main_cst_2 val_main_v6
  revert h
  generalize val_main_v5 (F := Ideal) x0 = z
  intro h
  pointwise []
  unfold var mean
  refine congrArg (Ideal.div · _) (Finset.sum_congr rfl fun k _ => ?_)
  rw [h]

/-- The scan's half of the mixer. -/
theorem ref28 (b : Fin 128) (t : Fin 8) (c : Fin 512) :
    val_main_v28 (F := Ideal) x0 x1 x2 x5 x6 (ix3 b t c) = mix (headRow x0 b t) (fun c => x1 (ix3 b t c)) (fun c => x2 (ix3 b t c))
      (fun c => x5 (ix2 0 c)) (fun c => x6 (ix2 0 c)) c := by
  have h := ref10 x0 b t c
  have h' := ref12 x0 b t c
  unfold val_main_v28 val_main_v27 val_main_v26 val_main_v25 val_main_v24 val_main_v23 val_main_v22 val_main_v21 val_main_v20 val_main_v19
    val_main_v18 val_main_v17 val_main_v16 val_main_v15 val_main_v14 val_main_v13 val_main_cst_3
  revert h h'
  generalize val_main_v10 (F := Ideal) x0 = z
  generalize val_main_v12 (F := Ideal) x0 = z'
  intro h h'
  pointwise [h, h', mix]

/-- The residual after the mixer. -/
theorem ref32 (b : Fin 128) (t : Fin 8) (d : Fin 1024) :
    val_main_v32 (F := Ideal) x0 x1 x2 x3 x4 x5 x6 x7 (ix3 b t d) = resid (fun c => x4 (ix3 b t c)) (fun c => x3 (ix3 b t c))
      (fun c => val_main_v28 (F := Ideal) x0 x1 x2 x5 x6 (ix3 b t c)) (fun c d => x7 (ix3 0 ⟨c.val, by omega⟩ d)) (fun c d => x7 (ix3 0 ⟨512 + c.val, by omega⟩ d)) d := by
  unfold val_main_v32 val_main_v31 val_main_v30 val_main_v29
  generalize val_main_v28 (F := Ideal) x0 x1 x2 x5 x6 = z
  pointwise []
  exact (add_assoc _ _ _).symm

/-- The feed-forward network's input. -/
theorem ref46 (b : Fin 128) (t : Fin 8) (d : Fin 1024) :
    val_main_v46 (F := Ideal) x0 x1 x2 x3 x4 x5 x6 x7 x8 (ix3 b t d) =
      rms (fun d => val_main_v32 (F := Ideal) x0 x1 x2 x3 x4 x5 x6 x7 (ix3 b t d)) (fun d => x8 (ix2 0 d)) d := by
  unfold val_main_v46 val_main_v45 val_main_v44 val_main_v43 val_main_v42 val_main_v41 val_main_v40 val_main_v39 val_main_v38 val_main_v37
    val_main_v36 val_main_v35 val_main_v34 val_main_v33 val_main_cst_4 val_main_cst_5 val_main_cst_6
  generalize val_main_v32 (F := Ideal) x0 x1 x2 x3 x4 x5 x6 x7 = z
  pointwise [rms]

/-- The gated unit. -/
theorem ref52 (b : Fin 128) (t : Fin 8) (j : Fin 2816) :
    val_main_v52 (F := Ideal) x0 x1 x2 x3 x4 x5 x6 x7 x8 x9 x10 (ix3 b t j) =
      hid (fun d => val_main_v46 (F := Ideal) x0 x1 x2 x3 x4 x5 x6 x7 x8 (ix3 b t d)) (fun d j => x9 (ix3 0 d j)) (fun d j => x10 (ix3 0 d j)) j := by
  unfold val_main_v52 val_main_v51 val_main_v50 val_main_v49 val_main_call0_v5 val_main_call0_v4 val_main_call0_v3 val_main_call0_v2
    val_main_call0_v1 val_main_call0_v0 val_main_call0_cst val_main_call0_cst_0 val_main_v48 val_main_v47
  generalize val_main_v46 (F := Ideal) x0 x1 x2 x3 x4 x5 x6 x7 x8 = z
  pointwise [hid]

/-- The residual after the feed-forward network. -/
theorem ref55 (b : Fin 128) (t : Fin 8) (d : Fin 1024) :
    val_main_v55 (F := Ideal) x0 x1 x2 x3 x4 x5 x6 x7 x8 x9 x10 x11 (ix3 b t d) =
      val_main_v32 (F := Ideal) x0 x1 x2 x3 x4 x5 x6 x7 (ix3 b t d)
        + ∑ j, val_main_v52 (F := Ideal) x0 x1 x2 x3 x4 x5 x6 x7 x8 x9 x10 (ix3 b t j) * x11 (ix3 0 j d) := by
  unfold val_main_v55 val_main_v54 val_main_v53
  generalize val_main_v32 (F := Ideal) x0 x1 x2 x3 x4 x5 x6 x7 = z
  generalize val_main_v52 (F := Ideal) x0 x1 x2 x3 x4 x5 x6 x7 x8 x9 x10 = z'
  pointwise []

/-- The last norm, its positions one after another. -/
theorem ref69 (n : Fin 1024) (d : Fin 1024) :
    val_main_v69 (F := Ideal) x0 x1 x2 x3 x4 x5 x6 x7 x8 x9 x10 x11 x12 (ix2 n d) =
      rms (fun d => val_main_v55 (F := Ideal) x0 x1 x2 x3 x4 x5 x6 x7 x8 x9 x10 x11 (ix3 ⟨n.val / 8, by omega⟩ ⟨n.val % 8, by omega⟩ d)) (fun d => x12 (ix1 d)) d := by
  unfold val_main_v69 val_main_v68 val_main_v67 val_main_v66 val_main_v65 val_main_v64 val_main_v63 val_main_v62 val_main_v61 val_main_v60 val_main_v59
    val_main_v58 val_main_v57 val_main_v56 val_main_cst_7 val_main_cst_8 val_main_cst_9
  generalize val_main_v55 (F := Ideal) x0 x1 x2 x3 x4 x5 x6 x7 x8 x9 x10 x11 = z
  pointwise [rms]

/-- **The reference's result**: its row `n` is `row` of the arguments' rows at the position `n` stands for. -/
theorem ref_row (n : Fin 1024) (d : Fin 1024) :
    val_main_v69 (F := Ideal) x0 x1 x2 x3 x4 x5 x6 x7 x8 x9 x10 x11 x12 (ix2 n d) =
      row (headRow x0 ⟨n.val / 8, by omega⟩ ⟨n.val % 8, by omega⟩)
        (fun c => x1 (ix3 ⟨n.val / 8, by omega⟩ ⟨n.val % 8, by omega⟩ c))
        (fun c => x2 (ix3 ⟨n.val / 8, by omega⟩ ⟨n.val % 8, by omega⟩ c))
        (fun c => x3 (ix3 ⟨n.val / 8, by omega⟩ ⟨n.val % 8, by omega⟩ c))
        (fun c => x4 (ix3 ⟨n.val / 8, by omega⟩ ⟨n.val % 8, by omega⟩ c))
        (fun c => x5 (ix2 0 c)) (fun c => x6 (ix2 0 c))
        (fun c d => x7 (ix3 0 ⟨c.val, by omega⟩ d)) (fun c d => x7 (ix3 0 ⟨512 + c.val, by omega⟩ d))
        (fun d => x8 (ix2 0 d)) (fun d j => x9 (ix3 0 d j)) (fun d j => x10 (ix3 0 d j)) (fun j d => x11 (ix3 0 j d))
        (fun d => x12 (ix1 d)) d := by
  simp only [ref69, ref55, ref52, ref46, ref32, ref28]
  rfl

end Cert.Post5

end
-- ==== Proof.PostClaim5.lean ====
/-
  The claim on the samples' end of the layer: the kernel's result array and the reference's are one function of the arguments, for a
  finite output of the scan.
-/
module

public import proofs.«01_k».proof.Defs
public import proofs.«01_k».proof.Proof.PostClaim
public import proofs.«01_k».proof.Proof.PostValue5
public import proofs.«01_k».proof.Proof.PostRef5
public import proofs.«01_k».proof.Proof.Gen.Reference5Ideal.Run
public import proofs.«01_k».proof.Proof.Gen.Pre_finite5
public import Idealize.ShloMosaic.Lib.Claim
public import Idealize.ShloMosaic.Lib.ReduceAll

@[expose] public section

set_option maxRecDepth 16384

noncomputable section

namespace Cert.Post5

open Idealize.ShloMosaic Idealize.ShloMosaic.TcCoe Idealize.SL.Sem Cert.Post

/-- The precondition says that every value of the scan's output is a real number. -/
theorem finite_of_pre (m : (ℓ : Loc Cert.Kernel5Ideal.nD Cert.Kernel5Ideal.τ Cert.Kernel5Ideal.sig) → Buf (Elt Ideal) ℓ)
    (h : Cert.Pre_Kernel5Ideal_finite5 m) (c : Dev Cert.Kernel5Ideal.nD) (i : Cert.Kernel5Ideal.S128x8x8x64.Idx) :
    ∃ r : ℝ, m ((c.tc : Thread Cert.Kernel5Ideal.nD Cert.Kernel5Ideal.τ).loc Cert.Kernel5Ideal.main_arg0) i = (r : EReal) := by
  have h0 := h c
  dsimp only [Cert.Pre_finite5.fn] at h0
  have h1 := congrFun h0 ix0
  have h2 := Host.reduce_andi_all _ _ _ _ _ h1 i
  exact real_of_abs _ h2

/-- **The claim**: over the extended reals the kernel's result is the reference's. -/
theorem algebraic : Cert.algebraic_Kernel5Ideal_Reference5Ideal_pre_finite5 := by
  pair_intro
  · run_from Cert.Kernel5Ideal.Value.run_blocks m g
  · run_from Cert.Reference5Ideal.Value.run m' g'
    obtain ⟨h0, h1, h2, h3, h4, h5, h6, h7, h8, h9, h10, h11, h12⟩ := hagree c
    refine Eq.trans ?_ (result_eq m c (finite_of_pre m hpre c)).symm
    rw [Cert.Reference5Ideal.Read.val_main_v69_eq, h0, h1, h2, h3, h4, h5, h6, h7, h8, h9, h10, h11, h12]
    funext y
    change Cert.Kernel5Ideal.S1024x1024.Idx at y
    idx_vars y
    exact ref_row _ _ _ _ _ _ _ _ _ _ _ _ _ y0 y1

end Cert.Post5

end
-- ==== Proof.ProjRef.lean ====
/-
  The samples' input projection: the 1024 rows of the samples, each scaled by the reciprocal root of its mean square and
  the weights, and below them the 128 carried rows as they are, times the input matrix; the four results are its columns,
  cut at 512, 640 and 768. Kernel and reference both give `proj`.
-/
module

public import proofs.«01_k».proof.Proof.PostRow
public import proofs.«01_k».proof.Proof.Gen.Reference6Ideal.Read
public import Idealize.ShloMosaic.Lib.Pipeline.ValueKit
public import Idealize.ShloMosaic.Lib.StableHlo.ReadAt

@[expose] public section

set_option maxRecDepth 16384

noncomputable section

namespace Cert.Proj

open Idealize.ShloMosaic Idealize.ShloMosaic.TcCoe Idealize.SL.Sem Cert.Reference6Ideal Cert.Reference6Ideal.Read Cert.Post

/-- Row `n` of what is multiplied: a normed sample row, or from row 1024 on a carried row. -/
def inRow (x : S128x8x1024.Idx → EReal) (h : S1x128x1024.Idx → EReal) (g : S1x1024.Idx → EReal) (n : Fin 1152) (d : Fin 1024) : EReal :=
  if hn : n.val < 1024 then rms (fun d => x (ix3 ⟨n.val / 8, by omega⟩ ⟨n.val % 8, by omega⟩ d)) (fun d => g (ix2 0 d)) d
  else h (ix3 0 ⟨n.val - 1024, by omega⟩ d)

/-- The projection at row `n`, column `j`. -/
def proj (x : S128x8x1024.Idx → EReal) (h : S1x128x1024.Idx → EReal) (g : S1x1024.Idx → EReal) (w : S1x1024x2560.Idx → EReal)
    (n : Fin 1152) (j : Fin 2560) : EReal := ∑ d, inRow x h g n d * w (ix3 0 d j)

/-- The projection's `k` columns from column `o` on. -/
def part (o k : ℕ) (hk : o + k ≤ 2560) (x : S128x8x1024.Idx → EReal) (h : S1x128x1024.Idx → EReal) (g : S1x1024.Idx → EReal)
    (w : S1x1024x2560.Idx → EReal) (n : Fin 1152) (j : Fin k) : EReal := proj x h g w n ⟨o + j.val, by omega⟩

/-! ## The reference -/

variable (x0 : (⟨S128x8x1024, .f32⟩ : BufTy).Contents (Elt Ideal)) (x1 : (⟨S1x128x1024, .f32⟩ : BufTy).Contents (Elt Ideal))
  (x2 : (⟨S1x1024, .f32⟩ : BufTy).Contents (Elt Ideal)) (x3 : (⟨S1x1024x2560, .f32⟩ : BufTy).Contents (Elt Ideal))

/-- The normed sample rows. -/
theorem ref14 (n d : Fin 1024) : val_main_v14 (F := Ideal) x0 x2 (ix2 n d) =
    rms (fun d => x0 (ix3 ⟨n.val / 8, by omega⟩ ⟨n.val % 8, by omega⟩ d)) (fun d => x2 (ix2 0 d)) d := by
  pointwise [rms, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The carried rows. -/
theorem ref15 (n : Fin 128) (d : Fin 1024) : val_main_v15 (F := Ideal) x1 (ix2 n d) = x1 (ix3 0 n d) := by
  pointwise [val_main_v15]

/-- The rows that are multiplied. -/
theorem ref16 (n : Fin 1152) (d : Fin 1024) : val_main_v16 (F := Ideal) x0 x1 x2 (ix2 n d) = inRow x0 x1 x2 n d := by
  unfold val_main_v16 inRow
  split_ifs with hn
  · refine (concatenate_pair_apply_left (s₁ := S1024x1024) (s₂ := S128x1024) 0 _ _ _ (ix2 n d) rfl (ix2 ⟨n.val, hn⟩ d) fun b => ?_).trans (ref14 x0 x2 _ _)
    fin_cases b <;> rfl
  · refine (concatenate_pair_apply_right (s₁ := S1024x1024) (s₂ := S128x1024) 0 _ _ _ (ix2 n d) rfl rfl (ix2 ⟨n.val - 1024, by omega⟩ d) (fun b hb => ?_) ?_).trans (ref15 x1 _ _)
    · fin_cases b
      · exact absurd rfl hb
      · rfl
    · show n.val - 1024 + 1024 = n.val
      omega

/-- The product, entry by entry. -/
theorem ref18 (n : Fin 1152) (j : Fin 2560) : val_main_v18 (F := Ideal) x0 x1 x2 x3 (ix2 n j) = proj x0 x1 x2 x3 n j := by
  have h := fun d => ref16 x0 x1 x2 n d
  unfold val_main_v18 val_main_v17
  revert h
  generalize val_main_v16 (F := Ideal) x0 x1 x2 = z
  intro h
  pointwise [proj, h]

/-- The queries. -/
theorem ref19 (n : Fin 1152) (j : Fin 512) : val_main_v19 (F := Ideal) x0 x1 x2 x3 (ix2 n j) = part 0 512 (by omega) x0 x1 x2 x3 n j := by
  have h := ref18 x0 x1 x2 x3 n
  unfold val_main_v19
  revert h
  generalize val_main_v18 (F := Ideal) x0 x1 x2 x3 = z
  intro h
  pointwise [h, part]

/-- The keys. -/
theorem ref20 (n : Fin 1152) (j : Fin 128) : val_main_v20 (F := Ideal) x0 x1 x2 x3 (ix2 n j) = part 512 128 (by omega) x0 x1 x2 x3 n j := by
  have h := ref18 x0 x1 x2 x3 n
  unfold val_main_v20
  revert h
  generalize val_main_v18 (F := Ideal) x0 x1 x2 x3 = z
  intro h
  pointwise [h, part]

/-- The values. -/
theorem ref21 (n : Fin 1152) (j : Fin 128) : val_main_v21 (F := Ideal) x0 x1 x2 x3 (ix2 n j) = part 640 128 (by omega) x0 x1 x2 x3 n j := by
  have h := ref18 x0 x1 x2 x3 n
  unfold val_main_v21
  revert h
  generalize val_main_v18 (F := Ideal) x0 x1 x2 x3 = z
  intro h
  pointwise [h, part]

/-- The features of the recurrence. -/
theorem ref22 (n : Fin 1152) (j : Fin 1792) : val_main_v22 (F := Ideal) x0 x1 x2 x3 (ix2 n j) = part 768 1792 (by omega) x0 x1 x2 x3 n j := by
  have h := ref18 x0 x1 x2 x3 n
  unfold val_main_v22
  revert h
  generalize val_main_v18 (F := Ideal) x0 x1 x2 x3 = z
  intro h
  pointwise [h, part]

end Cert.Proj

end
-- ==== Proof.Proj.lean ====
/-
  The kernel of the samples' input projection, block by block, and the claim: its four results are the reference's.
-/
module

public import proofs.«01_k».proof.Defs
public import proofs.«01_k».proof.Proof.ProjRef
public import proofs.«01_k».proof.Proof.Gen.Kernel6Ideal.Value
public import proofs.«01_k».proof.Proof.Gen.Reference6Ideal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Proj

open Idealize.ShloMosaic Idealize.ShloMosaic.TcCoe Idealize.SL.Sem Cert.Kernel6Ideal Cert.Kernel6Ideal.Gen Cert.Post

/-! ## The kernel's block -/

/-- The kernel's test for a sample row, as it computes it of the grid point and the row in the block. -/
theorem rowWord : ∀ (p : Fin 3) (r : Fin 384),
    IntOp.cmpi CmpIPredicate.slt (IntOp.addi (BitVec.ofNat 32 r.val) (Scalar.muli (BitVec.ofNat 32 p.val) 384#32)) 1024#32
      = if 384 * p.val + r.val < 1024 then 1#1 else 0#1 := by
  decide +kernel

/-- A block's rows as they are multiplied. -/
def blkRow (p : Fin 3) (x : S384x1024.Idx → EReal) (g : S1x1024.Idx → EReal) (r : Fin 384) (d : Fin 1024) : EReal :=
  if 384 * p.val + r.val < 1024 then rms (fun d => x (ix2 r d)) (fun d => g (ix2 0 d)) d else x (ix2 r d)

/-- The product, entry by entry. -/
theorem pay1_apply (i : grid0.Coords) (x : FVec Ideal S384x1024 .f32) (g : FVec Ideal S1x1024 .f32) (w : FVec Ideal S1024x2560 .bf16)
    (r : Fin 384) (j : Fin 2560) : (k0_pay1 i x g w : FVec Ideal S384x2560 .f32) (ix2 r j) = ∑ d, blkRow (i 0) x g r d * w (ix2 d j) := by
  pointwise [k0_pay1]
  refine Finset.sum_congr rfl fun d _ => congrArg (· * w (ix2 d j)) ?_
  refine (congrArg (Scalar.select · _ _) (rowWord (i 0) r)).trans ?_
  unfold blkRow
  split <;> rfl

/-- A block's rows do not change by being loaded. -/
theorem ld_row (p : Fin 3) (x : FVec Ideal S384x1024 .f32) (g : FVec Ideal S1x1024 .f32) (r : Fin 384) :
    blkRow p (View.ld (Val := Elt Ideal) (e' := .f32) x r0_0) (View.ld (Val := Elt Ideal) (e' := .f32) g r0_1) r = blkRow p x g r := by
  funext d
  pointwise [blkRow, rms]

/-- The queries that a grid point writes. -/
theorem out3_apply (i : grid0.Coords) (x : FVec Ideal S384x1024 .f32) (g : FVec Ideal S1x1024 .f32) (w : FVec Ideal S1024x2560 .bf16)
    (r : Fin 384) (j : Fin 512) : (out0_3 (F := Ideal) i x g w) (ix2 r j) = ∑ d, blkRow (i 0) x g r d * w (ix2 d ⟨0 + j.val, by omega⟩) := by
  have key := pay1_apply i (View.ld (Val := Elt Ideal) (e' := .f32) x r0_0) (View.ld (Val := Elt Ideal) (e' := .f32) g r0_1) (View.ld (Val := Elt Ideal) (e' := .bf16) w r0_2)
  let G : S384x512.Idx → EReal := fun y => ∑ d, blkRow (i 0) x g (y 0) d * w (ix2 d ⟨0 + (y 1).val, by have := (y 1).isLt; change (y 1).val < 512 at this; omega⟩)
  refine Eq.trans ?_ (show G (ix2 r j) = _ from rfl)
  unfold out0_3
  refine View.canon_apply_of_pieces (Val := Elt Ideal) (e := .f32) G _ ?_ (ix2 r j) (cover0_3 _ _)
  intro p hp y
  simp only [List.mem_cons, List.mem_nil_iff, or_false] at hp
  rcases hp with rfl
  change S384x512.Idx at y
  idx_vars y
  have e : r0_3.emb (ix2 y0 y1) = ix2 y0 y1 := by
    funext a
    fin_cases a <;> exact Fin.ext (by simp [Rect.emb_apply])
  rw [e]
  revert key
  unfold k0_pay2
  generalize k0_pay1 (F := Ideal) i (View.ld (Val := Elt Ideal) (e' := .f32) x r0_0) (View.ld (Val := Elt Ideal) (e' := .f32) g r0_1) (View.ld (Val := Elt Ideal) (e' := .bf16) w r0_2) = z
  intro key
  show _ = G (ix2 y0 y1)
  simp only [G]
  pointwise [key]
  exact Finset.sum_congr rfl (fun d _ => congrArg (· * _) (congrFun (ld_row (i 0) x g y0) d))

/-- The keys that a grid point writes. -/
theorem out4_apply (i : grid0.Coords) (x : FVec Ideal S384x1024 .f32) (g : FVec Ideal S1x1024 .f32) (w : FVec Ideal S1024x2560 .bf16)
    (r : Fin 384) (j : Fin 128) : (out0_4 (F := Ideal) i x g w) (ix2 r j) = ∑ d, blkRow (i 0) x g r d * w (ix2 d ⟨512 + j.val, by omega⟩) := by
  have key := pay1_apply i (View.ld (Val := Elt Ideal) (e' := .f32) x r0_0) (View.ld (Val := Elt Ideal) (e' := .f32) g r0_1) (View.ld (Val := Elt Ideal) (e' := .bf16) w r0_2)
  let G : S384x128.Idx → EReal := fun y => ∑ d, blkRow (i 0) x g (y 0) d * w (ix2 d ⟨512 + (y 1).val, by have := (y 1).isLt; change (y 1).val < 128 at this; omega⟩)
  refine Eq.trans ?_ (show G (ix2 r j) = _ from rfl)
  unfold out0_4
  refine View.canon_apply_of_pieces (Val := Elt Ideal) (e := .f32) G _ ?_ (ix2 r j) (cover0_4 _ _)
  intro p hp y
  simp only [List.mem_cons, List.mem_nil_iff, or_false] at hp
  rcases hp with rfl
  change S384x128.Idx at y
  idx_vars y
  have e : r0_4.emb (ix2 y0 y1) = ix2 y0 y1 := by
    funext a
    fin_cases a <;> exact Fin.ext (by simp [Rect.emb_apply])
  rw [e]
  revert key
  unfold k0_pay3
  generalize k0_pay1 (F := Ideal) i (View.ld (Val := Elt Ideal) (e' := .f32) x r0_0) (View.ld (Val := Elt Ideal) (e' := .f32) g r0_1) (View.ld (Val := Elt Ideal) (e' := .bf16) w r0_2) = z
  intro key
  show _ = G (ix2 y0 y1)
  simp only [G]
  pointwise [key]
  exact Finset.sum_congr rfl (fun d _ => congrArg (· * _) (congrFun (ld_row (i 0) x g y0) d))

/-- The values that a grid point writes. -/
theorem out5_apply (i : grid0.Coords) (x : FVec Ideal S384x1024 .f32) (g : FVec Ideal S1x1024 .f32) (w : FVec Ideal S1024x2560 .bf16)
    (r : Fin 384) (j : Fin 128) : (out0_5 (F := Ideal) i x g w) (ix2 r j) = ∑ d, blkRow (i 0) x g r d * w (ix2 d ⟨640 + j.val, by omega⟩) := by
  have key := pay1_apply i (View.ld (Val := Elt Ideal) (e' := .f32) x r0_0) (View.ld (Val := Elt Ideal) (e' := .f32) g r0_1) (View.ld (Val := Elt Ideal) (e' := .bf16) w r0_2)
  let G : S384x128.Idx → EReal := fun y => ∑ d, blkRow (i 0) x g (y 0) d * w (ix2 d ⟨640 + (y 1).val, by have := (y 1).isLt; change (y 1).val < 128 at this; omega⟩)
  refine Eq.trans ?_ (show G (ix2 r j) = _ from rfl)
  unfold out0_5
  refine View.canon_apply_of_pieces (Val := Elt Ideal) (e := .f32) G _ ?_ (ix2 r j) (cover0_5 _ _)
  intro p hp y
  simp only [List.mem_cons, List.mem_nil_iff, or_false] at hp
  rcases hp with rfl
  change S384x128.Idx at y
  idx_vars y
  have e : r0_4.emb (ix2 y0 y1) = ix2 y0 y1 := by
    funext a
    fin_cases a <;> exact Fin.ext (by simp [Rect.emb_apply])
  rw [e]
  revert key
  unfold k0_pay4
  generalize k0_pay1 (F := Ideal) i (View.ld (Val := Elt Ideal) (e' := .f32) x r0_0) (View.ld (Val := Elt Ideal) (e' := .f32) g r0_1) (View.ld (Val := Elt Ideal) (e' := .bf16) w r0_2) = z
  intro key
  show _ = G (ix2 y0 y1)
  simp only [G]
  pointwise [key]
  exact Finset.sum_congr rfl (fun d _ => congrArg (· * _) (congrFun (ld_row (i 0) x g y0) d))

/-- The features that a grid point writes. -/
theorem out6_apply (i : grid0.Coords) (x : FVec Ideal S384x1024 .f32) (g : FVec Ideal S1x1024 .f32) (w : FVec Ideal S1024x2560 .bf16)
    (r : Fin 384) (j : Fin 1792) : (out0_6 (F := Ideal) i x g w) (ix2 r j) = ∑ d, blkRow (i 0) x g r d * w (ix2 d ⟨768 + j.val, by omega⟩) := by
  have key := pay1_apply i (View.ld (Val := Elt Ideal) (e' := .f32) x r0_0) (View.ld (Val := Elt Ideal) (e' := .f32) g r0_1) (View.ld (Val := Elt Ideal) (e' := .bf16) w r0_2)
  let G : S384x1792.Idx → EReal := fun y => ∑ d, blkRow (i 0) x g (y 0) d * w (ix2 d ⟨768 + (y 1).val, by have := (y 1).isLt; change (y 1).val < 1792 at this; omega⟩)
  refine Eq.trans ?_ (show G (ix2 r j) = _ from rfl)
  unfold out0_6
  refine View.canon_apply_of_pieces (Val := Elt Ideal) (e := .f32) G _ ?_ (ix2 r j) (cover0_6 _ _)
  intro p hp y
  simp only [List.mem_cons, List.mem_nil_iff, or_false] at hp
  rcases hp with rfl
  change S384x1792.Idx at y
  idx_vars y
  have e : r0_5.emb (ix2 y0 y1) = ix2 y0 y1 := by
    funext a
    fin_cases a <;> exact Fin.ext (by simp [Rect.emb_apply])
  rw [e]
  revert key
  unfold k0_pay5
  generalize k0_pay1 (F := Ideal) i (View.ld (Val := Elt Ideal) (e' := .f32) x r0_0) (View.ld (Val := Elt Ideal) (e' := .f32) g r0_1) (View.ld (Val := Elt Ideal) (e' := .bf16) w r0_2) = z
  intro key
  show _ = G (ix2 y0 y1)
  simp only [G]
  pointwise [key]
  exact Finset.sum_congr rfl (fun d _ => congrArg (· * _) (congrFun (ld_row (i 0) x g y0) d))

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- There are three grid points. -/
theorem lt3 (t : Fin cfg0.N) : t.val < 3 := t.isLt

/-- A grid point's coordinate is its number. -/
theorem coord : ∀ t : Fin cfg0.N, grid0.coords t 0 = ⟨t.val, lt3 t⟩ := (by decide +kernel : ∀ t : Fin grid0.N, grid0.coords t 0 = ⟨t.val, t.isLt⟩)

/-- Window 0's block at a grid point, read in its array. -/
theorem blk0 (c : Dev nD) (t : Fin cfg0.N) (i : Fin 384) (k : Fin 1024) :
    iblk m c 0 t (ix2 i k) = V m c main_v2 (ix2 ⟨384 * t.val + i.val, by have := lt3 t; omega⟩ k) := by
  have := lt3 t
  unfold iblk
  blk_ext [idx t]

/-- Window 1's block at a grid point, read in its array. -/
theorem blk1 (c : Dev nD) (t : Fin cfg0.N) (i : Fin 1) (k : Fin 1024) : iblk m c 1 t (ix2 i k) = V m c main_v6 (ix2 i k) := by
  unfold iblk
  blk_ext [idx t]

/-- Window 2's block at a grid point, read in its array. -/
theorem blk2 (c : Dev nD) (t : Fin cfg0.N) (i : Fin 1024) (k : Fin 2560) : iblk m c 2 t (ix2 i k) = V m c main_v5 (ix2 i k) := by
  unfold iblk
  blk_ext [idx t]

/-- The samples' rows in the array that the host prepares. -/
theorem ent2a (c : Dev nD) (n k : Fin 1024) : V m c main_v2 (ix2 ⟨n.val, by omega⟩ k) =
    m ((c : Thread nD τ).loc main_arg0) (ix3 ⟨n.val / 8, by omega⟩ ⟨n.val % 8, by omega⟩ k) := by
  unfold V
  after_reads_at

/-- The carried rows in the array that the host prepares. -/
theorem ent2b (c : Dev nD) (n : Fin 128) (k : Fin 1024) : V m c main_v2 (ix2 ⟨1024 + n.val, by omega⟩ k) =
    m ((c : Thread nD τ).loc main_arg1) (ix3 0 n k) := by
  unfold V
  after_reads_at

/-- The norm's weights, read in the arguments. -/
theorem ent6 (c : Dev nD) (k : Fin 1024) : V m c main_v6 (ix2 0 k) = m ((c : Thread nD τ).loc main_arg2) (ix2 0 k) := by
  unfold V
  after_reads_at

/-- The input matrix, read in the arguments. -/
theorem ent5 (c : Dev nD) (i : Fin 1024) (k : Fin 2560) : V m c main_v5 (ix2 i k) = m ((c : Thread nD τ).loc main_arg3) (ix3 0 i k) := by
  unfold V
  after_reads_at

/-- A grid point's rows are the rows that are multiplied. -/
theorem row_eq (c : Dev nD) (t : Fin cfg0.N) (r : Fin 384) : blkRow (grid0.coords t 0) (iblk m c 0 t) (iblk m c 1 t) r
    = inRow (m ((c : Thread nD τ).loc main_arg0)) (m ((c : Thread nD τ).loc main_arg1)) (m ((c : Thread nD τ).loc main_arg2))
        ⟨384 * t.val + r.val, by have := lt3 t; omega⟩ := by
  have ht := lt3 t
  funext d
  rw [coord t]
  unfold blkRow inRow
  by_cases h : 384 * t.val + r.val < 1024
  · rw [if_pos h, dif_pos h]
    have e0 : (fun d : Fin 1024 => iblk m c 0 t (ix2 r d)) = _ := funext fun d => (blk0 m c t r d).trans (ent2a m c ⟨384 * t.val + r.val, h⟩ d)
    have e1 : (fun d : Fin 1024 => iblk m c 1 t (ix2 0 d)) = _ := funext fun d => (blk1 m c t 0 d).trans (ent6 m c d)
    rw [e0, e1]
  · rw [if_neg h, dif_neg h]
    have e := ent2b m c ⟨384 * t.val + r.val - 1024, by omega⟩ d
    have e' : (⟨1024 + (384 * t.val + r.val - 1024), by omega⟩ : Fin 1152) = ⟨384 * t.val + r.val, by omega⟩ := Fin.ext (Nat.add_sub_of_le (by omega))
    exact (blk0 m c t r d).trans ((congrArg (fun n => V m c main_v2 (ix2 n d)) e'.symm).trans e)

/-- An entry of the product at a grid point is the projection's. -/
theorem dot_eq (c : Dev nD) (t : Fin cfg0.N) (r : Fin 384) (j : Fin 2560) :
    (∑ d, blkRow (grid0.coords t 0) (iblk m c 0 t) (iblk m c 1 t) r d * iblk m c 2 t (ix2 d j) : EReal)
      = proj (m ((c : Thread nD τ).loc main_arg0)) (m ((c : Thread nD τ).loc main_arg1)) (m ((c : Thread nD τ).loc main_arg2))
          (m ((c : Thread nD τ).loc main_arg3)) ⟨384 * t.val + r.val, by have := lt3 t; omega⟩ j := by
  rw [row_eq]
  exact Finset.sum_congr rfl fun d _ => congrArg (_ * ·) ((blk2 m c t d j).trans (ent5 m c d j))

/-- **The queries' array.** -/
theorem result3 (c : Dev nD) : (dats m 0 c).arrAt 3 cfg0.N = fun y =>
    part 0 512 (by omega) (m ((c : Thread nD τ).loc main_arg0)) (m ((c : Thread nD τ).loc main_arg1)) (m ((c : Thread nD τ).loc main_arg2))
      (m ((c : Thread nD τ).loc main_arg3)) (y 0) (y 1) := by
  refine (dats m 0 c).arrAt_eq_of_covers 3 _ (by decide +kernel) fun t hf y => ?_
  blk_simp
  rw [after0_3]
  change S384x512.Idx at y
  idx_vars y
  have ht := lt3 t
  have e : (win0_3.blk t).view.emb (ix2 y0 y1) = ix2 ⟨384 * t.val + y0.val, by omega⟩ y1 := by
    blk_ext [idx t]
  exact ((out3_apply (grid0.coords t) (iblk m c 0 t) (iblk m c 1 t) (iblk m c 2 t) y0 y1).trans (dot_eq m c t y0 _)).trans (by rw [e]; rfl)

/-- **The keys' array.** -/
theorem result4 (c : Dev nD) : (dats m 0 c).arrAt 4 cfg0.N = fun y =>
    part 512 128 (by omega) (m ((c : Thread nD τ).loc main_arg0)) (m ((c : Thread nD τ).loc main_arg1)) (m ((c : Thread nD τ).loc main_arg2))
      (m ((c : Thread nD τ).loc main_arg3)) (y 0) (y 1) := by
  refine (dats m 0 c).arrAt_eq_of_covers 4 _ (by decide +kernel) fun t hf y => ?_
  blk_simp
  rw [after0_4]
  change S384x128.Idx at y
  idx_vars y
  have ht := lt3 t
  have e : (win0_4.blk t).view.emb (ix2 y0 y1) = ix2 ⟨384 * t.val + y0.val, by omega⟩ y1 := by
    blk_ext [idx t]
  exact ((out4_apply (grid0.coords t) (iblk m c 0 t) (iblk m c 1 t) (iblk m c 2 t) y0 y1).trans (dot_eq m c t y0 _)).trans (by rw [e]; rfl)

/-- **The values' array.** -/
theorem result5 (c : Dev nD) : (dats m 0 c).arrAt 5 cfg0.N = fun y =>
    part 640 128 (by omega) (m ((c : Thread nD τ).loc main_arg0)) (m ((c : Thread nD τ).loc main_arg1)) (m ((c : Thread nD τ).loc main_arg2))
      (m ((c : Thread nD τ).loc main_arg3)) (y 0) (y 1) := by
  refine (dats m 0 c).arrAt_eq_of_covers 5 _ (by decide +kernel) fun t hf y => ?_
  blk_simp
  rw [after0_5]
  change S384x128.Idx at y
  idx_vars y
  have ht := lt3 t
  have e : (win0_5.blk t).view.emb (ix2 y0 y1) = ix2 ⟨384 * t.val + y0.val, by omega⟩ y1 := by
    blk_ext [idx t]
  exact ((out5_apply (grid0.coords t) (iblk m c 0 t) (iblk m c 1 t) (iblk m c 2 t) y0 y1).trans (dot_eq m c t y0 _)).trans (by rw [e]; rfl)

/-- **The features' array.** -/
theorem result6 (c : Dev nD) : (dats m 0 c).arrAt 6 cfg0.N = fun y =>
    part 768 1792 (by omega) (m ((c : Thread nD τ).loc main_arg0)) (m ((c : Thread nD τ).loc main_arg1)) (m ((c : Thread nD τ).loc main_arg2))
      (m ((c : Thread nD τ).loc main_arg3)) (y 0) (y 1) := by
  refine (dats m 0 c).arrAt_eq_of_covers 6 _ (by decide +kernel) fun t hf y => ?_
  blk_simp
  rw [after0_6]
  change S384x1792.Idx at y
  idx_vars y
  have ht := lt3 t
  have e : (win0_6.blk t).view.emb (ix2 y0 y1) = ix2 ⟨384 * t.val + y0.val, by omega⟩ y1 := by
    blk_ext [idx t]
  exact ((out6_apply (grid0.coords t) (iblk m c 0 t) (iblk m c 1 t) (iblk m c 2 t) y0 y1).trans (dot_eq m c t y0 _)).trans (by rw [e]; rfl)

/-- **The claim**: over the extended reals the kernel's results are the reference's. -/
theorem algebraic : Cert.algebraic_Kernel6Ideal_Reference6Ideal := by
  pair_intro
  · run_from Cert.Kernel6Ideal.Value.run_blocks m g
  · run_from Cert.Reference6Ideal.Value.run m' g'
    · refine Eq.trans ?_ (result3 m c).symm
      rw [Cert.Reference6Ideal.Read.val_main_v19_eq]
      funext y
      change Cert.Reference6Ideal.S1152x512.Idx at y
      idx_vars y
      exact ref19 _ _ _ _ y0 y1
    · refine Eq.trans ?_ (result4 m c).symm
      rw [Cert.Reference6Ideal.Read.val_main_v20_eq]
      funext y
      change Cert.Reference6Ideal.S1152x128.Idx at y
      idx_vars y
      exact ref20 _ _ _ _ y0 y1
    · refine Eq.trans ?_ (result5 m c).symm
      rw [Cert.Reference6Ideal.Read.val_main_v21_eq]
      funext y
      change Cert.Reference6Ideal.S1152x128.Idx at y
      idx_vars y
      exact ref21 _ _ _ _ y0 y1
    · refine Eq.trans ?_ (result6 m c).symm
      rw [Cert.Reference6Ideal.Read.val_main_v22_eq]
      funext y
      change Cert.Reference6Ideal.S1152x1792.Idx at y
      idx_vars y
      exact ref22 _ _ _ _ y0 y1

end Cert.Proj

end
-- ==== Proof.KvRef.lean ====
/-
  The prompt's keys and values: each row scaled by the reciprocal root of its mean square and the weights, times the
  columns of the input matrix from 512 on (keys) and from 640 on (values). Kernel and reference both give `cols`.
-/
module

public import proofs.«01_k».proof.Proof.PostRow
public import proofs.«01_k».proof.Proof.Gen.Reference7Ideal.Read
public import Idealize.ShloMosaic.Lib.Pipeline.ValueKit
public import Idealize.ShloMosaic.Lib.StableHlo.ReadAt

@[expose] public section

set_option maxRecDepth 16384

noncomputable section

namespace Cert.Kv

open Idealize.ShloMosaic Idealize.ShloMosaic.TcCoe Idealize.SL.Sem Cert.Reference7Ideal Cert.Reference7Ideal.Read Cert.Post

/-- Column `o + j` of the projection of row `n`. -/
def cols (o : ℕ) (ho : o + 128 ≤ 2560) (x : S2x8192x1024.Idx → EReal) (g : S1x1024.Idx → EReal) (w : S1x1024x2560.Idx → EReal)
    (n : Fin 16384) (j : Fin 128) : EReal :=
  ∑ d, rms (fun d => x (ix3 ⟨n.val / 8192, by omega⟩ ⟨n.val % 8192, by omega⟩ d)) (fun d => g (ix2 0 d)) d * w (ix3 0 d ⟨o + j.val, by omega⟩)

variable (x0 : (⟨S2x8192x1024, .f32⟩ : BufTy).Contents (Elt Ideal)) (x1 : (⟨S1x1024, .f32⟩ : BufTy).Contents (Elt Ideal))
  (x2 : (⟨S1x1024x2560, .f32⟩ : BufTy).Contents (Elt Ideal))

/-- The reference's normed rows. -/
theorem ref14 (n : Fin 16384) (d : Fin 1024) : val_main_v14 (F := Ideal) x0 x1 (ix2 n d) =
    rms (fun d => x0 (ix3 ⟨n.val / 8192, by omega⟩ ⟨n.val % 8192, by omega⟩ d)) (fun d => x1 (ix2 0 d)) d := by
  pointwise [rms, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The reference's product, entry by entry. -/
theorem ref16 (n : Fin 16384) (j : Fin 2560) : val_main_v16 (F := Ideal) x0 x1 x2 (ix2 n j) =
    ∑ d, rms (fun d => x0 (ix3 ⟨n.val / 8192, by omega⟩ ⟨n.val % 8192, by omega⟩ d)) (fun d => x1 (ix2 0 d)) d * x2 (ix3 0 d j) := by
  have h := fun d => ref14 x0 x1 n d
  unfold val_main_v16 val_main_v15
  revert h
  generalize val_main_v14 (F := Ideal) x0 x1 = z
  intro h
  pointwise [h]

/-- The reference's keys. -/
theorem ref17 (n : Fin 16384) (j : Fin 128) : val_main_v17 (F := Ideal) x0 x1 x2 (ix2 n j) = cols 512 (by omega) x0 x1 x2 n j := by
  have h := ref16 x0 x1 x2 n
  unfold val_main_v17
  revert h
  generalize val_main_v16 (F := Ideal) x0 x1 x2 = z
  intro h
  pointwise [h, cols]

/-- The reference's values. -/
theorem ref18 (n : Fin 16384) (j : Fin 128) : val_main_v18 (F := Ideal) x0 x1 x2 (ix2 n j) = cols 640 (by omega) x0 x1 x2 n j := by
  have h := ref16 x0 x1 x2 n
  unfold val_main_v18
  revert h
  generalize val_main_v16 (F := Ideal) x0 x1 x2 = z
  intro h
  pointwise [h, cols]

end Cert.Kv

end
-- ==== Proof.KvBlk.lean ====
/-
  One step's keys and values of the prompt, index by index: the step projects its 512 rows in two halves, and stores each
  half's columns from 512 and from 640 on.
-/
module

public import proofs.«01_k».proof.Proof.PostRow
public import proofs.«01_k».proof.Proof.Gen.Kernel7Ideal.Skeleton
public import Idealize.ShloMosaic.Lib.Pipeline.ValueKit
public import Idealize.ShloMosaic.Lib.StableHlo.ReadAt

@[expose] public section

set_option maxRecDepth 16384

noncomputable section

namespace Cert.Kv

open Idealize.ShloMosaic Idealize.ShloMosaic.TcCoe Idealize.SL.Sem Cert.Kernel7Ideal Cert.Kernel7Ideal.Gen Cert.Post

/-- The rows' first half. -/
def rLo : Rect S512x1024 := Rect.unit (s := S512x1024) ![0, 0] S256x1024.size inb_S512x1024_S256x1024_0_0

/-- The rows' second half. -/
def rHi : Rect S512x1024 := Rect.unit (s := S512x1024) ![256, 0] S256x1024.size inb_S512x1024_S256x1024_256_0

/-- The weights of the norm, whole. -/
def rG : Rect S1x1024 := Rect.unit (s := S1x1024) ![0, 0] S1x1024.size inb_S1x1024_S1x1024_0_0

/-- The input matrix, whole. -/
def rW : Rect S1024x2560 := Rect.unit (s := S1024x2560) ![0, 0] S1024x2560.size inb_S1024x2560_S1024x2560_0_0

/-- The first half's rows in a block of keys or values. -/
def oLo : Rect S512x128 := Rect.unit (s := S512x128) ![0, 0] S256x128.size inb_S512x128_S256x128_0_0

/-- The second half's rows in a block of keys or values. -/
def oHi : Rect S512x128 := Rect.unit (s := S512x128) ![256, 0] S256x128.size inb_S512x128_S256x128_256_0

/-- The first half's load. -/
theorem ldLo (x : Vec Ideal S512x1024 .f32) (r : Fin 256) (d : Fin 1024) :
    (View.ld x rLo : FVec Ideal S256x1024 .f32) (ix2 r d) = x (ix2 ⟨r.val, by omega⟩ d) :=
  congrArg x (by funext a; fin_cases a <;> exact Fin.ext (by simp [rLo, Rect.emb_apply]))

/-- The second half's load. -/
theorem ldHi (x : Vec Ideal S512x1024 .f32) (r : Fin 256) (d : Fin 1024) :
    (View.ld x rHi : FVec Ideal S256x1024 .f32) (ix2 r d) = x (ix2 ⟨256 + r.val, by omega⟩ d) :=
  congrArg x (by funext a; fin_cases a <;> exact Fin.ext (by simp [rHi, Rect.emb_apply]))

/-- The weights' load. -/
theorem ldG (x : Vec Ideal S1x1024 .f32) (r : Fin 1) (d : Fin 1024) :
    (View.ld x rG : FVec Ideal S1x1024 .f32) (ix2 r d) = x (ix2 r d) :=
  congrArg x (by funext a; fin_cases a <;> exact Fin.ext (by simp [rG, Rect.emb_apply]))

/-- The matrix's load. -/
theorem ldW (x : Vec Ideal S1024x2560 .bf16) (r : Fin 1024) (d : Fin 2560) :
    (View.ld x rW : FVec Ideal S1024x2560 .bf16) (ix2 r d) = x (ix2 r d) :=
  congrArg x (by funext a; fin_cases a <;> exact Fin.ext (by simp [rW, Rect.emb_apply]))

/-- Where the first half's rows go. -/
theorem embLo (r : Fin 256) (j : Fin 128) : oLo.emb (ix2 r j) = ix2 ⟨r.val, by omega⟩ j := by
  funext a
  fin_cases a
  · exact Fin.ext (show 0 + 1 * r.val = r.val by omega)
  · exact Fin.ext (show 0 + 1 * j.val = j.val by omega)

/-- Where the second half's rows go. -/
theorem embHi (r : Fin 256) (j : Fin 128) : oHi.emb (ix2 r j) = ix2 ⟨256 + r.val, by omega⟩ j := by
  funext a
  fin_cases a
  · exact Fin.ext (show 256 + 1 * r.val = 256 + r.val by omega)
  · exact Fin.ext (show 0 + 1 * j.val = j.val by omega)

/-- A row's projection. -/
def rowDot (x : Fin 1024 → EReal) (g : Fin 1024 → EReal) (w : Fin 1024 → EReal) : EReal := ∑ d, rms x g d * w d

/-- Row `r`, column `o + j` of a step's projection. -/
def blkCols (o : ℕ) (ho : o + 128 ≤ 2560) (x : S512x1024.Idx → EReal) (g : S1x1024.Idx → EReal) (w : S1024x2560.Idx → EReal)
    (r : Fin 512) (j : Fin 128) : EReal :=
  rowDot (fun d => x (ix2 r d)) (fun d => g (ix2 0 d)) (fun d => w (ix2 d ⟨o + j.val, by omega⟩))

/-- The first half's product, entry by entry. -/
theorem pay5_apply (x : FVec Ideal S256x1024 .f32) (g : FVec Ideal S1x1024 .f32) (w : FVec Ideal S1024x2560 .bf16) (r : Fin 256) (j : Fin 2560) :
    (k0_pay5 x g w : FVec Ideal S256x2560 .f32) (ix2 r j) = rowDot (fun d => x (ix2 r d)) (fun d => g (ix2 0 d)) (fun d => w (ix2 d j)) := by
  pointwise [k0_pay5, rowDot, rms]

/-- The second half's product, entry by entry. -/
theorem pay7_apply (x : FVec Ideal S256x1024 .f32) (g : FVec Ideal S1x1024 .f32) (w : FVec Ideal S1024x2560 .bf16) (r : Fin 256) (j : Fin 2560) :
    (k0_pay7 (k0_pay6 x) g w : FVec Ideal S256x2560 .f32) (ix2 r j) = rowDot (fun d => x (ix2 r d)) (fun d => g (ix2 0 d)) (fun d => w (ix2 d j)) := by
  pointwise [k0_pay7, k0_pay6, rowDot, rms]

variable (x1 : Vec Ideal S512x1024 .f32) (x2 : Vec Ideal S1x1024 .f32) (x3 : Vec Ideal S1024x2560 .bf16)

/-- The first half's product, of the step's blocks. -/
theorem lo_apply (r : Fin 256) (j : Fin 2560) : (k0_pay5 (F := Ideal) (View.ld x1 rLo) (View.ld x2 rG) (View.ld x3 rW) : FVec Ideal S256x2560 .f32) (ix2 r j)
    = rowDot (fun d => x1 (ix2 ⟨r.val, by omega⟩ d)) (fun d => x2 (ix2 0 d)) (fun d => x3 (ix2 d j)) := by
  refine (pay5_apply _ _ _ r j).trans ?_
  rw [funext (ldLo x1 r), funext (ldG x2 0), funext fun d => ldW x3 d j]

/-- The second half's product, of the step's blocks. -/
theorem hi_apply (r : Fin 256) (j : Fin 2560) : (k0_pay7 (F := Ideal) (k0_pay6 (F := Ideal) (View.ld x1 rHi)) (View.ld x2 rG) (View.ld x3 rW) : FVec Ideal S256x2560 .f32) (ix2 r j)
    = rowDot (fun d => x1 (ix2 ⟨256 + r.val, by omega⟩ d)) (fun d => x2 (ix2 0 d)) (fun d => x3 (ix2 d j)) := by
  refine (pay7_apply _ _ _ r j).trans ?_
  rw [funext (ldHi x1 r), funext (ldG x2 0), funext fun d => ldW x3 d j]

/-- What a step stores of the keys. -/
def piecesK : List (View.Piece (Elt Ideal) S512x128 .f32) :=
  [⟨oHi, k0_pay10 (F := Ideal) (k0_pay6 (F := Ideal) (View.ld x1 rHi)) (View.ld x2 rG) (View.ld x3 rW)⟩,
   ⟨oLo, k0_pay8 (F := Ideal) (k0_pay5 (F := Ideal) (View.ld x1 rLo) (View.ld x2 rG) (View.ld x3 rW))⟩]

/-- What a step stores of the values. -/
def piecesV : List (View.Piece (Elt Ideal) S512x128 .f32) :=
  [⟨oHi, k0_pay11 (F := Ideal) (k0_pay6 (F := Ideal) (View.ld x1 rHi)) (View.ld x2 rG) (View.ld x3 rW)⟩,
   ⟨oLo, k0_pay9 (F := Ideal) (k0_pay5 (F := Ideal) (View.ld x1 rLo) (View.ld x2 rG) (View.ld x3 rW))⟩]

/-- The first half's keys, entry by entry. -/
theorem payKLo (r : Fin 256) (j : Fin 128) : (k0_pay8 (F := Ideal) (k0_pay5 (F := Ideal) (View.ld x1 rLo) (View.ld x2 rG) (View.ld x3 rW)) : FVec Ideal S256x128 .f32) (ix2 r j)
    = blkCols 512 (by omega) x1 x2 x3 ⟨r.val, by omega⟩ j := by
  have key := lo_apply x1 x2 x3 r
  unfold k0_pay8
  revert key
  generalize k0_pay5 (F := Ideal) (View.ld x1 rLo) (View.ld x2 rG) (View.ld x3 rW) = z
  intro key
  unfold blkCols
  refine Eq.trans ?_ (key ⟨512 + j.val, by omega⟩)
  pointwise []

/-- The second half's keys, entry by entry. -/
theorem payKHi (r : Fin 256) (j : Fin 128) : (k0_pay10 (F := Ideal) (k0_pay6 (F := Ideal) (View.ld x1 rHi)) (View.ld x2 rG) (View.ld x3 rW) : FVec Ideal S256x128 .f32) (ix2 r j)
    = blkCols 512 (by omega) x1 x2 x3 ⟨256 + r.val, by omega⟩ j := by
  have key := hi_apply x1 x2 x3 r
  unfold k0_pay10
  revert key
  generalize k0_pay7 (F := Ideal) (k0_pay6 (F := Ideal) (View.ld x1 rHi)) (View.ld x2 rG) (View.ld x3 rW) = z
  intro key
  unfold blkCols
  refine Eq.trans ?_ (key ⟨512 + j.val, by omega⟩)
  pointwise []

/-- The stored pieces' keys at an index are the projection's. -/
theorem canonK (y : S512x128.Idx) (h : ∃ pc ∈ piecesK x1 x2 x3, y ∈ pc.1.set) :
    View.canon (Val := Elt Ideal) (piecesK x1 x2 x3) y = blkCols 512 (by omega) x1 x2 x3 (y (0 : Fin 2)) (y (1 : Fin 2)) := by
  let G : S512x128.Idx → EReal := fun y => blkCols 512 (by omega) x1 x2 x3 (y (0 : Fin 2)) (y (1 : Fin 2))
  refine View.canon_apply_of_pieces (Val := Elt Ideal) (e := .f32) G (piecesK x1 x2 x3) (fun p hp u => ?_) y h
  unfold piecesK at hp
  simp only [List.mem_cons, List.mem_nil_iff, or_false] at hp
  rcases hp with rfl | rfl
  · change S256x128.Idx at u
    idx_vars u
    exact (payKHi x1 x2 x3 u0 u1).trans (congrArg G (embHi u0 u1)).symm
  · change S256x128.Idx at u
    idx_vars u
    exact (payKLo x1 x2 x3 u0 u1).trans (congrArg G (embLo u0 u1)).symm

/-- The first half's values, entry by entry. -/
theorem payVLo (r : Fin 256) (j : Fin 128) : (k0_pay9 (F := Ideal) (k0_pay5 (F := Ideal) (View.ld x1 rLo) (View.ld x2 rG) (View.ld x3 rW)) : FVec Ideal S256x128 .f32) (ix2 r j)
    = blkCols 640 (by omega) x1 x2 x3 ⟨r.val, by omega⟩ j := by
  have key := lo_apply x1 x2 x3 r
  unfold k0_pay9
  revert key
  generalize k0_pay5 (F := Ideal) (View.ld x1 rLo) (View.ld x2 rG) (View.ld x3 rW) = z
  intro key
  unfold blkCols
  refine Eq.trans ?_ (key ⟨640 + j.val, by omega⟩)
  pointwise []

/-- The second half's values, entry by entry. -/
theorem payVHi (r : Fin 256) (j : Fin 128) : (k0_pay11 (F := Ideal) (k0_pay6 (F := Ideal) (View.ld x1 rHi)) (View.ld x2 rG) (View.ld x3 rW) : FVec Ideal S256x128 .f32) (ix2 r j)
    = blkCols 640 (by omega) x1 x2 x3 ⟨256 + r.val, by omega⟩ j := by
  have key := hi_apply x1 x2 x3 r
  unfold k0_pay11
  revert key
  generalize k0_pay7 (F := Ideal) (k0_pay6 (F := Ideal) (View.ld x1 rHi)) (View.ld x2 rG) (View.ld x3 rW) = z
  intro key
  unfold blkCols
  refine Eq.trans ?_ (key ⟨640 + j.val, by omega⟩)
  pointwise []

/-- The stored pieces' values at an index are the projection's. -/
theorem canonV (y : S512x128.Idx) (h : ∃ pc ∈ piecesV x1 x2 x3, y ∈ pc.1.set) :
    View.canon (Val := Elt Ideal) (piecesV x1 x2 x3) y = blkCols 640 (by omega) x1 x2 x3 (y (0 : Fin 2)) (y (1 : Fin 2)) := by
  let G : S512x128.Idx → EReal := fun y => blkCols 640 (by omega) x1 x2 x3 (y (0 : Fin 2)) (y (1 : Fin 2))
  refine View.canon_apply_of_pieces (Val := Elt Ideal) (e := .f32) G (piecesV x1 x2 x3) (fun p hp u => ?_) y h
  unfold piecesV at hp
  simp only [List.mem_cons, List.mem_nil_iff, or_false] at hp
  rcases hp with rfl | rfl
  · change S256x128.Idx at u
    idx_vars u
    exact (payVHi x1 x2 x3 u0 u1).trans (congrArg G (embHi u0 u1)).symm
  · change S256x128.Idx at u
    idx_vars u
    exact (payVLo x1 x2 x3 u0 u1).trans (congrArg G (embLo u0 u1)).symm

end Cert.Kv

end
-- ==== Proof.KvRun.lean ====
/-
  What one step of the prompt's input projection stores of the keys and values, in either case of its condition.
-/
module

public import proofs.«01_k».proof.Proof.KvBlk
public import proofs.«01_k».proof.Proof.Gen.Kernel7Ideal.Frame

@[expose] public section

set_option maxRecDepth 16384

noncomputable section

namespace Cert.Kv

open Idealize.ShloMosaic Idealize.ShloMosaic.TcCoe Idealize.SL.Sem Cert.Kernel7Ideal Cert.Kernel7Ideal.Gen

/-- What a sequence's first step stores of the keys. -/
theorem runAK (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S128x128 .bf16) (harg14 : arg14.IsWhole) (arg15 : Memref sig .tc .vmem S512x512 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x3072 .f32) (harg18 : arg18.IsWhole) (arg19 : Memref sig .tc .vmem S512x1024 .f32) (harg19 : arg19.IsWhole) (arg20 : Memref sig .tc .vmem S8x1792 .f32) (harg20 : arg20.IsWhole) (arg21 : Memref sig .tc .vmem S128x128 .f32) (harg21 : arg21.IsWhole) (arg22 : Memref sig .tc .vmem S128x128 .f32) (harg22 : arg22.IsWhole) (hc0 : cond0_0 i)
    (x0 : Vec Ideal S8 .f32) (x1 : Vec Ideal S512x1024 .f32) (x2 : Vec Ideal S1x1024 .f32) (x3 : Vec Ideal S1024x2560 .bf16) (x4 : Vec Ideal S1x1792 .f32) (x5 : Vec Ideal S1x512 .f32) (x6 : Vec Ideal S64x512 .bf16) (x7 : Vec Ideal S1x512 .f32) (x8 : Vec Ideal S64x512 .bf16) (x9 : Vec Ideal S128x512 .bf16) (x10 : Vec Ideal S1x512 .f32) (x11 : Vec Ideal S1x512 .f32) (x12 : Vec Ideal S1x512 .f32) (x13 : Vec Ideal S128x128 .bf16) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.1 = piecesK (arg2.view.read (Elt Ideal) (harg2.unread x1)) (arg3.view.read (Elt Ideal) (harg3.unread x2)) (arg4.view.read (Elt Ideal) (harg4.unread x3)) := by
  sl_kernel_rfl

/-- The keys after a sequence's first step. -/
theorem outAK (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S128x128 .bf16) (harg14 : arg14.IsWhole) (arg15 : Memref sig .tc .vmem S512x512 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x3072 .f32) (harg18 : arg18.IsWhole) (arg19 : Memref sig .tc .vmem S512x1024 .f32) (harg19 : arg19.IsWhole) (arg20 : Memref sig .tc .vmem S8x1792 .f32) (harg20 : arg20.IsWhole) (arg21 : Memref sig .tc .vmem S128x128 .f32) (harg21 : arg21.IsWhole) (arg22 : Memref sig .tc .vmem S128x128 .f32) (harg22 : arg22.IsWhole) (hc0 : cond0_0 i)
    (x0 : Vec Ideal S8 .f32) (x1 : Vec Ideal S512x1024 .f32) (x2 : Vec Ideal S1x1024 .f32) (x3 : Vec Ideal S1024x2560 .bf16) (x4 : Vec Ideal S1x1792 .f32) (x5 : Vec Ideal S1x512 .f32) (x6 : Vec Ideal S64x512 .bf16) (x7 : Vec Ideal S1x512 .f32) (x8 : Vec Ideal S64x512 .bf16) (x9 : Vec Ideal S128x512 .bf16) (x10 : Vec Ideal S1x512 .f32) (x11 : Vec Ideal S1x512 .f32) (x12 : Vec Ideal S1x512 .f32) (x13 : Vec Ideal S128x128 .bf16) (y : S512x128.Idx) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y
      = blkCols 512 (by omega) x1 x2 x3 (y (0 : Fin 2)) (y (1 : Fin 2)) := by
  have hc := cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y
  unfold out0_A_15
  rw [View.read_writes_junk_eq_canon]
  rw [runAK] at hc ⊢
  simp only [Memref.IsWhole.read_unread] at hc ⊢
  exact canonK x1 x2 x3 y hc

/-- What a sequence's first step stores of the values. -/
theorem runAV (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S128x128 .bf16) (harg14 : arg14.IsWhole) (arg15 : Memref sig .tc .vmem S512x512 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x3072 .f32) (harg18 : arg18.IsWhole) (arg19 : Memref sig .tc .vmem S512x1024 .f32) (harg19 : arg19.IsWhole) (arg20 : Memref sig .tc .vmem S8x1792 .f32) (harg20 : arg20.IsWhole) (arg21 : Memref sig .tc .vmem S128x128 .f32) (harg21 : arg21.IsWhole) (arg22 : Memref sig .tc .vmem S128x128 .f32) (harg22 : arg22.IsWhole) (hc0 : cond0_0 i)
    (x0 : Vec Ideal S8 .f32) (x1 : Vec Ideal S512x1024 .f32) (x2 : Vec Ideal S1x1024 .f32) (x3 : Vec Ideal S1024x2560 .bf16) (x4 : Vec Ideal S1x1792 .f32) (x5 : Vec Ideal S1x512 .f32) (x6 : Vec Ideal S64x512 .bf16) (x7 : Vec Ideal S1x512 .f32) (x8 : Vec Ideal S64x512 .bf16) (x9 : Vec Ideal S128x512 .bf16) (x10 : Vec Ideal S1x512 .f32) (x11 : Vec Ideal S1x512 .f32) (x12 : Vec Ideal S1x512 .f32) (x13 : Vec Ideal S128x128 .bf16) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.2.1 = piecesV (arg2.view.read (Elt Ideal) (harg2.unread x1)) (arg3.view.read (Elt Ideal) (harg3.unread x2)) (arg4.view.read (Elt Ideal) (harg4.unread x3)) := by
  sl_kernel_rfl

/-- The values after a sequence's first step. -/
theorem outAV (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S128x128 .bf16) (harg14 : arg14.IsWhole) (arg15 : Memref sig .tc .vmem S512x512 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x3072 .f32) (harg18 : arg18.IsWhole) (arg19 : Memref sig .tc .vmem S512x1024 .f32) (harg19 : arg19.IsWhole) (arg20 : Memref sig .tc .vmem S8x1792 .f32) (harg20 : arg20.IsWhole) (arg21 : Memref sig .tc .vmem S128x128 .f32) (harg21 : arg21.IsWhole) (arg22 : Memref sig .tc .vmem S128x128 .f32) (harg22 : arg22.IsWhole) (hc0 : cond0_0 i)
    (x0 : Vec Ideal S8 .f32) (x1 : Vec Ideal S512x1024 .f32) (x2 : Vec Ideal S1x1024 .f32) (x3 : Vec Ideal S1024x2560 .bf16) (x4 : Vec Ideal S1x1792 .f32) (x5 : Vec Ideal S1x512 .f32) (x6 : Vec Ideal S64x512 .bf16) (x7 : Vec Ideal S1x512 .f32) (x8 : Vec Ideal S64x512 .bf16) (x9 : Vec Ideal S128x512 .bf16) (x10 : Vec Ideal S1x512 .f32) (x11 : Vec Ideal S1x512 .f32) (x12 : Vec Ideal S1x512 .f32) (x13 : Vec Ideal S128x128 .bf16) (y : S512x128.Idx) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y
      = blkCols 640 (by omega) x1 x2 x3 (y (0 : Fin 2)) (y (1 : Fin 2)) := by
  have hc := cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 y
  unfold out0_A_16
  rw [View.read_writes_junk_eq_canon]
  rw [runAV] at hc ⊢
  simp only [Memref.IsWhole.read_unread] at hc ⊢
  exact canonV x1 x2 x3 y hc

/-- What a later step stores of the keys. -/
theorem runBK (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S128x128 .bf16) (harg14 : arg14.IsWhole) (arg15 : Memref sig .tc .vmem S512x512 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x3072 .f32) (harg18 : arg18.IsWhole) (arg19 : Memref sig .tc .vmem S512x1024 .f32) (harg19 : arg19.IsWhole) (arg20 : Memref sig .tc .vmem S8x1792 .f32) (harg20 : arg20.IsWhole) (arg21 : Memref sig .tc .vmem S128x128 .f32) (harg21 : arg21.IsWhole) (arg22 : Memref sig .tc .vmem S128x128 .f32) (harg22 : arg22.IsWhole) (hc0 : ¬cond0_0 i)
    (x0 : Vec Ideal S8 .f32) (x1 : Vec Ideal S512x1024 .f32) (x2 : Vec Ideal S1x1024 .f32) (x3 : Vec Ideal S1024x2560 .bf16) (x4 : Vec Ideal S1x1792 .f32) (x5 : Vec Ideal S1x512 .f32) (x6 : Vec Ideal S64x512 .bf16) (x7 : Vec Ideal S1x512 .f32) (x8 : Vec Ideal S64x512 .bf16) (x9 : Vec Ideal S128x512 .bf16) (x10 : Vec Ideal S1x512 .f32) (x11 : Vec Ideal S1x512 .f32) (x12 : Vec Ideal S1x512 .f32) (x13 : Vec Ideal S128x128 .bf16) (xs0 : Vec Ideal S8x1792 .f32) (xs1 : Vec Ideal S128x128 .f32) (xs2 : Vec Ideal S128x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2).2.1 = piecesK (arg2.view.read (Elt Ideal) (harg2.unread x1)) (arg3.view.read (Elt Ideal) (harg3.unread x2)) (arg4.view.read (Elt Ideal) (harg4.unread x3)) := by
  sl_kernel_rfl

/-- The keys after a later step. -/
theorem outBK (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S128x128 .bf16) (harg14 : arg14.IsWhole) (arg15 : Memref sig .tc .vmem S512x512 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x3072 .f32) (harg18 : arg18.IsWhole) (arg19 : Memref sig .tc .vmem S512x1024 .f32) (harg19 : arg19.IsWhole) (arg20 : Memref sig .tc .vmem S8x1792 .f32) (harg20 : arg20.IsWhole) (arg21 : Memref sig .tc .vmem S128x128 .f32) (harg21 : arg21.IsWhole) (arg22 : Memref sig .tc .vmem S128x128 .f32) (harg22 : arg22.IsWhole) (hc0 : ¬cond0_0 i)
    (x0 : Vec Ideal S8 .f32) (x1 : Vec Ideal S512x1024 .f32) (x2 : Vec Ideal S1x1024 .f32) (x3 : Vec Ideal S1024x2560 .bf16) (x4 : Vec Ideal S1x1792 .f32) (x5 : Vec Ideal S1x512 .f32) (x6 : Vec Ideal S64x512 .bf16) (x7 : Vec Ideal S1x512 .f32) (x8 : Vec Ideal S64x512 .bf16) (x9 : Vec Ideal S128x512 .bf16) (x10 : Vec Ideal S1x512 .f32) (x11 : Vec Ideal S1x512 .f32) (x12 : Vec Ideal S1x512 .f32) (x13 : Vec Ideal S128x128 .bf16) (xs0 : Vec Ideal S8x1792 .f32) (xs1 : Vec Ideal S128x128 .f32) (xs2 : Vec Ideal S128x128 .f32) (y : S512x128.Idx) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 y
      = blkCols 512 (by omega) x1 x2 x3 (y (0 : Fin 2)) (y (1 : Fin 2)) := by
  have hc := cover0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 y
  unfold out0_B_15
  rw [View.read_writes_junk_eq_canon]
  rw [runBK] at hc ⊢
  simp only [Memref.IsWhole.read_unread] at hc ⊢
  exact canonK x1 x2 x3 y hc

/-- What a later step stores of the values. -/
theorem runBV (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S128x128 .bf16) (harg14 : arg14.IsWhole) (arg15 : Memref sig .tc .vmem S512x512 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x3072 .f32) (harg18 : arg18.IsWhole) (arg19 : Memref sig .tc .vmem S512x1024 .f32) (harg19 : arg19.IsWhole) (arg20 : Memref sig .tc .vmem S8x1792 .f32) (harg20 : arg20.IsWhole) (arg21 : Memref sig .tc .vmem S128x128 .f32) (harg21 : arg21.IsWhole) (arg22 : Memref sig .tc .vmem S128x128 .f32) (harg22 : arg22.IsWhole) (hc0 : ¬cond0_0 i)
    (x0 : Vec Ideal S8 .f32) (x1 : Vec Ideal S512x1024 .f32) (x2 : Vec Ideal S1x1024 .f32) (x3 : Vec Ideal S1024x2560 .bf16) (x4 : Vec Ideal S1x1792 .f32) (x5 : Vec Ideal S1x512 .f32) (x6 : Vec Ideal S64x512 .bf16) (x7 : Vec Ideal S1x512 .f32) (x8 : Vec Ideal S64x512 .bf16) (x9 : Vec Ideal S128x512 .bf16) (x10 : Vec Ideal S1x512 .f32) (x11 : Vec Ideal S1x512 .f32) (x12 : Vec Ideal S1x512 .f32) (x13 : Vec Ideal S128x128 .bf16) (xs0 : Vec Ideal S8x1792 .f32) (xs1 : Vec Ideal S128x128 .f32) (xs2 : Vec Ideal S128x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2).2.2.1 = piecesV (arg2.view.read (Elt Ideal) (harg2.unread x1)) (arg3.view.read (Elt Ideal) (harg3.unread x2)) (arg4.view.read (Elt Ideal) (harg4.unread x3)) := by
  sl_kernel_rfl

/-- The values after a later step. -/
theorem outBV (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1x1792 .f32) (harg5 : arg5.IsWhole) (arg6 : Memref sig .tc .vmem S1x512 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x512 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S128x128 .bf16) (harg14 : arg14.IsWhole) (arg15 : Memref sig .tc .vmem S512x512 .bf16) (harg15 : arg15.IsWhole) (arg16 : Memref sig .tc .vmem S512x128 .f32) (harg16 : arg16.IsWhole) (arg17 : Memref sig .tc .vmem S512x128 .f32) (harg17 : arg17.IsWhole) (arg18 : Memref sig .tc .vmem S512x3072 .f32) (harg18 : arg18.IsWhole) (arg19 : Memref sig .tc .vmem S512x1024 .f32) (harg19 : arg19.IsWhole) (arg20 : Memref sig .tc .vmem S8x1792 .f32) (harg20 : arg20.IsWhole) (arg21 : Memref sig .tc .vmem S128x128 .f32) (harg21 : arg21.IsWhole) (arg22 : Memref sig .tc .vmem S128x128 .f32) (harg22 : arg22.IsWhole) (hc0 : ¬cond0_0 i)
    (x0 : Vec Ideal S8 .f32) (x1 : Vec Ideal S512x1024 .f32) (x2 : Vec Ideal S1x1024 .f32) (x3 : Vec Ideal S1024x2560 .bf16) (x4 : Vec Ideal S1x1792 .f32) (x5 : Vec Ideal S1x512 .f32) (x6 : Vec Ideal S64x512 .bf16) (x7 : Vec Ideal S1x512 .f32) (x8 : Vec Ideal S64x512 .bf16) (x9 : Vec Ideal S128x512 .bf16) (x10 : Vec Ideal S1x512 .f32) (x11 : Vec Ideal S1x512 .f32) (x12 : Vec Ideal S1x512 .f32) (x13 : Vec Ideal S128x128 .bf16) (xs0 : Vec Ideal S8x1792 .f32) (xs1 : Vec Ideal S128x128 .f32) (xs2 : Vec Ideal S128x128 .f32) (y : S512x128.Idx) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 y
      = blkCols 640 (by omega) x1 x2 x3 (y (0 : Fin 2)) (y (1 : Fin 2)) := by
  have hc := cover0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 xs0 xs1 xs2 y
  unfold out0_B_16
  rw [View.read_writes_junk_eq_canon]
  rw [runBV] at hc ⊢
  simp only [Memref.IsWhole.read_unread] at hc ⊢
  exact canonV x1 x2 x3 y hc

end Cert.Kv

end
-- ==== Proof.Kv.lean ====
/-
  The prompt's keys and values, whole: the claim that the call's two results are the reference's.
-/
module

public import proofs.«01_k».proof.Defs
public import proofs.«01_k».proof.Proof.KvRef
public import proofs.«01_k».proof.Proof.KvRun
public import proofs.«01_k».proof.Proof.Gen.Kernel7Ideal.Value
public import proofs.«01_k».proof.Proof.Gen.Reference7Ideal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Kv

open Idealize.ShloMosaic Idealize.ShloMosaic.TcCoe Idealize.SL.Sem Cert.Kernel7Ideal Cert.Kernel7Ideal.Gen Cert.Post

variable (m : (ℓ : Loc nD τ sig) → Buf (Elt Ideal) ℓ)

/-- Where the blocks of the rows, the weights, the matrix, the keys and the values lie at a grid point. -/
theorem idx : ∀ t : Fin cfg0.N, win0_1.index t = ![t.val, 0] ∧ win0_2.index t = ![0, 0] ∧ win0_3.index t = ![0, 0]
    ∧ win0_15.index t = ![t.val, 0] ∧ win0_16.index t = ![t.val, 0] :=
  (by decide +kernel : ∀ t : Fin grid0.N, _)

/-- There are 32 grid points. -/
theorem lt32 (t : Fin cfg0.N) : t.val < 32 := t.isLt

/-- The rows' block at a grid point, read in its array. -/
theorem blk1 (c : Dev nD) (t : Fin cfg0.N) (i : Fin 512) (k : Fin 1024) :
    iblk m c 1 t (ix2 i k) = V m c main_v30 (ix2 ⟨512 * t.val + i.val, by have := lt32 t; omega⟩ k) := by
  have := lt32 t
  unfold iblk
  blk_ext [idx t]

/-- The weights' block at a grid point, read in its array. -/
theorem blk2 (c : Dev nD) (t : Fin cfg0.N) (i : Fin 1) (k : Fin 1024) : iblk m c 2 t (ix2 i k) = V m c main_v31 (ix2 i k) := by
  unfold iblk
  blk_ext [idx t]

/-- The matrix's block at a grid point, read in its array. -/
theorem blk3 (c : Dev nD) (t : Fin cfg0.N) (i : Fin 1024) (k : Fin 2560) : iblk m c 3 t (ix2 i k) = V m c main_v4 (ix2 i k) := by
  unfold iblk
  blk_ext [idx t]

/-- The rows, read in the arguments. -/
theorem ent30 (c : Dev nD) (n : Fin 16384) (k : Fin 1024) : V m c main_v30 (ix2 n k) =
    m ((c : Thread nD τ).loc main_arg0) (ix3 ⟨n.val / 8192, by omega⟩ ⟨n.val % 8192, by omega⟩ k) := by
  unfold V
  after_reads_at

/-- The weights, read in the arguments. -/
theorem ent31 (c : Dev nD) (k : Fin 1024) : V m c main_v31 (ix2 0 k) = m ((c : Thread nD τ).loc main_arg1) (ix2 0 k) := by
  unfold V
  after_reads_at

/-- The input matrix, read in the arguments. -/
theorem ent4 (c : Dev nD) (i : Fin 1024) (k : Fin 2560) : V m c main_v4 (ix2 i k) = m ((c : Thread nD τ).loc main_arg2) (ix3 0 i k) := by
  unfold V
  after_reads_at

/-- A step's columns are the projection's. -/
theorem cols_eq (o : ℕ) (ho : o + 128 ≤ 2560) (c : Dev nD) (t : Fin cfg0.N) (r : Fin 512) (j : Fin 128) :
    blkCols o ho (iblk m c 1 t) (iblk m c 2 t) (iblk m c 3 t) r j
      = cols o ho (m ((c : Thread nD τ).loc main_arg0)) (m ((c : Thread nD τ).loc main_arg1)) (m ((c : Thread nD τ).loc main_arg2))
          ⟨512 * t.val + r.val, by have := lt32 t; omega⟩ j := by
  have ht := lt32 t
  have e0 : (fun d : Fin 1024 => iblk m c 1 t (ix2 r d)) = _ := funext fun d => (blk1 m c t r d).trans (ent30 m c ⟨512 * t.val + r.val, by omega⟩ d)
  have e1 : (fun d : Fin 1024 => iblk m c 2 t (ix2 0 d)) = _ := funext fun d => (blk2 m c t 0 d).trans (ent31 m c d)
  have e2 : (fun d : Fin 1024 => iblk m c 3 t (ix2 d ⟨o + j.val, by omega⟩)) = _ := funext fun d => (blk3 m c t d _).trans (ent4 m c d _)
  unfold blkCols cols
  rw [e0, e1, e2]
  rfl

/-- The keys' block after a grid point. -/
theorem afterK (c : Dev nD) (t : Fin cfg0.N) (y : S512x128.Idx) : (outsAt0 m c t.val t.isLt).2.1 y
    = blkCols 512 (by omega) (iblk m c 1 t) (iblk m c 2 t) (iblk m c 3 t) (y (0 : Fin 2)) (y (1 : Fin 2)) := by
  by_cases h0 : t.val % 16 = 0
  · refine (congrFun (congrArg (fun p => p.2.1) (outsAt0_A m c t h0)) y).trans ?_
    exact outAK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
  · refine (congrFun (congrArg (fun p => p.2.1) (outsAt0_B m c t h0)) y).trans ?_
    exact outBK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 y

/-- **The keys' array.** -/
theorem resultK (c : Dev nD) : (dats m 0 c).arrAt 15 cfg0.N = fun y =>
    cols 512 (by omega) (m ((c : Thread nD τ).loc main_arg0)) (m ((c : Thread nD τ).loc main_arg1)) (m ((c : Thread nD τ).loc main_arg2)) (y 0) (y 1) := by
  refine (dats m 0 c).arrAt_eq_of_covers 15 _ (by decide +kernel) fun t hf y => ?_
  blk_simp
  rw [after0_15]
  change S512x128.Idx at y
  idx_vars y
  have ht := lt32 t
  have e : (win0_15.blk t).view.emb (ix2 y0 y1) = ix2 ⟨512 * t.val + y0.val, by omega⟩ y1 := by
    blk_ext [idx t]
  exact ((afterK m c t (ix2 y0 y1)).trans (cols_eq m 512 (by omega) c t y0 y1)).trans (by rw [e]; rfl)

/-- The values' block after a grid point. -/
theorem afterV (c : Dev nD) (t : Fin cfg0.N) (y : S512x128.Idx) : (outsAt0 m c t.val t.isLt).2.2.1 y
    = blkCols 640 (by omega) (iblk m c 1 t) (iblk m c 2 t) (iblk m c 3 t) (y (0 : Fin 2)) (y (1 : Fin 2)) := by
  by_cases h0 : t.val % 16 = 0
  · refine (congrFun (congrArg (fun p => p.2.2.1) (outsAt0_A m c t h0)) y).trans ?_
    exact outAV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
  · refine (congrFun (congrArg (fun p => p.2.2.1) (outsAt0_B m c t h0)) y).trans ?_
    exact outBV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 y

/-- **The values' array.** -/
theorem resultV (c : Dev nD) : (dats m 0 c).arrAt 16 cfg0.N = fun y =>
    cols 640 (by omega) (m ((c : Thread nD τ).loc main_arg0)) (m ((c : Thread nD τ).loc main_arg1)) (m ((c : Thread nD τ).loc main_arg2)) (y 0) (y 1) := by
  refine (dats m 0 c).arrAt_eq_of_covers 16 _ (by decide +kernel) fun t hf y => ?_
  blk_simp
  rw [after0_16]
  change S512x128.Idx at y
  idx_vars y
  have ht := lt32 t
  have e : (win0_16.blk t).view.emb (ix2 y0 y1) = ix2 ⟨512 * t.val + y0.val, by omega⟩ y1 := by
    blk_ext [idx t]
  exact ((afterV m c t (ix2 y0 y1)).trans (cols_eq m 640 (by omega) c t y0 y1)).trans (by rw [e]; rfl)

/-- **The claim**: over the extended reals the call's keys and values are the reference's. -/
theorem algebraic : Cert.algebraic_Kernel7Ideal_Reference7Ideal := by
  pair_intro
  · run_from Cert.Kernel7Ideal.Value.run_blocks m g
  · run_from Cert.Reference7Ideal.Value.run m' g'
    · refine Eq.trans ?_ (resultK m c).symm
      rw [Cert.Reference7Ideal.Read.val_main_v17_eq]
      funext y
      change Cert.Reference7Ideal.S16384x128.Idx at y
      idx_vars y
      exact ref17 _ _ _ y0 y1
    · refine Eq.trans ?_ (resultV m c).symm
      rw [Cert.Reference7Ideal.Read.val_main_v18_eq]
      funext y
      change Cert.Reference7Ideal.S16384x128.Idx at y
      idx_vars y
      exact ref18 _ _ _ y0 y1

end Cert.Kv

end
-- ==== Proof.lean ====
/-
  The certificate's claims, collected. The kernels' frames are the generated frames; the references' are read off their
  own text; the value claims are proved in the modules under `Proof/`.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Read
public import proofs.«01_k».proof.Proof.Gen.Reference7Ideal.Run
public import proofs.«01_k».proof.Proof.Gen.Kernel5Ideal.Value
public import proofs.«01_k».proof.Proof.Gen.Kernel6Ideal.Value
public import proofs.«01_k».proof.Proof.Gen.Reference5Ideal.Read
public import proofs.«01_k».proof.Proof.Gen.Reference6Ideal.Read
public import proofs.«01_k».proof.Proof.Gen.Reference5Ideal.Run
public import proofs.«01_k».proof.Proof.Gen.Reference6Ideal.Run
public import proofs.«01_k».proof.Proof.Gen.Pre_finite5
public import proofs.«01_k».proof.Proof.Gen.Pre_finite2
public import proofs.«01_k».proof.Proof.Frames
public import proofs.«01_k».proof.Proof.Gen.Pre_finite
public import proofs.«01_k».proof.Proof.AttnClaim
public import proofs.«01_k».proof.Proof.PostClaim
public import proofs.«01_k».proof.Proof.Rows3
public import proofs.«01_k».proof.Proof.Rows4
public import proofs.«01_k».proof.Proof.PostClaim5
public import proofs.«01_k».proof.Proof.Proj
public import proofs.«01_k».proof.Proof.Kv
public import Idealize.ShloMosaic.Lib.Claim

@[expose] public section

noncomputable section

namespace Cert.Proof

open Idealize.ShloMosaic Idealize.SL.Sem

/-- Everything this certificate claims. -/
theorem claim : Cert.Claim := ⟨Cert.Kernel.Gen.facts, Cert.KernelIdeal.Gen.facts, Cert.ReferenceIdeal.Gen.facts,
  Cert.Reference.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite2.Gen.facts, Cert.Pre_finite5.Gen.facts,
  fun m ρ _ => Cert.Kernel.Gen.frame m ρ,
  fun m ρ _ => Cert.KernelIdeal.Gen.frame m ρ,
  fun m ρ _ => Cert.KernelIdeal.Gen.frame m ρ,
  frameRI,
  fun m ρ _ => frameRI m ρ trivial,
  frameR,
  fun m ρ _ => Cert.Kernel2.Gen.frame m ρ,
  fun m ρ _ => Cert.Kernel2Ideal.Gen.frame m ρ,
  fun m ρ _ => Cert.Kernel2Ideal.Gen.frame m ρ,
  frameRI2,
  fun m ρ _ => frameRI2 m ρ trivial,
  fun m ρ _ => Cert.Kernel3.Gen.frame m ρ,
  fun m ρ _ => Cert.Kernel3Ideal.Gen.frame m ρ,
  frameRI3,
  fun m ρ _ => Cert.Kernel4.Gen.frame m ρ,
  fun m ρ _ => Cert.Kernel4Ideal.Gen.frame m ρ,
  frameRI4,
  fun m ρ _ => Cert.Kernel5.Gen.frame m ρ,
  fun m ρ _ => Cert.Kernel5Ideal.Gen.frame m ρ,
  fun m ρ _ => Cert.Kernel5Ideal.Gen.frame m ρ,
  frameRI5,
  fun m ρ _ => frameRI5 m ρ trivial,
  fun m ρ _ => Cert.Kernel6.Gen.frame m ρ,
  fun m ρ _ => Cert.Kernel6Ideal.Gen.frame m ρ,
  frameRI6,
  fun m ρ _ => Cert.Kernel7.Gen.frame m ρ,
  fun m ρ _ => Cert.Kernel7Ideal.Gen.frame m ρ,
  frameRI7,
  IdealRules.named_const.statement Cert.KernelIdeal.κ "mask" .f32 0xF149F2CA#32 ⊥ rfl,
  trivial,
  Cert.Attn.algebraic,
  trivial,
  Cert.Post.algebraic,
  trivial,
  Cert.Rows3.algebraic,
  trivial,
  Cert.Rows4.algebraic,
  trivial,
  Cert.Post5.algebraic,
  trivial,
  Cert.Proj.algebraic,
  trivial,
  Cert.Kv.algebraic⟩

end Cert.Proof

end
